-- ==== Defs.lean ====
def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_finite_bias [hPre_finite_bias : Cert.Pre_finite_bias.Facts] (m : (ℓ : Loc Cert.CmpIdeal.nD Cert.CmpIdeal.τ Cert.CmpIdeal.sig) → Buf (Elt Ideal) ℓ) : Prop :=
  ∀ c : Dev Cert.CmpIdeal.nD,
    (Cert.Pre_finite_bias.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3))) = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_finite_bias [hPre_finite_bias : Cert.Pre_finite_bias.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_finite_bias.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Zh (m : (ℓ : Loc Cert.Zh.nD Cert.Zh.τ Cert.Zh.sig) → Buf (Elt Bits) ℓ) : Prop :=
  True

def Pre_ZhIdeal (m : (ℓ : Loc Cert.ZhIdeal.nD Cert.ZhIdeal.τ Cert.ZhIdeal.sig) → Buf (Elt Ideal) ℓ) : Prop :=
  True

def Pre_ZhRefIdeal (m : (ℓ : Loc Cert.ZhRefIdeal.nD Cert.ZhRefIdeal.τ Cert.ZhRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gab (m : (ℓ : Loc Cert.Gab.nD Cert.Gab.τ Cert.Gab.sig) → Buf (Elt Bits) ℓ) : Prop :=
  True

def Pre_GabIdeal (m : (ℓ : Loc Cert.GabIdeal.nD Cert.GabIdeal.τ Cert.GabIdeal.sig) → Buf (Elt Ideal) ℓ) : Prop :=
  True

def Pre_GabRefIdeal (m : (ℓ : Loc Cert.GabRefIdeal.nD Cert.GabRefIdeal.τ Cert.GabRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_Kc (m : (ℓ : Loc Cert.Kc.nD Cert.Kc.τ Cert.Kc.sig) → Buf (Elt Bits) ℓ) : Prop :=
  True

def Pre_KcIdeal (m : (ℓ : Loc Cert.KcIdeal.nD Cert.KcIdeal.τ Cert.KcIdeal.sig) → Buf (Elt Ideal) ℓ) : Prop :=
  True

def Pre_KcRefIdeal (m : (ℓ : Loc Cert.KcRefIdeal.nD Cert.KcRefIdeal.τ Cert.KcRefIdeal.sig) → Buf (Elt Ideal) ℓ) : Prop :=
  True

def Pre_Vc (m : (ℓ : Loc Cert.Vc.nD Cert.Vc.τ Cert.Vc.sig) → Buf (Elt Bits) ℓ) : Prop :=
  True

def Pre_VcIdeal (m : (ℓ : Loc Cert.VcIdeal.nD Cert.VcIdeal.τ Cert.VcIdeal.sig) → Buf (Elt Ideal) ℓ) : Prop :=
  True

def Pre_VcRefIdeal (m : (ℓ : Loc Cert.VcRefIdeal.nD Cert.VcRefIdeal.τ Cert.VcRefIdeal.sig) → Buf (Elt Ideal) ℓ) : Prop :=
  True

def Pre_Ks (m : (ℓ : Loc Cert.Ks.nD Cert.Ks.τ Cert.Ks.sig) → Buf (Elt Bits) ℓ) : Prop :=
  True

def Pre_KsIdeal (m : (ℓ : Loc Cert.KsIdeal.nD Cert.KsIdeal.τ Cert.KsIdeal.sig) → Buf (Elt Ideal) ℓ) : Prop :=
  True

def Pre_KsRefIdeal (m : (ℓ : Loc Cert.KsRefIdeal.nD Cert.KsRefIdeal.τ Cert.KsRefIdeal.sig) → Buf (Elt Ideal) ℓ) : Prop :=
  True

def Pre_Vs (m : (ℓ : Loc Cert.Vs.nD Cert.Vs.τ Cert.Vs.sig) → Buf (Elt Bits) ℓ) : Prop :=
  True

def Pre_VsIdeal (m : (ℓ : Loc Cert.VsIdeal.nD Cert.VsIdeal.τ Cert.VsIdeal.sig) → Buf (Elt Ideal) ℓ) : Prop :=
  True

def Pre_VsRefIdeal (m : (ℓ : Loc Cert.VsRefIdeal.nD Cert.VsRefIdeal.τ Cert.VsRefIdeal.sig) → Buf (Elt Ideal) ℓ) : Prop :=
  True

def Pre_Kw (m : (ℓ : Loc Cert.Kw.nD Cert.Kw.τ Cert.Kw.sig) → Buf (Elt Bits) ℓ) : Prop :=
  True

def Pre_KwIdeal (m : (ℓ : Loc Cert.KwIdeal.nD Cert.KwIdeal.τ Cert.KwIdeal.sig) → Buf (Elt Ideal) ℓ) : Prop :=
  True

def Pre_KwRefIdeal (m : (ℓ : Loc Cert.KwRefIdeal.nD Cert.KwRefIdeal.τ Cert.KwRefIdeal.sig) → Buf (Elt Ideal) ℓ) : Prop :=
  True

def Pre_Vw (m : (ℓ : Loc Cert.Vw.nD Cert.Vw.τ Cert.Vw.sig) → Buf (Elt Bits) ℓ) : Prop :=
  True

def Pre_VwIdeal (m : (ℓ : Loc Cert.VwIdeal.nD Cert.VwIdeal.τ Cert.VwIdeal.sig) → Buf (Elt Ideal) ℓ) : Prop :=
  True

def Pre_VwRefIdeal (m : (ℓ : Loc Cert.VwRefIdeal.nD Cert.VwRefIdeal.τ Cert.VwRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_DownS (m : (ℓ : Loc Cert.DownS.nD Cert.DownS.τ Cert.DownS.sig) → Buf (Elt Bits) ℓ) : Prop :=
  True

def Pre_DownSIdeal (m : (ℓ : Loc Cert.DownSIdeal.nD Cert.DownSIdeal.τ Cert.DownSIdeal.sig) → Buf (Elt Ideal) ℓ) : Prop :=
  True

def Pre_DownSRefIdeal (m : (ℓ : Loc Cert.DownSRefIdeal.nD Cert.DownSRefIdeal.τ Cert.DownSRefIdeal.sig) → Buf (Elt Ideal) ℓ) : Prop :=
  True

def Pre_KcS (m : (ℓ : Loc Cert.KcS.nD Cert.KcS.τ Cert.KcS.sig) → Buf (Elt Bits) ℓ) : Prop :=
  True

def Pre_KcSIdeal (m : (ℓ : Loc Cert.KcSIdeal.nD Cert.KcSIdeal.τ Cert.KcSIdeal.sig) → Buf (Elt Ideal) ℓ) : Prop :=
  True

def Pre_KcSRefIdeal (m : (ℓ : Loc Cert.KcSRefIdeal.nD Cert.KcSRefIdeal.τ Cert.KcSRefIdeal.sig) → Buf (Elt Ideal) ℓ) : Prop :=
  True

def Pre_VcS (m : (ℓ : Loc Cert.VcS.nD Cert.VcS.τ Cert.VcS.sig) → Buf (Elt Bits) ℓ) : Prop :=
  True

def Pre_VcSIdeal (m : (ℓ : Loc Cert.VcSIdeal.nD Cert.VcSIdeal.τ Cert.VcSIdeal.sig) → Buf (Elt Ideal) ℓ) : Prop :=
  True

def Pre_VcSRefIdeal (m : (ℓ : Loc Cert.VcSRefIdeal.nD Cert.VcSRefIdeal.τ Cert.VcSRefIdeal.sig) → Buf (Elt Ideal) ℓ) : Prop :=
  True

def Pre_VsS (m : (ℓ : Loc Cert.VsS.nD Cert.VsS.τ Cert.VsS.sig) → Buf (Elt Bits) ℓ) : Prop :=
  True

def Pre_VsSIdeal (m : (ℓ : Loc Cert.VsSIdeal.nD Cert.VsSIdeal.τ Cert.VsSIdeal.sig) → Buf (Elt Ideal) ℓ) : Prop :=
  True

def Pre_VsSRefIdeal (m : (ℓ : Loc Cert.VsSRefIdeal.nD Cert.VsSRefIdeal.τ Cert.VsSRefIdeal.sig) → Buf (Elt Ideal) ℓ) : Prop :=
  True

def Pre_KsS (m : (ℓ : Loc Cert.KsS.nD Cert.KsS.τ Cert.KsS.sig) → Buf (Elt Bits) ℓ) : Prop :=
  True

def Pre_KsSIdeal (m : (ℓ : Loc Cert.KsSIdeal.nD Cert.KsSIdeal.τ Cert.KsSIdeal.sig) → Buf (Elt Ideal) ℓ) : Prop :=
  True

def Pre_KsSRefIdeal (m : (ℓ : Loc Cert.KsSRefIdeal.nD Cert.KsSRefIdeal.τ Cert.KsSRefIdeal.sig) → Buf (Elt Ideal) ℓ) : Prop :=
  True

def Pre_CompV (m : (ℓ : Loc Cert.CompV.nD Cert.CompV.τ Cert.CompV.sig) → Buf (Elt Bits) ℓ) : Prop :=
  True

def Pre_CompVIdeal (m : (ℓ : Loc Cert.CompVIdeal.nD Cert.CompVIdeal.τ Cert.CompVIdeal.sig) → Buf (Elt Ideal) ℓ) : Prop :=
  True

def Pre_CompVRefIdeal (m : (ℓ : Loc Cert.CompVRefIdeal.nD Cert.CompVRefIdeal.τ Cert.CompVRefIdeal.sig) → Buf (Elt Ideal) ℓ) : Prop :=
  True

def Pre_CompK (m : (ℓ : Loc Cert.CompK.nD Cert.CompK.τ Cert.CompK.sig) → Buf (Elt Bits) ℓ) : Prop :=
  True

def Pre_CompKIdeal (m : (ℓ : Loc Cert.CompKIdeal.nD Cert.CompKIdeal.τ Cert.CompKIdeal.sig) → Buf (Elt Ideal) ℓ) : Prop :=
  True

def Pre_CompKRefIdeal (m : (ℓ : Loc Cert.CompKRefIdeal.nD Cert.CompKRefIdeal.τ Cert.CompKRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_HgS (m : (ℓ : Loc Cert.HgS.nD Cert.HgS.τ Cert.HgS.sig) → Buf (Elt Bits) ℓ) : Prop :=
  True

def Pre_HgSIdeal (m : (ℓ : Loc Cert.HgSIdeal.nD Cert.HgSIdeal.τ Cert.HgSIdeal.sig) → Buf (Elt Ideal) ℓ) : Prop :=
  True

def Pre_HgSRefIdeal (m : (ℓ : Loc Cert.HgSRefIdeal.nD Cert.HgSRefIdeal.τ Cert.HgSRefIdeal.sig) → Buf (Elt Ideal) ℓ) : Prop :=
  True

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpIdeal_pre_finite_bias [hCmpIdeal : Cert.CmpIdeal.Facts] [hPre_finite_bias : Cert.Pre_finite_bias.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_finite_bias m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def quiescent_CmpRefIdeal_pre_finite_bias [hCmpRefIdeal : Cert.CmpRefIdeal.Facts] [hPre_finite_bias : Cert.Pre_finite_bias.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_finite_bias m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1))
      ∧ r.2.sem = fun _ => 0)

def quiescent_Zh [hZh : Cert.Zh.Facts] : Prop :=
  ∀ (m : (ℓ : Loc Cert.Zh.nD Cert.Zh.τ Cert.Zh.sig) → Buf (Elt Bits) ℓ) (g : Dev Cert.Zh.nD → PrngReg), Pre_Zh m →
    θ_run (Cert.Zh.defs (F := Bits)) (onTc (τ := Cert.Zh.τ) (Cert.Zh.main (F := Bits))) ⟨m, fun _ => 0, g⟩ (fun r => (∀ c : Dev Cert.Zh.nD,
      r.2.mem ((c.tc : Thread Cert.Zh.nD Cert.Zh.τ).loc Cert.Zh.main_arg0) = m ((c.tc : Thread Cert.Zh.nD Cert.Zh.τ).loc Cert.Zh.main_arg0)
      ∧ r.2.mem ((c.tc : Thread Cert.Zh.nD Cert.Zh.τ).loc Cert.Zh.main_arg1) = m ((c.tc : Thread Cert.Zh.nD Cert.Zh.τ).loc Cert.Zh.main_arg1))
      ∧ r.2.sem = fun _ => 0)

def quiescent_ZhIdeal [hZhIdeal : Cert.ZhIdeal.Facts] : Prop :=
  ∀ (m : (ℓ : Loc Cert.ZhIdeal.nD Cert.ZhIdeal.τ Cert.ZhIdeal.sig) → Buf (Elt Ideal) ℓ) (g : Dev Cert.ZhIdeal.nD → PrngReg), Pre_ZhIdeal m →
    θ_run (Cert.ZhIdeal.defs (F := Ideal)) (onTc (τ := Cert.ZhIdeal.τ) (Cert.ZhIdeal.main (F := Ideal))) ⟨m, fun _ => 0, g⟩ (fun r => (∀ c : Dev Cert.ZhIdeal.nD,
      r.2.mem ((c.tc : Thread Cert.ZhIdeal.nD Cert.ZhIdeal.τ).loc Cert.ZhIdeal.main_arg0) = m ((c.tc : Thread Cert.ZhIdeal.nD Cert.ZhIdeal.τ).loc Cert.ZhIdeal.main_arg0)
      ∧ r.2.mem ((c.tc : Thread Cert.ZhIdeal.nD Cert.ZhIdeal.τ).loc Cert.ZhIdeal.main_arg1) = m ((c.tc : Thread Cert.ZhIdeal.nD Cert.ZhIdeal.τ).loc Cert.ZhIdeal.main_arg1))
      ∧ r.2.sem = fun _ => 0)

def quiescent_ZhRefIdeal [hZhRefIdeal : Cert.ZhRefIdeal.Facts] : Prop :=
  ∀ (m : (ℓ : Loc Cert.ZhRefIdeal.nD Cert.ZhRefIdeal.τ Cert.ZhRefIdeal.sig) → Buf (Elt Ideal) ℓ) (g : Dev Cert.ZhRefIdeal.nD → PrngReg), Pre_ZhRefIdeal m →
    θ_run (Cert.ZhRefIdeal.defs (F := Ideal)) (onTc (τ := Cert.ZhRefIdeal.τ) (Cert.ZhRefIdeal.main (F := Ideal))) ⟨m, fun _ => 0, g⟩ (fun r => (∀ c : Dev Cert.ZhRefIdeal.nD,
      r.2.mem ((c.tc : Thread Cert.ZhRefIdeal.nD Cert.ZhRefIdeal.τ).loc Cert.ZhRefIdeal.main_arg0) = m ((c.tc : Thread Cert.ZhRefIdeal.nD Cert.ZhRefIdeal.τ).loc Cert.ZhRefIdeal.main_arg0)
      ∧ r.2.mem ((c.tc : Thread Cert.ZhRefIdeal.nD Cert.ZhRefIdeal.τ).loc Cert.ZhRefIdeal.main_arg1) = m ((c.tc : Thread Cert.ZhRefIdeal.nD Cert.ZhRefIdeal.τ).loc Cert.ZhRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Gab [hGab : Cert.Gab.Facts] : Prop :=
  ∀ (m : (ℓ : Loc Cert.Gab.nD Cert.Gab.τ Cert.Gab.sig) → Buf (Elt Bits) ℓ) (g : Dev Cert.Gab.nD → PrngReg), Pre_Gab m →
    θ_run (Cert.Gab.defs (F := Bits)) (onTc (τ := Cert.Gab.τ) (Cert.Gab.main (F := Bits))) ⟨m, fun _ => 0, g⟩ (fun r => (∀ c : Dev Cert.Gab.nD,
      r.2.mem ((c.tc : Thread Cert.Gab.nD Cert.Gab.τ).loc Cert.Gab.main_arg0) = m ((c.tc : Thread Cert.Gab.nD Cert.Gab.τ).loc Cert.Gab.main_arg0)
      ∧ r.2.mem ((c.tc : Thread Cert.Gab.nD Cert.Gab.τ).loc Cert.Gab.main_arg1) = m ((c.tc : Thread Cert.Gab.nD Cert.Gab.τ).loc Cert.Gab.main_arg1))
      ∧ r.2.sem = fun _ => 0)

def quiescent_GabIdeal [hGabIdeal : Cert.GabIdeal.Facts] : Prop :=
  ∀ (m : (ℓ : Loc Cert.GabIdeal.nD Cert.GabIdeal.τ Cert.GabIdeal.sig) → Buf (Elt Ideal) ℓ) (g : Dev Cert.GabIdeal.nD → PrngReg), Pre_GabIdeal m →
    θ_run (Cert.GabIdeal.defs (F := Ideal)) (onTc (τ := Cert.GabIdeal.τ) (Cert.GabIdeal.main (F := Ideal))) ⟨m, fun _ => 0, g⟩ (fun r => (∀ c : Dev Cert.GabIdeal.nD,
      r.2.mem ((c.tc : Thread Cert.GabIdeal.nD Cert.GabIdeal.τ).loc Cert.GabIdeal.main_arg0) = m ((c.tc : Thread Cert.GabIdeal.nD Cert.GabIdeal.τ).loc Cert.GabIdeal.main_arg0)
      ∧ r.2.mem ((c.tc : Thread Cert.GabIdeal.nD Cert.GabIdeal.τ).loc Cert.GabIdeal.main_arg1) = m ((c.tc : Thread Cert.GabIdeal.nD Cert.GabIdeal.τ).loc Cert.GabIdeal.main_arg1))
      ∧ r.2.sem = fun _ => 0)

def quiescent_GabRefIdeal [hGabRefIdeal : Cert.GabRefIdeal.Facts] : Prop :=
  ∀ (m : (ℓ : Loc Cert.GabRefIdeal.nD Cert.GabRefIdeal.τ Cert.GabRefIdeal.sig) → Buf (Elt Ideal) ℓ) (g : Dev Cert.GabRefIdeal.nD → PrngReg), Pre_GabRefIdeal m →
    θ_run (Cert.GabRefIdeal.defs (F := Ideal)) (onTc (τ := Cert.GabRefIdeal.τ) (Cert.GabRefIdeal.main (F := Ideal))) ⟨m, fun _ => 0, g⟩ (fun r => (∀ c : Dev Cert.GabRefIdeal.nD,
      r.2.mem ((c.tc : Thread Cert.GabRefIdeal.nD Cert.GabRefIdeal.τ).loc Cert.GabRefIdeal.main_arg0) = m ((c.tc : Thread Cert.GabRefIdeal.nD Cert.GabRefIdeal.τ).loc Cert.GabRefIdeal.main_arg0)
      ∧ r.2.mem ((c.tc : Thread Cert.GabRefIdeal.nD Cert.GabRefIdeal.τ).loc Cert.GabRefIdeal.main_arg1) = m ((c.tc : Thread Cert.GabRefIdeal.nD Cert.GabRefIdeal.τ).loc Cert.GabRefIdeal.main_arg1))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2))
      ∧ r.2.sem = fun _ => 0)

def quiescent_Kc [hKc : Cert.Kc.Facts] : Prop :=
  ∀ (m : (ℓ : Loc Cert.Kc.nD Cert.Kc.τ Cert.Kc.sig) → Buf (Elt Bits) ℓ) (g : Dev Cert.Kc.nD → PrngReg), Pre_Kc m →
    θ_run (Cert.Kc.defs (F := Bits)) (onTc (τ := Cert.Kc.τ) (Cert.Kc.main (F := Bits))) ⟨m, fun _ => 0, g⟩ (fun r => (∀ c : Dev Cert.Kc.nD,
      r.2.mem ((c.tc : Thread Cert.Kc.nD Cert.Kc.τ).loc Cert.Kc.main_arg0) = m ((c.tc : Thread Cert.Kc.nD Cert.Kc.τ).loc Cert.Kc.main_arg0)
      ∧ r.2.mem ((c.tc : Thread Cert.Kc.nD Cert.Kc.τ).loc Cert.Kc.main_arg1) = m ((c.tc : Thread Cert.Kc.nD Cert.Kc.τ).loc Cert.Kc.main_arg1))
      ∧ r.2.sem = fun _ => 0)

def quiescent_KcIdeal [hKcIdeal : Cert.KcIdeal.Facts] : Prop :=
  ∀ (m : (ℓ : Loc Cert.KcIdeal.nD Cert.KcIdeal.τ Cert.KcIdeal.sig) → Buf (Elt Ideal) ℓ) (g : Dev Cert.KcIdeal.nD → PrngReg), Pre_KcIdeal m →
    θ_run (Cert.KcIdeal.defs (F := Ideal)) (onTc (τ := Cert.KcIdeal.τ) (Cert.KcIdeal.main (F := Ideal))) ⟨m, fun _ => 0, g⟩ (fun r => (∀ c : Dev Cert.KcIdeal.nD,
      r.2.mem ((c.tc : Thread Cert.KcIdeal.nD Cert.KcIdeal.τ).loc Cert.KcIdeal.main_arg0) = m ((c.tc : Thread Cert.KcIdeal.nD Cert.KcIdeal.τ).loc Cert.KcIdeal.main_arg0)
      ∧ r.2.mem ((c.tc : Thread Cert.KcIdeal.nD Cert.KcIdeal.τ).loc Cert.KcIdeal.main_arg1) = m ((c.tc : Thread Cert.KcIdeal.nD Cert.KcIdeal.τ).loc Cert.KcIdeal.main_arg1))
      ∧ r.2.sem = fun _ => 0)

def quiescent_KcRefIdeal [hKcRefIdeal : Cert.KcRefIdeal.Facts] : Prop :=
  ∀ (m : (ℓ : Loc Cert.KcRefIdeal.nD Cert.KcRefIdeal.τ Cert.KcRefIdeal.sig) → Buf (Elt Ideal) ℓ) (g : Dev Cert.KcRefIdeal.nD → PrngReg), Pre_KcRefIdeal m →
    θ_run (Cert.KcRefIdeal.defs (F := Ideal)) (onTc (τ := Cert.KcRefIdeal.τ) (Cert.KcRefIdeal.main (F := Ideal))) ⟨m, fun _ => 0, g⟩ (fun r => (∀ c : Dev Cert.KcRefIdeal.nD,
      r.2.mem ((c.tc : Thread Cert.KcRefIdeal.nD Cert.KcRefIdeal.τ).loc Cert.KcRefIdeal.main_arg0) = m ((c.tc : Thread Cert.KcRefIdeal.nD Cert.KcRefIdeal.τ).loc Cert.KcRefIdeal.main_arg0)
      ∧ r.2.mem ((c.tc : Thread Cert.KcRefIdeal.nD Cert.KcRefIdeal.τ).loc Cert.KcRefIdeal.main_arg1) = m ((c.tc : Thread Cert.KcRefIdeal.nD Cert.KcRefIdeal.τ).loc Cert.KcRefIdeal.main_arg1))
      ∧ r.2.sem = fun _ => 0)

def quiescent_Vc [hVc : Cert.Vc.Facts] : Prop :=
  ∀ (m : (ℓ : Loc Cert.Vc.nD Cert.Vc.τ Cert.Vc.sig) → Buf (Elt Bits) ℓ) (g : Dev Cert.Vc.nD → PrngReg), Pre_Vc m →
    θ_run (Cert.Vc.defs (F := Bits)) (onTc (τ := Cert.Vc.τ) (Cert.Vc.main (F := Bits))) ⟨m, fun _ => 0, g⟩ (fun r => (∀ c : Dev Cert.Vc.nD,
      r.2.mem ((c.tc : Thread Cert.Vc.nD Cert.Vc.τ).loc Cert.Vc.main_arg0) = m ((c.tc : Thread Cert.Vc.nD Cert.Vc.τ).loc Cert.Vc.main_arg0)
      ∧ r.2.mem ((c.tc : Thread Cert.Vc.nD Cert.Vc.τ).loc Cert.Vc.main_arg1) = m ((c.tc : Thread Cert.Vc.nD Cert.Vc.τ).loc Cert.Vc.main_arg1))
      ∧ r.2.sem = fun _ => 0)

def quiescent_VcIdeal [hVcIdeal : Cert.VcIdeal.Facts] : Prop :=
  ∀ (m : (ℓ : Loc Cert.VcIdeal.nD Cert.VcIdeal.τ Cert.VcIdeal.sig) → Buf (Elt Ideal) ℓ) (g : Dev Cert.VcIdeal.nD → PrngReg), Pre_VcIdeal m →
    θ_run (Cert.VcIdeal.defs (F := Ideal)) (onTc (τ := Cert.VcIdeal.τ) (Cert.VcIdeal.main (F := Ideal))) ⟨m, fun _ => 0, g⟩ (fun r => (∀ c : Dev Cert.VcIdeal.nD,
      r.2.mem ((c.tc : Thread Cert.VcIdeal.nD Cert.VcIdeal.τ).loc Cert.VcIdeal.main_arg0) = m ((c.tc : Thread Cert.VcIdeal.nD Cert.VcIdeal.τ).loc Cert.VcIdeal.main_arg0)
      ∧ r.2.mem ((c.tc : Thread Cert.VcIdeal.nD Cert.VcIdeal.τ).loc Cert.VcIdeal.main_arg1) = m ((c.tc : Thread Cert.VcIdeal.nD Cert.VcIdeal.τ).loc Cert.VcIdeal.main_arg1))
      ∧ r.2.sem = fun _ => 0)

def quiescent_VcRefIdeal [hVcRefIdeal : Cert.VcRefIdeal.Facts] : Prop :=
  ∀ (m : (ℓ : Loc Cert.VcRefIdeal.nD Cert.VcRefIdeal.τ Cert.VcRefIdeal.sig) → Buf (Elt Ideal) ℓ) (g : Dev Cert.VcRefIdeal.nD → PrngReg), Pre_VcRefIdeal m →
    θ_run (Cert.VcRefIdeal.defs (F := Ideal)) (onTc (τ := Cert.VcRefIdeal.τ) (Cert.VcRefIdeal.main (F := Ideal))) ⟨m, fun _ => 0, g⟩ (fun r => (∀ c : Dev Cert.VcRefIdeal.nD,
      r.2.mem ((c.tc : Thread Cert.VcRefIdeal.nD Cert.VcRefIdeal.τ).loc Cert.VcRefIdeal.main_arg0) = m ((c.tc : Thread Cert.VcRefIdeal.nD Cert.VcRefIdeal.τ).loc Cert.VcRefIdeal.main_arg0)
      ∧ r.2.mem ((c.tc : Thread Cert.VcRefIdeal.nD Cert.VcRefIdeal.τ).loc Cert.VcRefIdeal.main_arg1) = m ((c.tc : Thread Cert.VcRefIdeal.nD Cert.VcRefIdeal.τ).loc Cert.VcRefIdeal.main_arg1))
      ∧ r.2.sem = fun _ => 0)

def quiescent_Ks [hKs : Cert.Ks.Facts] : Prop :=
  ∀ (m : (ℓ : Loc Cert.Ks.nD Cert.Ks.τ Cert.Ks.sig) → Buf (Elt Bits) ℓ) (g : Dev Cert.Ks.nD → PrngReg), Pre_Ks m →
    θ_run (Cert.Ks.defs (F := Bits)) (onTc (τ := Cert.Ks.τ) (Cert.Ks.main (F := Bits))) ⟨m, fun _ => 0, g⟩ (fun r => (∀ c : Dev Cert.Ks.nD,
      r.2.mem ((c.tc : Thread Cert.Ks.nD Cert.Ks.τ).loc Cert.Ks.main_arg0) = m ((c.tc : Thread Cert.Ks.nD Cert.Ks.τ).loc Cert.Ks.main_arg0)
      ∧ r.2.mem ((c.tc : Thread Cert.Ks.nD Cert.Ks.τ).loc Cert.Ks.main_arg1) = m ((c.tc : Thread Cert.Ks.nD Cert.Ks.τ).loc Cert.Ks.main_arg1)
      ∧ r.2.mem ((c.tc : Thread Cert.Ks.nD Cert.Ks.τ).loc Cert.Ks.main_arg2) = m ((c.tc : Thread Cert.Ks.nD Cert.Ks.τ).loc Cert.Ks.main_arg2))
      ∧ r.2.sem = fun _ => 0)

def quiescent_KsIdeal [hKsIdeal : Cert.KsIdeal.Facts] : Prop :=
  ∀ (m : (ℓ : Loc Cert.KsIdeal.nD Cert.KsIdeal.τ Cert.KsIdeal.sig) → Buf (Elt Ideal) ℓ) (g : Dev Cert.KsIdeal.nD → PrngReg), Pre_KsIdeal m →
    θ_run (Cert.KsIdeal.defs (F := Ideal)) (onTc (τ := Cert.KsIdeal.τ) (Cert.KsIdeal.main (F := Ideal))) ⟨m, fun _ => 0, g⟩ (fun r => (∀ c : Dev Cert.KsIdeal.nD,
      r.2.mem ((c.tc : Thread Cert.KsIdeal.nD Cert.KsIdeal.τ).loc Cert.KsIdeal.main_arg0) = m ((c.tc : Thread Cert.KsIdeal.nD Cert.KsIdeal.τ).loc Cert.KsIdeal.main_arg0)
      ∧ r.2.mem ((c.tc : Thread Cert.KsIdeal.nD Cert.KsIdeal.τ).loc Cert.KsIdeal.main_arg1) = m ((c.tc : Thread Cert.KsIdeal.nD Cert.KsIdeal.τ).loc Cert.KsIdeal.main_arg1)
      ∧ r.2.mem ((c.tc : Thread Cert.KsIdeal.nD Cert.KsIdeal.τ).loc Cert.KsIdeal.main_arg2) = m ((c.tc : Thread Cert.KsIdeal.nD Cert.KsIdeal.τ).loc Cert.KsIdeal.main_arg2))
      ∧ r.2.sem = fun _ => 0)

def quiescent_KsRefIdeal [hKsRefIdeal : Cert.KsRefIdeal.Facts] : Prop :=
  ∀ (m : (ℓ : Loc Cert.KsRefIdeal.nD Cert.KsRefIdeal.τ Cert.KsRefIdeal.sig) → Buf (Elt Ideal) ℓ) (g : Dev Cert.KsRefIdeal.nD → PrngReg), Pre_KsRefIdeal m →
    θ_run (Cert.KsRefIdeal.defs (F := Ideal)) (onTc (τ := Cert.KsRefIdeal.τ) (Cert.KsRefIdeal.main (F := Ideal))) ⟨m, fun _ => 0, g⟩ (fun r => (∀ c : Dev Cert.KsRefIdeal.nD,
      r.2.mem ((c.tc : Thread Cert.KsRefIdeal.nD Cert.KsRefIdeal.τ).loc Cert.KsRefIdeal.main_arg0) = m ((c.tc : Thread Cert.KsRefIdeal.nD Cert.KsRefIdeal.τ).loc Cert.KsRefIdeal.main_arg0)
      ∧ r.2.mem ((c.tc : Thread Cert.KsRefIdeal.nD Cert.KsRefIdeal.τ).loc Cert.KsRefIdeal.main_arg1) = m ((c.tc : Thread Cert.KsRefIdeal.nD Cert.KsRefIdeal.τ).loc Cert.KsRefIdeal.main_arg1)
      ∧ r.2.mem ((c.tc : Thread Cert.KsRefIdeal.nD Cert.KsRefIdeal.τ).loc Cert.KsRefIdeal.main_arg2) = m ((c.tc : Thread Cert.KsRefIdeal.nD Cert.KsRefIdeal.τ).loc Cert.KsRefIdeal.main_arg2))
      ∧ r.2.sem = fun _ => 0)

def quiescent_Vs [hVs : Cert.Vs.Facts] : Prop :=
  ∀ (m : (ℓ : Loc Cert.Vs.nD Cert.Vs.τ Cert.Vs.sig) → Buf (Elt Bits) ℓ) (g : Dev Cert.Vs.nD → PrngReg), Pre_Vs m →
    θ_run (Cert.Vs.defs (F := Bits)) (onTc (τ := Cert.Vs.τ) (Cert.Vs.main (F := Bits))) ⟨m, fun _ => 0, g⟩ (fun r => (∀ c : Dev Cert.Vs.nD,
      r.2.mem ((c.tc : Thread Cert.Vs.nD Cert.Vs.τ).loc Cert.Vs.main_arg0) = m ((c.tc : Thread Cert.Vs.nD Cert.Vs.τ).loc Cert.Vs.main_arg0)
      ∧ r.2.mem ((c.tc : Thread Cert.Vs.nD Cert.Vs.τ).loc Cert.Vs.main_arg1) = m ((c.tc : Thread Cert.Vs.nD Cert.Vs.τ).loc Cert.Vs.main_arg1))
      ∧ r.2.sem = fun _ => 0)

def quiescent_VsIdeal [hVsIdeal : Cert.VsIdeal.Facts] : Prop :=
  ∀ (m : (ℓ : Loc Cert.VsIdeal.nD Cert.VsIdeal.τ Cert.VsIdeal.sig) → Buf (Elt Ideal) ℓ) (g : Dev Cert.VsIdeal.nD → PrngReg), Pre_VsIdeal m →
    θ_run (Cert.VsIdeal.defs (F := Ideal)) (onTc (τ := Cert.VsIdeal.τ) (Cert.VsIdeal.main (F := Ideal))) ⟨m, fun _ => 0, g⟩ (fun r => (∀ c : Dev Cert.VsIdeal.nD,
      r.2.mem ((c.tc : Thread Cert.VsIdeal.nD Cert.VsIdeal.τ).loc Cert.VsIdeal.main_arg0) = m ((c.tc : Thread Cert.VsIdeal.nD Cert.VsIdeal.τ).loc Cert.VsIdeal.main_arg0)
      ∧ r.2.mem ((c.tc : Thread Cert.VsIdeal.nD Cert.VsIdeal.τ).loc Cert.VsIdeal.main_arg1) = m ((c.tc : Thread Cert.VsIdeal.nD Cert.VsIdeal.τ).loc Cert.VsIdeal.main_arg1))
      ∧ r.2.sem = fun _ => 0)

def quiescent_VsRefIdeal [hVsRefIdeal : Cert.VsRefIdeal.Facts] : Prop :=
  ∀ (m : (ℓ : Loc Cert.VsRefIdeal.nD Cert.VsRefIdeal.τ Cert.VsRefIdeal.sig) → Buf (Elt Ideal) ℓ) (g : Dev Cert.VsRefIdeal.nD → PrngReg), Pre_VsRefIdeal m →
    θ_run (Cert.VsRefIdeal.defs (F := Ideal)) (onTc (τ := Cert.VsRefIdeal.τ) (Cert.VsRefIdeal.main (F := Ideal))) ⟨m, fun _ => 0, g⟩ (fun r => (∀ c : Dev Cert.VsRefIdeal.nD,
      r.2.mem ((c.tc : Thread Cert.VsRefIdeal.nD Cert.VsRefIdeal.τ).loc Cert.VsRefIdeal.main_arg0) = m ((c.tc : Thread Cert.VsRefIdeal.nD Cert.VsRefIdeal.τ).loc Cert.VsRefIdeal.main_arg0)
      ∧ r.2.mem ((c.tc : Thread Cert.VsRefIdeal.nD Cert.VsRefIdeal.τ).loc Cert.VsRefIdeal.main_arg1) = m ((c.tc : Thread Cert.VsRefIdeal.nD Cert.VsRefIdeal.τ).loc Cert.VsRefIdeal.main_arg1))
      ∧ r.2.sem = fun _ => 0)

def quiescent_Kw [hKw : Cert.Kw.Facts] : Prop :=
  ∀ (m : (ℓ : Loc Cert.Kw.nD Cert.Kw.τ Cert.Kw.sig) → Buf (Elt Bits) ℓ) (g : Dev Cert.Kw.nD → PrngReg), Pre_Kw m →
    θ_run (Cert.Kw.defs (F := Bits)) (onTc (τ := Cert.Kw.τ) (Cert.Kw.main (F := Bits))) ⟨m, fun _ => 0, g⟩ (fun r => (∀ c : Dev Cert.Kw.nD,
      r.2.mem ((c.tc : Thread Cert.Kw.nD Cert.Kw.τ).loc Cert.Kw.main_arg0) = m ((c.tc : Thread Cert.Kw.nD Cert.Kw.τ).loc Cert.Kw.main_arg0)
      ∧ r.2.mem ((c.tc : Thread Cert.Kw.nD Cert.Kw.τ).loc Cert.Kw.main_arg1) = m ((c.tc : Thread Cert.Kw.nD Cert.Kw.τ).loc Cert.Kw.main_arg1)
      ∧ r.2.mem ((c.tc : Thread Cert.Kw.nD Cert.Kw.τ).loc Cert.Kw.main_arg2) = m ((c.tc : Thread Cert.Kw.nD Cert.Kw.τ).loc Cert.Kw.main_arg2))
      ∧ r.2.sem = fun _ => 0)

def quiescent_KwIdeal [hKwIdeal : Cert.KwIdeal.Facts] : Prop :=
  ∀ (m : (ℓ : Loc Cert.KwIdeal.nD Cert.KwIdeal.τ Cert.KwIdeal.sig) → Buf (Elt Ideal) ℓ) (g : Dev Cert.KwIdeal.nD → PrngReg), Pre_KwIdeal m →
    θ_run (Cert.KwIdeal.defs (F := Ideal)) (onTc (τ := Cert.KwIdeal.τ) (Cert.KwIdeal.main (F := Ideal))) ⟨m, fun _ => 0, g⟩ (fun r => (∀ c : Dev Cert.KwIdeal.nD,
      r.2.mem ((c.tc : Thread Cert.KwIdeal.nD Cert.KwIdeal.τ).loc Cert.KwIdeal.main_arg0) = m ((c.tc : Thread Cert.KwIdeal.nD Cert.KwIdeal.τ).loc Cert.KwIdeal.main_arg0)
      ∧ r.2.mem ((c.tc : Thread Cert.KwIdeal.nD Cert.KwIdeal.τ).loc Cert.KwIdeal.main_arg1) = m ((c.tc : Thread Cert.KwIdeal.nD Cert.KwIdeal.τ).loc Cert.KwIdeal.main_arg1)
      ∧ r.2.mem ((c.tc : Thread Cert.KwIdeal.nD Cert.KwIdeal.τ).loc Cert.KwIdeal.main_arg2) = m ((c.tc : Thread Cert.KwIdeal.nD Cert.KwIdeal.τ).loc Cert.KwIdeal.main_arg2))
      ∧ r.2.sem = fun _ => 0)

def quiescent_KwRefIdeal [hKwRefIdeal : Cert.KwRefIdeal.Facts] : Prop :=
  ∀ (m : (ℓ : Loc Cert.KwRefIdeal.nD Cert.KwRefIdeal.τ Cert.KwRefIdeal.sig) → Buf (Elt Ideal) ℓ) (g : Dev Cert.KwRefIdeal.nD → PrngReg), Pre_KwRefIdeal m →
    θ_run (Cert.KwRefIdeal.defs (F := Ideal)) (onTc (τ := Cert.KwRefIdeal.τ) (Cert.KwRefIdeal.main (F := Ideal))) ⟨m, fun _ => 0, g⟩ (fun r => (∀ c : Dev Cert.KwRefIdeal.nD,
      r.2.mem ((c.tc : Thread Cert.KwRefIdeal.nD Cert.KwRefIdeal.τ).loc Cert.KwRefIdeal.main_arg0) = m ((c.tc : Thread Cert.KwRefIdeal.nD Cert.KwRefIdeal.τ).loc Cert.KwRefIdeal.main_arg0)
      ∧ r.2.mem ((c.tc : Thread Cert.KwRefIdeal.nD Cert.KwRefIdeal.τ).loc Cert.KwRefIdeal.main_arg1) = m ((c.tc : Thread Cert.KwRefIdeal.nD Cert.KwRefIdeal.τ).loc Cert.KwRefIdeal.main_arg1)
      ∧ r.2.mem ((c.tc : Thread Cert.KwRefIdeal.nD Cert.KwRefIdeal.τ).loc Cert.KwRefIdeal.main_arg2) = m ((c.tc : Thread Cert.KwRefIdeal.nD Cert.KwRefIdeal.τ).loc Cert.KwRefIdeal.main_arg2))
      ∧ r.2.sem = fun _ => 0)

def quiescent_Vw [hVw : Cert.Vw.Facts] : Prop :=
  ∀ (m : (ℓ : Loc Cert.Vw.nD Cert.Vw.τ Cert.Vw.sig) → Buf (Elt Bits) ℓ) (g : Dev Cert.Vw.nD → PrngReg), Pre_Vw m →
    θ_run (Cert.Vw.defs (F := Bits)) (onTc (τ := Cert.Vw.τ) (Cert.Vw.main (F := Bits))) ⟨m, fun _ => 0, g⟩ (fun r => (∀ c : Dev Cert.Vw.nD,
      r.2.mem ((c.tc : Thread Cert.Vw.nD Cert.Vw.τ).loc Cert.Vw.main_arg0) = m ((c.tc : Thread Cert.Vw.nD Cert.Vw.τ).loc Cert.Vw.main_arg0)
      ∧ r.2.mem ((c.tc : Thread Cert.Vw.nD Cert.Vw.τ).loc Cert.Vw.main_arg1) = m ((c.tc : Thread Cert.Vw.nD Cert.Vw.τ).loc Cert.Vw.main_arg1))
      ∧ r.2.sem = fun _ => 0)

def quiescent_VwIdeal [hVwIdeal : Cert.VwIdeal.Facts] : Prop :=
  ∀ (m : (ℓ : Loc Cert.VwIdeal.nD Cert.VwIdeal.τ Cert.VwIdeal.sig) → Buf (Elt Ideal) ℓ) (g : Dev Cert.VwIdeal.nD → PrngReg), Pre_VwIdeal m →
    θ_run (Cert.VwIdeal.defs (F := Ideal)) (onTc (τ := Cert.VwIdeal.τ) (Cert.VwIdeal.main (F := Ideal))) ⟨m, fun _ => 0, g⟩ (fun r => (∀ c : Dev Cert.VwIdeal.nD,
      r.2.mem ((c.tc : Thread Cert.VwIdeal.nD Cert.VwIdeal.τ).loc Cert.VwIdeal.main_arg0) = m ((c.tc : Thread Cert.VwIdeal.nD Cert.VwIdeal.τ).loc Cert.VwIdeal.main_arg0)
      ∧ r.2.mem ((c.tc : Thread Cert.VwIdeal.nD Cert.VwIdeal.τ).loc Cert.VwIdeal.main_arg1) = m ((c.tc : Thread Cert.VwIdeal.nD Cert.VwIdeal.τ).loc Cert.VwIdeal.main_arg1))
      ∧ r.2.sem = fun _ => 0)

def quiescent_VwRefIdeal [hVwRefIdeal : Cert.VwRefIdeal.Facts] : Prop :=
  ∀ (m : (ℓ : Loc Cert.VwRefIdeal.nD Cert.VwRefIdeal.τ Cert.VwRefIdeal.sig) → Buf (Elt Ideal) ℓ) (g : Dev Cert.VwRefIdeal.nD → PrngReg), Pre_VwRefIdeal m →
    θ_run (Cert.VwRefIdeal.defs (F := Ideal)) (onTc (τ := Cert.VwRefIdeal.τ) (Cert.VwRefIdeal.main (F := Ideal))) ⟨m, fun _ => 0, g⟩ (fun r => (∀ c : Dev Cert.VwRefIdeal.nD,
      r.2.mem ((c.tc : Thread Cert.VwRefIdeal.nD Cert.VwRefIdeal.τ).loc Cert.VwRefIdeal.main_arg0) = m ((c.tc : Thread Cert.VwRefIdeal.nD Cert.VwRefIdeal.τ).loc Cert.VwRefIdeal.main_arg0)
      ∧ r.2.mem ((c.tc : Thread Cert.VwRefIdeal.nD Cert.VwRefIdeal.τ).loc Cert.VwRefIdeal.main_arg1) = m ((c.tc : Thread Cert.VwRefIdeal.nD Cert.VwRefIdeal.τ).loc Cert.VwRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_DownS [hDownS : Cert.DownS.Facts] : Prop :=
  ∀ (m : (ℓ : Loc Cert.DownS.nD Cert.DownS.τ Cert.DownS.sig) → Buf (Elt Bits) ℓ) (g : Dev Cert.DownS.nD → PrngReg), Pre_DownS m →
    θ_run (Cert.DownS.defs (F := Bits)) (onTc (τ := Cert.DownS.τ) (Cert.DownS.main (F := Bits))) ⟨m, fun _ => 0, g⟩ (fun r => (∀ c : Dev Cert.DownS.nD,
      r.2.mem ((c.tc : Thread Cert.DownS.nD Cert.DownS.τ).loc Cert.DownS.main_arg0) = m ((c.tc : Thread Cert.DownS.nD Cert.DownS.τ).loc Cert.DownS.main_arg0)
      ∧ r.2.mem ((c.tc : Thread Cert.DownS.nD Cert.DownS.τ).loc Cert.DownS.main_arg1) = m ((c.tc : Thread Cert.DownS.nD Cert.DownS.τ).loc Cert.DownS.main_arg1)
      ∧ r.2.mem ((c.tc : Thread Cert.DownS.nD Cert.DownS.τ).loc Cert.DownS.main_arg2) = m ((c.tc : Thread Cert.DownS.nD Cert.DownS.τ).loc Cert.DownS.main_arg2)
      ∧ r.2.mem ((c.tc : Thread Cert.DownS.nD Cert.DownS.τ).loc Cert.DownS.main_arg3) = m ((c.tc : Thread Cert.DownS.nD Cert.DownS.τ).loc Cert.DownS.main_arg3))
      ∧ r.2.sem = fun _ => 0)

def quiescent_DownSIdeal [hDownSIdeal : Cert.DownSIdeal.Facts] : Prop :=
  ∀ (m : (ℓ : Loc Cert.DownSIdeal.nD Cert.DownSIdeal.τ Cert.DownSIdeal.sig) → Buf (Elt Ideal) ℓ) (g : Dev Cert.DownSIdeal.nD → PrngReg), Pre_DownSIdeal m →
    θ_run (Cert.DownSIdeal.defs (F := Ideal)) (onTc (τ := Cert.DownSIdeal.τ) (Cert.DownSIdeal.main (F := Ideal))) ⟨m, fun _ => 0, g⟩ (fun r => (∀ c : Dev Cert.DownSIdeal.nD,
      r.2.mem ((c.tc : Thread Cert.DownSIdeal.nD Cert.DownSIdeal.τ).loc Cert.DownSIdeal.main_arg0) = m ((c.tc : Thread Cert.DownSIdeal.nD Cert.DownSIdeal.τ).loc Cert.DownSIdeal.main_arg0)
      ∧ r.2.mem ((c.tc : Thread Cert.DownSIdeal.nD Cert.DownSIdeal.τ).loc Cert.DownSIdeal.main_arg1) = m ((c.tc : Thread Cert.DownSIdeal.nD Cert.DownSIdeal.τ).loc Cert.DownSIdeal.main_arg1)
      ∧ r.2.mem ((c.tc : Thread Cert.DownSIdeal.nD Cert.DownSIdeal.τ).loc Cert.DownSIdeal.main_arg2) = m ((c.tc : Thread Cert.DownSIdeal.nD Cert.DownSIdeal.τ).loc Cert.DownSIdeal.main_arg2)
      ∧ r.2.mem ((c.tc : Thread Cert.DownSIdeal.nD Cert.DownSIdeal.τ).loc Cert.DownSIdeal.main_arg3) = m ((c.tc : Thread Cert.DownSIdeal.nD Cert.DownSIdeal.τ).loc Cert.DownSIdeal.main_arg3))
      ∧ r.2.sem = fun _ => 0)

def quiescent_DownSRefIdeal [hDownSRefIdeal : Cert.DownSRefIdeal.Facts] : Prop :=
  ∀ (m : (ℓ : Loc Cert.DownSRefIdeal.nD Cert.DownSRefIdeal.τ Cert.DownSRefIdeal.sig) → Buf (Elt Ideal) ℓ) (g : Dev Cert.DownSRefIdeal.nD → PrngReg), Pre_DownSRefIdeal m →
    θ_run (Cert.DownSRefIdeal.defs (F := Ideal)) (onTc (τ := Cert.DownSRefIdeal.τ) (Cert.DownSRefIdeal.main (F := Ideal))) ⟨m, fun _ => 0, g⟩ (fun r => (∀ c : Dev Cert.DownSRefIdeal.nD,
      r.2.mem ((c.tc : Thread Cert.DownSRefIdeal.nD Cert.DownSRefIdeal.τ).loc Cert.DownSRefIdeal.main_arg0) = m ((c.tc : Thread Cert.DownSRefIdeal.nD Cert.DownSRefIdeal.τ).loc Cert.DownSRefIdeal.main_arg0)
      ∧ r.2.mem ((c.tc : Thread Cert.DownSRefIdeal.nD Cert.DownSRefIdeal.τ).loc Cert.DownSRefIdeal.main_arg1) = m ((c.tc : Thread Cert.DownSRefIdeal.nD Cert.DownSRefIdeal.τ).loc Cert.DownSRefIdeal.main_arg1)
      ∧ r.2.mem ((c.tc : Thread Cert.DownSRefIdeal.nD Cert.DownSRefIdeal.τ).loc Cert.DownSRefIdeal.main_arg2) = m ((c.tc : Thread Cert.DownSRefIdeal.nD Cert.DownSRefIdeal.τ).loc Cert.DownSRefIdeal.main_arg2)
      ∧ r.2.mem ((c.tc : Thread Cert.DownSRefIdeal.nD Cert.DownSRefIdeal.τ).loc Cert.DownSRefIdeal.main_arg3) = m ((c.tc : Thread Cert.DownSRefIdeal.nD Cert.DownSRefIdeal.τ).loc Cert.DownSRefIdeal.main_arg3))
      ∧ r.2.sem = fun _ => 0)

def quiescent_KcS [hKcS : Cert.KcS.Facts] : Prop :=
  ∀ (m : (ℓ : Loc Cert.KcS.nD Cert.KcS.τ Cert.KcS.sig) → Buf (Elt Bits) ℓ) (g : Dev Cert.KcS.nD → PrngReg), Pre_KcS m →
    θ_run (Cert.KcS.defs (F := Bits)) (onTc (τ := Cert.KcS.τ) (Cert.KcS.main (F := Bits))) ⟨m, fun _ => 0, g⟩ (fun r => (∀ c : Dev Cert.KcS.nD,
      r.2.mem ((c.tc : Thread Cert.KcS.nD Cert.KcS.τ).loc Cert.KcS.main_arg0) = m ((c.tc : Thread Cert.KcS.nD Cert.KcS.τ).loc Cert.KcS.main_arg0)
      ∧ r.2.mem ((c.tc : Thread Cert.KcS.nD Cert.KcS.τ).loc Cert.KcS.main_arg1) = m ((c.tc : Thread Cert.KcS.nD Cert.KcS.τ).loc Cert.KcS.main_arg1))
      ∧ r.2.sem = fun _ => 0)

def quiescent_KcSIdeal [hKcSIdeal : Cert.KcSIdeal.Facts] : Prop :=
  ∀ (m : (ℓ : Loc Cert.KcSIdeal.nD Cert.KcSIdeal.τ Cert.KcSIdeal.sig) → Buf (Elt Ideal) ℓ) (g : Dev Cert.KcSIdeal.nD → PrngReg), Pre_KcSIdeal m →
    θ_run (Cert.KcSIdeal.defs (F := Ideal)) (onTc (τ := Cert.KcSIdeal.τ) (Cert.KcSIdeal.main (F := Ideal))) ⟨m, fun _ => 0, g⟩ (fun r => (∀ c : Dev Cert.KcSIdeal.nD,
      r.2.mem ((c.tc : Thread Cert.KcSIdeal.nD Cert.KcSIdeal.τ).loc Cert.KcSIdeal.main_arg0) = m ((c.tc : Thread Cert.KcSIdeal.nD Cert.KcSIdeal.τ).loc Cert.KcSIdeal.main_arg0)
      ∧ r.2.mem ((c.tc : Thread Cert.KcSIdeal.nD Cert.KcSIdeal.τ).loc Cert.KcSIdeal.main_arg1) = m ((c.tc : Thread Cert.KcSIdeal.nD Cert.KcSIdeal.τ).loc Cert.KcSIdeal.main_arg1))
      ∧ r.2.sem = fun _ => 0)

def quiescent_KcSRefIdeal [hKcSRefIdeal : Cert.KcSRefIdeal.Facts] : Prop :=
  ∀ (m : (ℓ : Loc Cert.KcSRefIdeal.nD Cert.KcSRefIdeal.τ Cert.KcSRefIdeal.sig) → Buf (Elt Ideal) ℓ) (g : Dev Cert.KcSRefIdeal.nD → PrngReg), Pre_KcSRefIdeal m →
    θ_run (Cert.KcSRefIdeal.defs (F := Ideal)) (onTc (τ := Cert.KcSRefIdeal.τ) (Cert.KcSRefIdeal.main (F := Ideal))) ⟨m, fun _ => 0, g⟩ (fun r => (∀ c : Dev Cert.KcSRefIdeal.nD,
      r.2.mem ((c.tc : Thread Cert.KcSRefIdeal.nD Cert.KcSRefIdeal.τ).loc Cert.KcSRefIdeal.main_arg0) = m ((c.tc : Thread Cert.KcSRefIdeal.nD Cert.KcSRefIdeal.τ).loc Cert.KcSRefIdeal.main_arg0)
      ∧ r.2.mem ((c.tc : Thread Cert.KcSRefIdeal.nD Cert.KcSRefIdeal.τ).loc Cert.KcSRefIdeal.main_arg1) = m ((c.tc : Thread Cert.KcSRefIdeal.nD Cert.KcSRefIdeal.τ).loc Cert.KcSRefIdeal.main_arg1))
      ∧ r.2.sem = fun _ => 0)

def quiescent_VcS [hVcS : Cert.VcS.Facts] : Prop :=
  ∀ (m : (ℓ : Loc Cert.VcS.nD Cert.VcS.τ Cert.VcS.sig) → Buf (Elt Bits) ℓ) (g : Dev Cert.VcS.nD → PrngReg), Pre_VcS m →
    θ_run (Cert.VcS.defs (F := Bits)) (onTc (τ := Cert.VcS.τ) (Cert.VcS.main (F := Bits))) ⟨m, fun _ => 0, g⟩ (fun r => (∀ c : Dev Cert.VcS.nD,
      r.2.mem ((c.tc : Thread Cert.VcS.nD Cert.VcS.τ).loc Cert.VcS.main_arg0) = m ((c.tc : Thread Cert.VcS.nD Cert.VcS.τ).loc Cert.VcS.main_arg0)
      ∧ r.2.mem ((c.tc : Thread Cert.VcS.nD Cert.VcS.τ).loc Cert.VcS.main_arg1) = m ((c.tc : Thread Cert.VcS.nD Cert.VcS.τ).loc Cert.VcS.main_arg1))
      ∧ r.2.sem = fun _ => 0)

def quiescent_VcSIdeal [hVcSIdeal : Cert.VcSIdeal.Facts] : Prop :=
  ∀ (m : (ℓ : Loc Cert.VcSIdeal.nD Cert.VcSIdeal.τ Cert.VcSIdeal.sig) → Buf (Elt Ideal) ℓ) (g : Dev Cert.VcSIdeal.nD → PrngReg), Pre_VcSIdeal m →
    θ_run (Cert.VcSIdeal.defs (F := Ideal)) (onTc (τ := Cert.VcSIdeal.τ) (Cert.VcSIdeal.main (F := Ideal))) ⟨m, fun _ => 0, g⟩ (fun r => (∀ c : Dev Cert.VcSIdeal.nD,
      r.2.mem ((c.tc : Thread Cert.VcSIdeal.nD Cert.VcSIdeal.τ).loc Cert.VcSIdeal.main_arg0) = m ((c.tc : Thread Cert.VcSIdeal.nD Cert.VcSIdeal.τ).loc Cert.VcSIdeal.main_arg0)
      ∧ r.2.mem ((c.tc : Thread Cert.VcSIdeal.nD Cert.VcSIdeal.τ).loc Cert.VcSIdeal.main_arg1) = m ((c.tc : Thread Cert.VcSIdeal.nD Cert.VcSIdeal.τ).loc Cert.VcSIdeal.main_arg1))
      ∧ r.2.sem = fun _ => 0)

def quiescent_VcSRefIdeal [hVcSRefIdeal : Cert.VcSRefIdeal.Facts] : Prop :=
  ∀ (m : (ℓ : Loc Cert.VcSRefIdeal.nD Cert.VcSRefIdeal.τ Cert.VcSRefIdeal.sig) → Buf (Elt Ideal) ℓ) (g : Dev Cert.VcSRefIdeal.nD → PrngReg), Pre_VcSRefIdeal m →
    θ_run (Cert.VcSRefIdeal.defs (F := Ideal)) (onTc (τ := Cert.VcSRefIdeal.τ) (Cert.VcSRefIdeal.main (F := Ideal))) ⟨m, fun _ => 0, g⟩ (fun r => (∀ c : Dev Cert.VcSRefIdeal.nD,
      r.2.mem ((c.tc : Thread Cert.VcSRefIdeal.nD Cert.VcSRefIdeal.τ).loc Cert.VcSRefIdeal.main_arg0) = m ((c.tc : Thread Cert.VcSRefIdeal.nD Cert.VcSRefIdeal.τ).loc Cert.VcSRefIdeal.main_arg0)
      ∧ r.2.mem ((c.tc : Thread Cert.VcSRefIdeal.nD Cert.VcSRefIdeal.τ).loc Cert.VcSRefIdeal.main_arg1) = m ((c.tc : Thread Cert.VcSRefIdeal.nD Cert.VcSRefIdeal.τ).loc Cert.VcSRefIdeal.main_arg1))
      ∧ r.2.sem = fun _ => 0)

def quiescent_VsS [hVsS : Cert.VsS.Facts] : Prop :=
  ∀ (m : (ℓ : Loc Cert.VsS.nD Cert.VsS.τ Cert.VsS.sig) → Buf (Elt Bits) ℓ) (g : Dev Cert.VsS.nD → PrngReg), Pre_VsS m →
    θ_run (Cert.VsS.defs (F := Bits)) (onTc (τ := Cert.VsS.τ) (Cert.VsS.main (F := Bits))) ⟨m, fun _ => 0, g⟩ (fun r => (∀ c : Dev Cert.VsS.nD,
      r.2.mem ((c.tc : Thread Cert.VsS.nD Cert.VsS.τ).loc Cert.VsS.main_arg0) = m ((c.tc : Thread Cert.VsS.nD Cert.VsS.τ).loc Cert.VsS.main_arg0)
      ∧ r.2.mem ((c.tc : Thread Cert.VsS.nD Cert.VsS.τ).loc Cert.VsS.main_arg1) = m ((c.tc : Thread Cert.VsS.nD Cert.VsS.τ).loc Cert.VsS.main_arg1))
      ∧ r.2.sem = fun _ => 0)

def quiescent_VsSIdeal [hVsSIdeal : Cert.VsSIdeal.Facts] : Prop :=
  ∀ (m : (ℓ : Loc Cert.VsSIdeal.nD Cert.VsSIdeal.τ Cert.VsSIdeal.sig) → Buf (Elt Ideal) ℓ) (g : Dev Cert.VsSIdeal.nD → PrngReg), Pre_VsSIdeal m →
    θ_run (Cert.VsSIdeal.defs (F := Ideal)) (onTc (τ := Cert.VsSIdeal.τ) (Cert.VsSIdeal.main (F := Ideal))) ⟨m, fun _ => 0, g⟩ (fun r => (∀ c : Dev Cert.VsSIdeal.nD,
      r.2.mem ((c.tc : Thread Cert.VsSIdeal.nD Cert.VsSIdeal.τ).loc Cert.VsSIdeal.main_arg0) = m ((c.tc : Thread Cert.VsSIdeal.nD Cert.VsSIdeal.τ).loc Cert.VsSIdeal.main_arg0)
      ∧ r.2.mem ((c.tc : Thread Cert.VsSIdeal.nD Cert.VsSIdeal.τ).loc Cert.VsSIdeal.main_arg1) = m ((c.tc : Thread Cert.VsSIdeal.nD Cert.VsSIdeal.τ).loc Cert.VsSIdeal.main_arg1))
      ∧ r.2.sem = fun _ => 0)

def quiescent_VsSRefIdeal [hVsSRefIdeal : Cert.VsSRefIdeal.Facts] : Prop :=
  ∀ (m : (ℓ : Loc Cert.VsSRefIdeal.nD Cert.VsSRefIdeal.τ Cert.VsSRefIdeal.sig) → Buf (Elt Ideal) ℓ) (g : Dev Cert.VsSRefIdeal.nD → PrngReg), Pre_VsSRefIdeal m →
    θ_run (Cert.VsSRefIdeal.defs (F := Ideal)) (onTc (τ := Cert.VsSRefIdeal.τ) (Cert.VsSRefIdeal.main (F := Ideal))) ⟨m, fun _ => 0, g⟩ (fun r => (∀ c : Dev Cert.VsSRefIdeal.nD,
      r.2.mem ((c.tc : Thread Cert.VsSRefIdeal.nD Cert.VsSRefIdeal.τ).loc Cert.VsSRefIdeal.main_arg0) = m ((c.tc : Thread Cert.VsSRefIdeal.nD Cert.VsSRefIdeal.τ).loc Cert.VsSRefIdeal.main_arg0)
      ∧ r.2.mem ((c.tc : Thread Cert.VsSRefIdeal.nD Cert.VsSRefIdeal.τ).loc Cert.VsSRefIdeal.main_arg1) = m ((c.tc : Thread Cert.VsSRefIdeal.nD Cert.VsSRefIdeal.τ).loc Cert.VsSRefIdeal.main_arg1))
      ∧ r.2.sem = fun _ => 0)

def quiescent_KsS [hKsS : Cert.KsS.Facts] : Prop :=
  ∀ (m : (ℓ : Loc Cert.KsS.nD Cert.KsS.τ Cert.KsS.sig) → Buf (Elt Bits) ℓ) (g : Dev Cert.KsS.nD → PrngReg), Pre_KsS m →
    θ_run (Cert.KsS.defs (F := Bits)) (onTc (τ := Cert.KsS.τ) (Cert.KsS.main (F := Bits))) ⟨m, fun _ => 0, g⟩ (fun r => (∀ c : Dev Cert.KsS.nD,
      r.2.mem ((c.tc : Thread Cert.KsS.nD Cert.KsS.τ).loc Cert.KsS.main_arg0) = m ((c.tc : Thread Cert.KsS.nD Cert.KsS.τ).loc Cert.KsS.main_arg0)
      ∧ r.2.mem ((c.tc : Thread Cert.KsS.nD Cert.KsS.τ).loc Cert.KsS.main_arg1) = m ((c.tc : Thread Cert.KsS.nD Cert.KsS.τ).loc Cert.KsS.main_arg1)
      ∧ r.2.mem ((c.tc : Thread Cert.KsS.nD Cert.KsS.τ).loc Cert.KsS.main_arg2) = m ((c.tc : Thread Cert.KsS.nD Cert.KsS.τ).loc Cert.KsS.main_arg2))
      ∧ r.2.sem = fun _ => 0)

def quiescent_KsSIdeal [hKsSIdeal : Cert.KsSIdeal.Facts] : Prop :=
  ∀ (m : (ℓ : Loc Cert.KsSIdeal.nD Cert.KsSIdeal.τ Cert.KsSIdeal.sig) → Buf (Elt Ideal) ℓ) (g : Dev Cert.KsSIdeal.nD → PrngReg), Pre_KsSIdeal m →
    θ_run (Cert.KsSIdeal.defs (F := Ideal)) (onTc (τ := Cert.KsSIdeal.τ) (Cert.KsSIdeal.main (F := Ideal))) ⟨m, fun _ => 0, g⟩ (fun r => (∀ c : Dev Cert.KsSIdeal.nD,
      r.2.mem ((c.tc : Thread Cert.KsSIdeal.nD Cert.KsSIdeal.τ).loc Cert.KsSIdeal.main_arg0) = m ((c.tc : Thread Cert.KsSIdeal.nD Cert.KsSIdeal.τ).loc Cert.KsSIdeal.main_arg0)
      ∧ r.2.mem ((c.tc : Thread Cert.KsSIdeal.nD Cert.KsSIdeal.τ).loc Cert.KsSIdeal.main_arg1) = m ((c.tc : Thread Cert.KsSIdeal.nD Cert.KsSIdeal.τ).loc Cert.KsSIdeal.main_arg1)
      ∧ r.2.mem ((c.tc : Thread Cert.KsSIdeal.nD Cert.KsSIdeal.τ).loc Cert.KsSIdeal.main_arg2) = m ((c.tc : Thread Cert.KsSIdeal.nD Cert.KsSIdeal.τ).loc Cert.KsSIdeal.main_arg2))
      ∧ r.2.sem = fun _ => 0)

def quiescent_KsSRefIdeal [hKsSRefIdeal : Cert.KsSRefIdeal.Facts] : Prop :=
  ∀ (m : (ℓ : Loc Cert.KsSRefIdeal.nD Cert.KsSRefIdeal.τ Cert.KsSRefIdeal.sig) → Buf (Elt Ideal) ℓ) (g : Dev Cert.KsSRefIdeal.nD → PrngReg), Pre_KsSRefIdeal m →
    θ_run (Cert.KsSRefIdeal.defs (F := Ideal)) (onTc (τ := Cert.KsSRefIdeal.τ) (Cert.KsSRefIdeal.main (F := Ideal))) ⟨m, fun _ => 0, g⟩ (fun r => (∀ c : Dev Cert.KsSRefIdeal.nD,
      r.2.mem ((c.tc : Thread Cert.KsSRefIdeal.nD Cert.KsSRefIdeal.τ).loc Cert.KsSRefIdeal.main_arg0) = m ((c.tc : Thread Cert.KsSRefIdeal.nD Cert.KsSRefIdeal.τ).loc Cert.KsSRefIdeal.main_arg0)
      ∧ r.2.mem ((c.tc : Thread Cert.KsSRefIdeal.nD Cert.KsSRefIdeal.τ).loc Cert.KsSRefIdeal.main_arg1) = m ((c.tc : Thread Cert.KsSRefIdeal.nD Cert.KsSRefIdeal.τ).loc Cert.KsSRefIdeal.main_arg1)
      ∧ r.2.mem ((c.tc : Thread Cert.KsSRefIdeal.nD Cert.KsSRefIdeal.τ).loc Cert.KsSRefIdeal.main_arg2) = m ((c.tc : Thread Cert.KsSRefIdeal.nD Cert.KsSRefIdeal.τ).loc Cert.KsSRefIdeal.main_arg2))
      ∧ r.2.sem = fun _ => 0)

def quiescent_CompV [hCompV : Cert.CompV.Facts] : Prop :=
  ∀ (m : (ℓ : Loc Cert.CompV.nD Cert.CompV.τ Cert.CompV.sig) → Buf (Elt Bits) ℓ) (g : Dev Cert.CompV.nD → PrngReg), Pre_CompV m →
    θ_run (Cert.CompV.defs (F := Bits)) (onTc (τ := Cert.CompV.τ) (Cert.CompV.main (F := Bits))) ⟨m, fun _ => 0, g⟩ (fun r => (∀ c : Dev Cert.CompV.nD,
      r.2.mem ((c.tc : Thread Cert.CompV.nD Cert.CompV.τ).loc Cert.CompV.main_arg0) = m ((c.tc : Thread Cert.CompV.nD Cert.CompV.τ).loc Cert.CompV.main_arg0)
      ∧ r.2.mem ((c.tc : Thread Cert.CompV.nD Cert.CompV.τ).loc Cert.CompV.main_arg1) = m ((c.tc : Thread Cert.CompV.nD Cert.CompV.τ).loc Cert.CompV.main_arg1)
      ∧ r.2.mem ((c.tc : Thread Cert.CompV.nD Cert.CompV.τ).loc Cert.CompV.main_arg2) = m ((c.tc : Thread Cert.CompV.nD Cert.CompV.τ).loc Cert.CompV.main_arg2))
      ∧ r.2.sem = fun _ => 0)

def quiescent_CompVIdeal [hCompVIdeal : Cert.CompVIdeal.Facts] : Prop :=
  ∀ (m : (ℓ : Loc Cert.CompVIdeal.nD Cert.CompVIdeal.τ Cert.CompVIdeal.sig) → Buf (Elt Ideal) ℓ) (g : Dev Cert.CompVIdeal.nD → PrngReg), Pre_CompVIdeal m →
    θ_run (Cert.CompVIdeal.defs (F := Ideal)) (onTc (τ := Cert.CompVIdeal.τ) (Cert.CompVIdeal.main (F := Ideal))) ⟨m, fun _ => 0, g⟩ (fun r => (∀ c : Dev Cert.CompVIdeal.nD,
      r.2.mem ((c.tc : Thread Cert.CompVIdeal.nD Cert.CompVIdeal.τ).loc Cert.CompVIdeal.main_arg0) = m ((c.tc : Thread Cert.CompVIdeal.nD Cert.CompVIdeal.τ).loc Cert.CompVIdeal.main_arg0)
      ∧ r.2.mem ((c.tc : Thread Cert.CompVIdeal.nD Cert.CompVIdeal.τ).loc Cert.CompVIdeal.main_arg1) = m ((c.tc : Thread Cert.CompVIdeal.nD Cert.CompVIdeal.τ).loc Cert.CompVIdeal.main_arg1)
      ∧ r.2.mem ((c.tc : Thread Cert.CompVIdeal.nD Cert.CompVIdeal.τ).loc Cert.CompVIdeal.main_arg2) = m ((c.tc : Thread Cert.CompVIdeal.nD Cert.CompVIdeal.τ).loc Cert.CompVIdeal.main_arg2))
      ∧ r.2.sem = fun _ => 0)

def quiescent_CompVRefIdeal [hCompVRefIdeal : Cert.CompVRefIdeal.Facts] : Prop :=
  ∀ (m : (ℓ : Loc Cert.CompVRefIdeal.nD Cert.CompVRefIdeal.τ Cert.CompVRefIdeal.sig) → Buf (Elt Ideal) ℓ) (g : Dev Cert.CompVRefIdeal.nD → PrngReg), Pre_CompVRefIdeal m →
    θ_run (Cert.CompVRefIdeal.defs (F := Ideal)) (onTc (τ := Cert.CompVRefIdeal.τ) (Cert.CompVRefIdeal.main (F := Ideal))) ⟨m, fun _ => 0, g⟩ (fun r => (∀ c : Dev Cert.CompVRefIdeal.nD,
      r.2.mem ((c.tc : Thread Cert.CompVRefIdeal.nD Cert.CompVRefIdeal.τ).loc Cert.CompVRefIdeal.main_arg0) = m ((c.tc : Thread Cert.CompVRefIdeal.nD Cert.CompVRefIdeal.τ).loc Cert.CompVRefIdeal.main_arg0)
      ∧ r.2.mem ((c.tc : Thread Cert.CompVRefIdeal.nD Cert.CompVRefIdeal.τ).loc Cert.CompVRefIdeal.main_arg1) = m ((c.tc : Thread Cert.CompVRefIdeal.nD Cert.CompVRefIdeal.τ).loc Cert.CompVRefIdeal.main_arg1)
      ∧ r.2.mem ((c.tc : Thread Cert.CompVRefIdeal.nD Cert.CompVRefIdeal.τ).loc Cert.CompVRefIdeal.main_arg2) = m ((c.tc : Thread Cert.CompVRefIdeal.nD Cert.CompVRefIdeal.τ).loc Cert.CompVRefIdeal.main_arg2))
      ∧ r.2.sem = fun _ => 0)

def quiescent_CompK [hCompK : Cert.CompK.Facts] : Prop :=
  ∀ (m : (ℓ : Loc Cert.CompK.nD Cert.CompK.τ Cert.CompK.sig) → Buf (Elt Bits) ℓ) (g : Dev Cert.CompK.nD → PrngReg), Pre_CompK m →
    θ_run (Cert.CompK.defs (F := Bits)) (onTc (τ := Cert.CompK.τ) (Cert.CompK.main (F := Bits))) ⟨m, fun _ => 0, g⟩ (fun r => (∀ c : Dev Cert.CompK.nD,
      r.2.mem ((c.tc : Thread Cert.CompK.nD Cert.CompK.τ).loc Cert.CompK.main_arg0) = m ((c.tc : Thread Cert.CompK.nD Cert.CompK.τ).loc Cert.CompK.main_arg0)
      ∧ r.2.mem ((c.tc : Thread Cert.CompK.nD Cert.CompK.τ).loc Cert.CompK.main_arg1) = m ((c.tc : Thread Cert.CompK.nD Cert.CompK.τ).loc Cert.CompK.main_arg1)
      ∧ r.2.mem ((c.tc : Thread Cert.CompK.nD Cert.CompK.τ).loc Cert.CompK.main_arg2) = m ((c.tc : Thread Cert.CompK.nD Cert.CompK.τ).loc Cert.CompK.main_arg2))
      ∧ r.2.sem = fun _ => 0)

def quiescent_CompKIdeal [hCompKIdeal : Cert.CompKIdeal.Facts] : Prop :=
  ∀ (m : (ℓ : Loc Cert.CompKIdeal.nD Cert.CompKIdeal.τ Cert.CompKIdeal.sig) → Buf (Elt Ideal) ℓ) (g : Dev Cert.CompKIdeal.nD → PrngReg), Pre_CompKIdeal m →
    θ_run (Cert.CompKIdeal.defs (F := Ideal)) (onTc (τ := Cert.CompKIdeal.τ) (Cert.CompKIdeal.main (F := Ideal))) ⟨m, fun _ => 0, g⟩ (fun r => (∀ c : Dev Cert.CompKIdeal.nD,
      r.2.mem ((c.tc : Thread Cert.CompKIdeal.nD Cert.CompKIdeal.τ).loc Cert.CompKIdeal.main_arg0) = m ((c.tc : Thread Cert.CompKIdeal.nD Cert.CompKIdeal.τ).loc Cert.CompKIdeal.main_arg0)
      ∧ r.2.mem ((c.tc : Thread Cert.CompKIdeal.nD Cert.CompKIdeal.τ).loc Cert.CompKIdeal.main_arg1) = m ((c.tc : Thread Cert.CompKIdeal.nD Cert.CompKIdeal.τ).loc Cert.CompKIdeal.main_arg1)
      ∧ r.2.mem ((c.tc : Thread Cert.CompKIdeal.nD Cert.CompKIdeal.τ).loc Cert.CompKIdeal.main_arg2) = m ((c.tc : Thread Cert.CompKIdeal.nD Cert.CompKIdeal.τ).loc Cert.CompKIdeal.main_arg2))
      ∧ r.2.sem = fun _ => 0)

def quiescent_CompKRefIdeal [hCompKRefIdeal : Cert.CompKRefIdeal.Facts] : Prop :=
  ∀ (m : (ℓ : Loc Cert.CompKRefIdeal.nD Cert.CompKRefIdeal.τ Cert.CompKRefIdeal.sig) → Buf (Elt Ideal) ℓ) (g : Dev Cert.CompKRefIdeal.nD → PrngReg), Pre_CompKRefIdeal m →
    θ_run (Cert.CompKRefIdeal.defs (F := Ideal)) (onTc (τ := Cert.CompKRefIdeal.τ) (Cert.CompKRefIdeal.main (F := Ideal))) ⟨m, fun _ => 0, g⟩ (fun r => (∀ c : Dev Cert.CompKRefIdeal.nD,
      r.2.mem ((c.tc : Thread Cert.CompKRefIdeal.nD Cert.CompKRefIdeal.τ).loc Cert.CompKRefIdeal.main_arg0) = m ((c.tc : Thread Cert.CompKRefIdeal.nD Cert.CompKRefIdeal.τ).loc Cert.CompKRefIdeal.main_arg0)
      ∧ r.2.mem ((c.tc : Thread Cert.CompKRefIdeal.nD Cert.CompKRefIdeal.τ).loc Cert.CompKRefIdeal.main_arg1) = m ((c.tc : Thread Cert.CompKRefIdeal.nD Cert.CompKRefIdeal.τ).loc Cert.CompKRefIdeal.main_arg1)
      ∧ r.2.mem ((c.tc : Thread Cert.CompKRefIdeal.nD Cert.CompKRefIdeal.τ).loc Cert.CompKRefIdeal.main_arg2) = m ((c.tc : Thread Cert.CompKRefIdeal.nD Cert.CompKRefIdeal.τ).loc Cert.CompKRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1))
      ∧ r.2.sem = fun _ => 0)

def quiescent_HgS [hHgS : Cert.HgS.Facts] : Prop :=
  ∀ (m : (ℓ : Loc Cert.HgS.nD Cert.HgS.τ Cert.HgS.sig) → Buf (Elt Bits) ℓ) (g : Dev Cert.HgS.nD → PrngReg), Pre_HgS m →
    θ_run (Cert.HgS.defs (F := Bits)) (onTc (τ := Cert.HgS.τ) (Cert.HgS.main (F := Bits))) ⟨m, fun _ => 0, g⟩ (fun r => (∀ c : Dev Cert.HgS.nD,
      r.2.mem ((c.tc : Thread Cert.HgS.nD Cert.HgS.τ).loc Cert.HgS.main_arg0) = m ((c.tc : Thread Cert.HgS.nD Cert.HgS.τ).loc Cert.HgS.main_arg0)
      ∧ r.2.mem ((c.tc : Thread Cert.HgS.nD Cert.HgS.τ).loc Cert.HgS.main_arg1) = m ((c.tc : Thread Cert.HgS.nD Cert.HgS.τ).loc Cert.HgS.main_arg1)
      ∧ r.2.mem ((c.tc : Thread Cert.HgS.nD Cert.HgS.τ).loc Cert.HgS.main_arg2) = m ((c.tc : Thread Cert.HgS.nD Cert.HgS.τ).loc Cert.HgS.main_arg2)
      ∧ r.2.mem ((c.tc : Thread Cert.HgS.nD Cert.HgS.τ).loc Cert.HgS.main_arg3) = m ((c.tc : Thread Cert.HgS.nD Cert.HgS.τ).loc Cert.HgS.main_arg3))
      ∧ r.2.sem = fun _ => 0)

def quiescent_HgSIdeal [hHgSIdeal : Cert.HgSIdeal.Facts] : Prop :=
  ∀ (m : (ℓ : Loc Cert.HgSIdeal.nD Cert.HgSIdeal.τ Cert.HgSIdeal.sig) → Buf (Elt Ideal) ℓ) (g : Dev Cert.HgSIdeal.nD → PrngReg), Pre_HgSIdeal m →
    θ_run (Cert.HgSIdeal.defs (F := Ideal)) (onTc (τ := Cert.HgSIdeal.τ) (Cert.HgSIdeal.main (F := Ideal))) ⟨m, fun _ => 0, g⟩ (fun r => (∀ c : Dev Cert.HgSIdeal.nD,
      r.2.mem ((c.tc : Thread Cert.HgSIdeal.nD Cert.HgSIdeal.τ).loc Cert.HgSIdeal.main_arg0) = m ((c.tc : Thread Cert.HgSIdeal.nD Cert.HgSIdeal.τ).loc Cert.HgSIdeal.main_arg0)
      ∧ r.2.mem ((c.tc : Thread Cert.HgSIdeal.nD Cert.HgSIdeal.τ).loc Cert.HgSIdeal.main_arg1) = m ((c.tc : Thread Cert.HgSIdeal.nD Cert.HgSIdeal.τ).loc Cert.HgSIdeal.main_arg1)
      ∧ r.2.mem ((c.tc : Thread Cert.HgSIdeal.nD Cert.HgSIdeal.τ).loc Cert.HgSIdeal.main_arg2) = m ((c.tc : Thread Cert.HgSIdeal.nD Cert.HgSIdeal.τ).loc Cert.HgSIdeal.main_arg2)
      ∧ r.2.mem ((c.tc : Thread Cert.HgSIdeal.nD Cert.HgSIdeal.τ).loc Cert.HgSIdeal.main_arg3) = m ((c.tc : Thread Cert.HgSIdeal.nD Cert.HgSIdeal.τ).loc Cert.HgSIdeal.main_arg3))
      ∧ r.2.sem = fun _ => 0)

def quiescent_HgSRefIdeal [hHgSRefIdeal : Cert.HgSRefIdeal.Facts] : Prop :=
  ∀ (m : (ℓ : Loc Cert.HgSRefIdeal.nD Cert.HgSRefIdeal.τ Cert.HgSRefIdeal.sig) → Buf (Elt Ideal) ℓ) (g : Dev Cert.HgSRefIdeal.nD → PrngReg), Pre_HgSRefIdeal m →
    θ_run (Cert.HgSRefIdeal.defs (F := Ideal)) (onTc (τ := Cert.HgSRefIdeal.τ) (Cert.HgSRefIdeal.main (F := Ideal))) ⟨m, fun _ => 0, g⟩ (fun r => (∀ c : Dev Cert.HgSRefIdeal.nD,
      r.2.mem ((c.tc : Thread Cert.HgSRefIdeal.nD Cert.HgSRefIdeal.τ).loc Cert.HgSRefIdeal.main_arg0) = m ((c.tc : Thread Cert.HgSRefIdeal.nD Cert.HgSRefIdeal.τ).loc Cert.HgSRefIdeal.main_arg0)
      ∧ r.2.mem ((c.tc : Thread Cert.HgSRefIdeal.nD Cert.HgSRefIdeal.τ).loc Cert.HgSRefIdeal.main_arg1) = m ((c.tc : Thread Cert.HgSRefIdeal.nD Cert.HgSRefIdeal.τ).loc Cert.HgSRefIdeal.main_arg1)
      ∧ r.2.mem ((c.tc : Thread Cert.HgSRefIdeal.nD Cert.HgSRefIdeal.τ).loc Cert.HgSRefIdeal.main_arg2) = m ((c.tc : Thread Cert.HgSRefIdeal.nD Cert.HgSRefIdeal.τ).loc Cert.HgSRefIdeal.main_arg2)
      ∧ r.2.mem ((c.tc : Thread Cert.HgSRefIdeal.nD Cert.HgSRefIdeal.τ).loc Cert.HgSRefIdeal.main_arg3) = m ((c.tc : Thread Cert.HgSRefIdeal.nD Cert.HgSRefIdeal.τ).loc Cert.HgSRefIdeal.main_arg3))
      ∧ r.2.sem = fun _ => 0)

def preserves_Cmp_CmpIdeal : Prop :=
  IdealRules.named_const.Statement Cert.CmpIdeal.κ "mask" .f32 0xF149F2CA#32 ⊥

def algebraic_CmpIdeal_CmpRefIdeal_pre_finite_bias [hCmpIdeal : Cert.CmpIdeal.Facts] [hCmpRefIdeal : Cert.CmpRefIdeal.Facts] [hPre_finite_bias : Cert.Pre_finite_bias.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_finite_bias m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)) →
    ∃ (v0 : (c : Dev Cert.CmpIdeal.nD) → Buf (Elt Ideal) ((c.tc : Thread Cert.CmpIdeal.nD Cert.CmpIdeal.τ).loc Cert.CmpIdeal.main_v45_0)) (v1 : (c : Dev Cert.CmpIdeal.nD) → Buf (Elt Ideal) ((c.tc : Thread Cert.CmpIdeal.nD Cert.CmpIdeal.τ).loc Cert.CmpIdeal.main_v45_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v45_0) = v0 c
          ∧ r.2.mem ((c.tc : Thread Cert.CmpIdeal.nD Cert.CmpIdeal.τ).loc Cert.CmpIdeal.main_v45_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v82) = v0 c
          ∧ r.2.mem ((c.tc : Thread Cert.CmpRefIdeal.nD Cert.CmpRefIdeal.τ).loc Cert.CmpRefIdeal.main_v83) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v6) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1))

def preserves_Zh_ZhIdeal : Prop :=
  True

def algebraic_ZhIdeal_ZhRefIdeal [hZhIdeal : Cert.ZhIdeal.Facts] [hZhRefIdeal : Cert.ZhRefIdeal.Facts] : Prop :=
  ∀ (m : (ℓ : Loc Cert.ZhIdeal.nD Cert.ZhIdeal.τ Cert.ZhIdeal.sig) → Buf (Elt Ideal) ℓ) (g : Dev Cert.ZhIdeal.nD → PrngReg)
    (m' : (ℓ : Loc Cert.ZhRefIdeal.nD Cert.ZhRefIdeal.τ Cert.ZhRefIdeal.sig) → Buf (Elt Ideal) ℓ) (g' : Dev Cert.ZhRefIdeal.nD → PrngReg), Pre_ZhIdeal m →
    (∀ c : Dev Cert.ZhIdeal.nD,
      m' ((c.tc : Thread Cert.ZhRefIdeal.nD Cert.ZhRefIdeal.τ).loc Cert.ZhRefIdeal.main_arg0) = m ((c.tc : Thread Cert.ZhIdeal.nD Cert.ZhIdeal.τ).loc Cert.ZhIdeal.main_arg0)
      ∧ m' ((c.tc : Thread Cert.ZhRefIdeal.nD Cert.ZhRefIdeal.τ).loc Cert.ZhRefIdeal.main_arg1) = m ((c.tc : Thread Cert.ZhIdeal.nD Cert.ZhIdeal.τ).loc Cert.ZhIdeal.main_arg1)) →
    ∃ (v0 : (c : Dev Cert.ZhIdeal.nD) → Buf (Elt Ideal) ((c.tc : Thread Cert.ZhIdeal.nD Cert.ZhIdeal.τ).loc Cert.ZhIdeal.main_v3)),
      θ_run (Cert.ZhIdeal.defs (F := Ideal)) (onTc (τ := Cert.ZhIdeal.τ) (Cert.ZhIdeal.main (F := Ideal))) ⟨m, fun _ => 0, g⟩ (fun r => ∀ c : Dev Cert.ZhIdeal.nD,
          r.2.mem ((c.tc : Thread Cert.ZhIdeal.nD Cert.ZhIdeal.τ).loc Cert.ZhIdeal.main_v3) = v0 c
          ∧ r.2.mem ((c.tc : Thread Cert.ZhIdeal.nD Cert.ZhIdeal.τ).loc Cert.ZhIdeal.main_arg0) = m ((c.tc : Thread Cert.ZhIdeal.nD Cert.ZhIdeal.τ).loc Cert.ZhIdeal.main_arg0)
          ∧ r.2.mem ((c.tc : Thread Cert.ZhIdeal.nD Cert.ZhIdeal.τ).loc Cert.ZhIdeal.main_arg1) = m ((c.tc : Thread Cert.ZhIdeal.nD Cert.ZhIdeal.τ).loc Cert.ZhIdeal.main_arg1))
      ∧ θ_run (Cert.ZhRefIdeal.defs (F := Ideal)) (onTc (τ := Cert.ZhRefIdeal.τ) (Cert.ZhRefIdeal.main (F := Ideal))) ⟨m', fun _ => 0, g'⟩ (fun r => ∀ c : Dev Cert.ZhRefIdeal.nD,
          r.2.mem ((c.tc : Thread Cert.ZhRefIdeal.nD Cert.ZhRefIdeal.τ).loc Cert.ZhRefIdeal.main_v2) = v0 c
          ∧ r.2.mem ((c.tc : Thread Cert.ZhRefIdeal.nD Cert.ZhRefIdeal.τ).loc Cert.ZhRefIdeal.main_arg0) = m' ((c.tc : Thread Cert.ZhRefIdeal.nD Cert.ZhRefIdeal.τ).loc Cert.ZhRefIdeal.main_arg0)
          ∧ r.2.mem ((c.tc : Thread Cert.ZhRefIdeal.nD Cert.ZhRefIdeal.τ).loc Cert.ZhRefIdeal.main_arg1) = m' ((c.tc : Thread Cert.ZhRefIdeal.nD Cert.ZhRefIdeal.τ).loc Cert.ZhRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Gab_GabIdeal : Prop :=
  True

def algebraic_GabIdeal_GabRefIdeal [hGabIdeal : Cert.GabIdeal.Facts] [hGabRefIdeal : Cert.GabRefIdeal.Facts] : Prop :=
  ∀ (m : (ℓ : Loc Cert.GabIdeal.nD Cert.GabIdeal.τ Cert.GabIdeal.sig) → Buf (Elt Ideal) ℓ) (g : Dev Cert.GabIdeal.nD → PrngReg)
    (m' : (ℓ : Loc Cert.GabRefIdeal.nD Cert.GabRefIdeal.τ Cert.GabRefIdeal.sig) → Buf (Elt Ideal) ℓ) (g' : Dev Cert.GabRefIdeal.nD → PrngReg), Pre_GabIdeal m →
    (∀ c : Dev Cert.GabIdeal.nD,
      m' ((c.tc : Thread Cert.GabRefIdeal.nD Cert.GabRefIdeal.τ).loc Cert.GabRefIdeal.main_arg0) = m ((c.tc : Thread Cert.GabIdeal.nD Cert.GabIdeal.τ).loc Cert.GabIdeal.main_arg0)
      ∧ m' ((c.tc : Thread Cert.GabRefIdeal.nD Cert.GabRefIdeal.τ).loc Cert.GabRefIdeal.main_arg1) = m ((c.tc : Thread Cert.GabIdeal.nD Cert.GabIdeal.τ).loc Cert.GabIdeal.main_arg1)) →
    ∃ (v0 : (c : Dev Cert.GabIdeal.nD) → Buf (Elt Ideal) ((c.tc : Thread Cert.GabIdeal.nD Cert.GabIdeal.τ).loc Cert.GabIdeal.main_v4)),
      θ_run (Cert.GabIdeal.defs (F := Ideal)) (onTc (τ := Cert.GabIdeal.τ) (Cert.GabIdeal.main (F := Ideal))) ⟨m, fun _ => 0, g⟩ (fun r => ∀ c : Dev Cert.GabIdeal.nD,
          r.2.mem ((c.tc : Thread Cert.GabIdeal.nD Cert.GabIdeal.τ).loc Cert.GabIdeal.main_v4) = v0 c
          ∧ r.2.mem ((c.tc : Thread Cert.GabIdeal.nD Cert.GabIdeal.τ).loc Cert.GabIdeal.main_arg0) = m ((c.tc : Thread Cert.GabIdeal.nD Cert.GabIdeal.τ).loc Cert.GabIdeal.main_arg0)
          ∧ r.2.mem ((c.tc : Thread Cert.GabIdeal.nD Cert.GabIdeal.τ).loc Cert.GabIdeal.main_arg1) = m ((c.tc : Thread Cert.GabIdeal.nD Cert.GabIdeal.τ).loc Cert.GabIdeal.main_arg1))
      ∧ θ_run (Cert.GabRefIdeal.defs (F := Ideal)) (onTc (τ := Cert.GabRefIdeal.τ) (Cert.GabRefIdeal.main (F := Ideal))) ⟨m', fun _ => 0, g'⟩ (fun r => ∀ c : Dev Cert.GabRefIdeal.nD,
          r.2.mem ((c.tc : Thread Cert.GabRefIdeal.nD Cert.GabRefIdeal.τ).loc Cert.GabRefIdeal.main_v2) = v0 c
          ∧ r.2.mem ((c.tc : Thread Cert.GabRefIdeal.nD Cert.GabRefIdeal.τ).loc Cert.GabRefIdeal.main_arg0) = m' ((c.tc : Thread Cert.GabRefIdeal.nD Cert.GabRefIdeal.τ).loc Cert.GabRefIdeal.main_arg0)
          ∧ r.2.mem ((c.tc : Thread Cert.GabRefIdeal.nD Cert.GabRefIdeal.τ).loc Cert.GabRefIdeal.main_arg1) = m' ((c.tc : Thread Cert.GabRefIdeal.nD Cert.GabRefIdeal.τ).loc Cert.GabRefIdeal.main_arg1))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)
      ∧ m' ((c.tc : Thread Cert.QRefIdeal.nD Cert.QRefIdeal.τ).loc Cert.QRefIdeal.main_arg2) = m ((c.tc : Thread Cert.QIdeal.nD Cert.QIdeal.τ).loc Cert.QIdeal.main_arg2)) →
    ∃ (v0 : (c : Dev Cert.QIdeal.nD) → Buf (Elt Ideal) ((c.tc : Thread Cert.QIdeal.nD Cert.QIdeal.τ).loc Cert.QIdeal.main_v4)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v4) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v17) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1)
          ∧ r.2.mem ((c.tc : Thread Cert.QRefIdeal.nD Cert.QRefIdeal.τ).loc Cert.QRefIdeal.main_arg2) = m' ((c.tc : Thread Cert.QRefIdeal.nD Cert.QRefIdeal.τ).loc Cert.QRefIdeal.main_arg2))

def preserves_Kc_KcIdeal : Prop :=
  True

def algebraic_KcIdeal_KcRefIdeal [hKcIdeal : Cert.KcIdeal.Facts] [hKcRefIdeal : Cert.KcRefIdeal.Facts] : Prop :=
  ∀ (m : (ℓ : Loc Cert.KcIdeal.nD Cert.KcIdeal.τ Cert.KcIdeal.sig) → Buf (Elt Ideal) ℓ) (g : Dev Cert.KcIdeal.nD → PrngReg)
    (m' : (ℓ : Loc Cert.KcRefIdeal.nD Cert.KcRefIdeal.τ Cert.KcRefIdeal.sig) → Buf (Elt Ideal) ℓ) (g' : Dev Cert.KcRefIdeal.nD → PrngReg), Pre_KcIdeal m →
    (∀ c : Dev Cert.KcIdeal.nD,
      m' ((c.tc : Thread Cert.KcRefIdeal.nD Cert.KcRefIdeal.τ).loc Cert.KcRefIdeal.main_arg0) = m ((c.tc : Thread Cert.KcIdeal.nD Cert.KcIdeal.τ).loc Cert.KcIdeal.main_arg0)
      ∧ m' ((c.tc : Thread Cert.KcRefIdeal.nD Cert.KcRefIdeal.τ).loc Cert.KcRefIdeal.main_arg1) = m ((c.tc : Thread Cert.KcIdeal.nD Cert.KcIdeal.τ).loc Cert.KcIdeal.main_arg1)) →
    ∃ (v0 : (c : Dev Cert.KcIdeal.nD) → Buf (Elt Ideal) ((c.tc : Thread Cert.KcIdeal.nD Cert.KcIdeal.τ).loc Cert.KcIdeal.main_v3)),
      θ_run (Cert.KcIdeal.defs (F := Ideal)) (onTc (τ := Cert.KcIdeal.τ) (Cert.KcIdeal.main (F := Ideal))) ⟨m, fun _ => 0, g⟩ (fun r => ∀ c : Dev Cert.KcIdeal.nD,
          r.2.mem ((c.tc : Thread Cert.KcIdeal.nD Cert.KcIdeal.τ).loc Cert.KcIdeal.main_v3) = v0 c
          ∧ r.2.mem ((c.tc : Thread Cert.KcIdeal.nD Cert.KcIdeal.τ).loc Cert.KcIdeal.main_arg0) = m ((c.tc : Thread Cert.KcIdeal.nD Cert.KcIdeal.τ).loc Cert.KcIdeal.main_arg0)
          ∧ r.2.mem ((c.tc : Thread Cert.KcIdeal.nD Cert.KcIdeal.τ).loc Cert.KcIdeal.main_arg1) = m ((c.tc : Thread Cert.KcIdeal.nD Cert.KcIdeal.τ).loc Cert.KcIdeal.main_arg1))
      ∧ θ_run (Cert.KcRefIdeal.defs (F := Ideal)) (onTc (τ := Cert.KcRefIdeal.τ) (Cert.KcRefIdeal.main (F := Ideal))) ⟨m', fun _ => 0, g'⟩ (fun r => ∀ c : Dev Cert.KcRefIdeal.nD,
          r.2.mem ((c.tc : Thread Cert.KcRefIdeal.nD Cert.KcRefIdeal.τ).loc Cert.KcRefIdeal.main_v2) = v0 c
          ∧ r.2.mem ((c.tc : Thread Cert.KcRefIdeal.nD Cert.KcRefIdeal.τ).loc Cert.KcRefIdeal.main_arg0) = m' ((c.tc : Thread Cert.KcRefIdeal.nD Cert.KcRefIdeal.τ).loc Cert.KcRefIdeal.main_arg0)
          ∧ r.2.mem ((c.tc : Thread Cert.KcRefIdeal.nD Cert.KcRefIdeal.τ).loc Cert.KcRefIdeal.main_arg1) = m' ((c.tc : Thread Cert.KcRefIdeal.nD Cert.KcRefIdeal.τ).loc Cert.KcRefIdeal.main_arg1))

def preserves_Vc_VcIdeal : Prop :=
  True

def algebraic_VcIdeal_VcRefIdeal [hVcIdeal : Cert.VcIdeal.Facts] [hVcRefIdeal : Cert.VcRefIdeal.Facts] : Prop :=
  ∀ (m : (ℓ : Loc Cert.VcIdeal.nD Cert.VcIdeal.τ Cert.VcIdeal.sig) → Buf (Elt Ideal) ℓ) (g : Dev Cert.VcIdeal.nD → PrngReg)
    (m' : (ℓ : Loc Cert.VcRefIdeal.nD Cert.VcRefIdeal.τ Cert.VcRefIdeal.sig) → Buf (Elt Ideal) ℓ) (g' : Dev Cert.VcRefIdeal.nD → PrngReg), Pre_VcIdeal m →
    (∀ c : Dev Cert.VcIdeal.nD,
      m' ((c.tc : Thread Cert.VcRefIdeal.nD Cert.VcRefIdeal.τ).loc Cert.VcRefIdeal.main_arg0) = m ((c.tc : Thread Cert.VcIdeal.nD Cert.VcIdeal.τ).loc Cert.VcIdeal.main_arg0)
      ∧ m' ((c.tc : Thread Cert.VcRefIdeal.nD Cert.VcRefIdeal.τ).loc Cert.VcRefIdeal.main_arg1) = m ((c.tc : Thread Cert.VcIdeal.nD Cert.VcIdeal.τ).loc Cert.VcIdeal.main_arg1)) →
    ∃ (v0 : (c : Dev Cert.VcIdeal.nD) → Buf (Elt Ideal) ((c.tc : Thread Cert.VcIdeal.nD Cert.VcIdeal.τ).loc Cert.VcIdeal.main_v3)),
      θ_run (Cert.VcIdeal.defs (F := Ideal)) (onTc (τ := Cert.VcIdeal.τ) (Cert.VcIdeal.main (F := Ideal))) ⟨m, fun _ => 0, g⟩ (fun r => ∀ c : Dev Cert.VcIdeal.nD,
          r.2.mem ((c.tc : Thread Cert.VcIdeal.nD Cert.VcIdeal.τ).loc Cert.VcIdeal.main_v3) = v0 c
          ∧ r.2.mem ((c.tc : Thread Cert.VcIdeal.nD Cert.VcIdeal.τ).loc Cert.VcIdeal.main_arg0) = m ((c.tc : Thread Cert.VcIdeal.nD Cert.VcIdeal.τ).loc Cert.VcIdeal.main_arg0)
          ∧ r.2.mem ((c.tc : Thread Cert.VcIdeal.nD Cert.VcIdeal.τ).loc Cert.VcIdeal.main_arg1) = m ((c.tc : Thread Cert.VcIdeal.nD Cert.VcIdeal.τ).loc Cert.VcIdeal.main_arg1))
      ∧ θ_run (Cert.VcRefIdeal.defs (F := Ideal)) (onTc (τ := Cert.VcRefIdeal.τ) (Cert.VcRefIdeal.main (F := Ideal))) ⟨m', fun _ => 0, g'⟩ (fun r => ∀ c : Dev Cert.VcRefIdeal.nD,
          r.2.mem ((c.tc : Thread Cert.VcRefIdeal.nD Cert.VcRefIdeal.τ).loc Cert.VcRefIdeal.main_v2) = v0 c
          ∧ r.2.mem ((c.tc : Thread Cert.VcRefIdeal.nD Cert.VcRefIdeal.τ).loc Cert.VcRefIdeal.main_arg0) = m' ((c.tc : Thread Cert.VcRefIdeal.nD Cert.VcRefIdeal.τ).loc Cert.VcRefIdeal.main_arg0)
          ∧ r.2.mem ((c.tc : Thread Cert.VcRefIdeal.nD Cert.VcRefIdeal.τ).loc Cert.VcRefIdeal.main_arg1) = m' ((c.tc : Thread Cert.VcRefIdeal.nD Cert.VcRefIdeal.τ).loc Cert.VcRefIdeal.main_arg1))

def preserves_Ks_KsIdeal : Prop :=
  True

def algebraic_KsIdeal_KsRefIdeal [hKsIdeal : Cert.KsIdeal.Facts] [hKsRefIdeal : Cert.KsRefIdeal.Facts] : Prop :=
  ∀ (m : (ℓ : Loc Cert.KsIdeal.nD Cert.KsIdeal.τ Cert.KsIdeal.sig) → Buf (Elt Ideal) ℓ) (g : Dev Cert.KsIdeal.nD → PrngReg)
    (m' : (ℓ : Loc Cert.KsRefIdeal.nD Cert.KsRefIdeal.τ Cert.KsRefIdeal.sig) → Buf (Elt Ideal) ℓ) (g' : Dev Cert.KsRefIdeal.nD → PrngReg), Pre_KsIdeal m →
    (∀ c : Dev Cert.KsIdeal.nD,
      m' ((c.tc : Thread Cert.KsRefIdeal.nD Cert.KsRefIdeal.τ).loc Cert.KsRefIdeal.main_arg0) = m ((c.tc : Thread Cert.KsIdeal.nD Cert.KsIdeal.τ).loc Cert.KsIdeal.main_arg0)
      ∧ m' ((c.tc : Thread Cert.KsRefIdeal.nD Cert.KsRefIdeal.τ).loc Cert.KsRefIdeal.main_arg1) = m ((c.tc : Thread Cert.KsIdeal.nD Cert.KsIdeal.τ).loc Cert.KsIdeal.main_arg1)
      ∧ m' ((c.tc : Thread Cert.KsRefIdeal.nD Cert.KsRefIdeal.τ).loc Cert.KsRefIdeal.main_arg2) = m ((c.tc : Thread Cert.KsIdeal.nD Cert.KsIdeal.τ).loc Cert.KsIdeal.main_arg2)) →
    ∃ (v0 : (c : Dev Cert.KsIdeal.nD) → Buf (Elt Ideal) ((c.tc : Thread Cert.KsIdeal.nD Cert.KsIdeal.τ).loc Cert.KsIdeal.main_v4)),
      θ_run (Cert.KsIdeal.defs (F := Ideal)) (onTc (τ := Cert.KsIdeal.τ) (Cert.KsIdeal.main (F := Ideal))) ⟨m, fun _ => 0, g⟩ (fun r => ∀ c : Dev Cert.KsIdeal.nD,
          r.2.mem ((c.tc : Thread Cert.KsIdeal.nD Cert.KsIdeal.τ).loc Cert.KsIdeal.main_v4) = v0 c
          ∧ r.2.mem ((c.tc : Thread Cert.KsIdeal.nD Cert.KsIdeal.τ).loc Cert.KsIdeal.main_arg0) = m ((c.tc : Thread Cert.KsIdeal.nD Cert.KsIdeal.τ).loc Cert.KsIdeal.main_arg0)
          ∧ r.2.mem ((c.tc : Thread Cert.KsIdeal.nD Cert.KsIdeal.τ).loc Cert.KsIdeal.main_arg1) = m ((c.tc : Thread Cert.KsIdeal.nD Cert.KsIdeal.τ).loc Cert.KsIdeal.main_arg1)
          ∧ r.2.mem ((c.tc : Thread Cert.KsIdeal.nD Cert.KsIdeal.τ).loc Cert.KsIdeal.main_arg2) = m ((c.tc : Thread Cert.KsIdeal.nD Cert.KsIdeal.τ).loc Cert.KsIdeal.main_arg2))
      ∧ θ_run (Cert.KsRefIdeal.defs (F := Ideal)) (onTc (τ := Cert.KsRefIdeal.τ) (Cert.KsRefIdeal.main (F := Ideal))) ⟨m', fun _ => 0, g'⟩ (fun r => ∀ c : Dev Cert.KsRefIdeal.nD,
          r.2.mem ((c.tc : Thread Cert.KsRefIdeal.nD Cert.KsRefIdeal.τ).loc Cert.KsRefIdeal.main_v16) = v0 c
          ∧ r.2.mem ((c.tc : Thread Cert.KsRefIdeal.nD Cert.KsRefIdeal.τ).loc Cert.KsRefIdeal.main_arg0) = m' ((c.tc : Thread Cert.KsRefIdeal.nD Cert.KsRefIdeal.τ).loc Cert.KsRefIdeal.main_arg0)
          ∧ r.2.mem ((c.tc : Thread Cert.KsRefIdeal.nD Cert.KsRefIdeal.τ).loc Cert.KsRefIdeal.main_arg1) = m' ((c.tc : Thread Cert.KsRefIdeal.nD Cert.KsRefIdeal.τ).loc Cert.KsRefIdeal.main_arg1)
          ∧ r.2.mem ((c.tc : Thread Cert.KsRefIdeal.nD Cert.KsRefIdeal.τ).loc Cert.KsRefIdeal.main_arg2) = m' ((c.tc : Thread Cert.KsRefIdeal.nD Cert.KsRefIdeal.τ).loc Cert.KsRefIdeal.main_arg2))

def preserves_Vs_VsIdeal : Prop :=
  True

def algebraic_VsIdeal_VsRefIdeal [hVsIdeal : Cert.VsIdeal.Facts] [hVsRefIdeal : Cert.VsRefIdeal.Facts] : Prop :=
  ∀ (m : (ℓ : Loc Cert.VsIdeal.nD Cert.VsIdeal.τ Cert.VsIdeal.sig) → Buf (Elt Ideal) ℓ) (g : Dev Cert.VsIdeal.nD → PrngReg)
    (m' : (ℓ : Loc Cert.VsRefIdeal.nD Cert.VsRefIdeal.τ Cert.VsRefIdeal.sig) → Buf (Elt Ideal) ℓ) (g' : Dev Cert.VsRefIdeal.nD → PrngReg), Pre_VsIdeal m →
    (∀ c : Dev Cert.VsIdeal.nD,
      m' ((c.tc : Thread Cert.VsRefIdeal.nD Cert.VsRefIdeal.τ).loc Cert.VsRefIdeal.main_arg0) = m ((c.tc : Thread Cert.VsIdeal.nD Cert.VsIdeal.τ).loc Cert.VsIdeal.main_arg0)
      ∧ m' ((c.tc : Thread Cert.VsRefIdeal.nD Cert.VsRefIdeal.τ).loc Cert.VsRefIdeal.main_arg1) = m ((c.tc : Thread Cert.VsIdeal.nD Cert.VsIdeal.τ).loc Cert.VsIdeal.main_arg1)) →
    ∃ (v0 : (c : Dev Cert.VsIdeal.nD) → Buf (Elt Ideal) ((c.tc : Thread Cert.VsIdeal.nD Cert.VsIdeal.τ).loc Cert.VsIdeal.main_v3)),
      θ_run (Cert.VsIdeal.defs (F := Ideal)) (onTc (τ := Cert.VsIdeal.τ) (Cert.VsIdeal.main (F := Ideal))) ⟨m, fun _ => 0, g⟩ (fun r => ∀ c : Dev Cert.VsIdeal.nD,
          r.2.mem ((c.tc : Thread Cert.VsIdeal.nD Cert.VsIdeal.τ).loc Cert.VsIdeal.main_v3) = v0 c
          ∧ r.2.mem ((c.tc : Thread Cert.VsIdeal.nD Cert.VsIdeal.τ).loc Cert.VsIdeal.main_arg0) = m ((c.tc : Thread Cert.VsIdeal.nD Cert.VsIdeal.τ).loc Cert.VsIdeal.main_arg0)
          ∧ r.2.mem ((c.tc : Thread Cert.VsIdeal.nD Cert.VsIdeal.τ).loc Cert.VsIdeal.main_arg1) = m ((c.tc : Thread Cert.VsIdeal.nD Cert.VsIdeal.τ).loc Cert.VsIdeal.main_arg1))
      ∧ θ_run (Cert.VsRefIdeal.defs (F := Ideal)) (onTc (τ := Cert.VsRefIdeal.τ) (Cert.VsRefIdeal.main (F := Ideal))) ⟨m', fun _ => 0, g'⟩ (fun r => ∀ c : Dev Cert.VsRefIdeal.nD,
          r.2.mem ((c.tc : Thread Cert.VsRefIdeal.nD Cert.VsRefIdeal.τ).loc Cert.VsRefIdeal.main_v2) = v0 c
          ∧ r.2.mem ((c.tc : Thread Cert.VsRefIdeal.nD Cert.VsRefIdeal.τ).loc Cert.VsRefIdeal.main_arg0) = m' ((c.tc : Thread Cert.VsRefIdeal.nD Cert.VsRefIdeal.τ).loc Cert.VsRefIdeal.main_arg0)
          ∧ r.2.mem ((c.tc : Thread Cert.VsRefIdeal.nD Cert.VsRefIdeal.τ).loc Cert.VsRefIdeal.main_arg1) = m' ((c.tc : Thread Cert.VsRefIdeal.nD Cert.VsRefIdeal.τ).loc Cert.VsRefIdeal.main_arg1))

def preserves_Kw_KwIdeal : Prop :=
  True

def algebraic_KwIdeal_KwRefIdeal [hKwIdeal : Cert.KwIdeal.Facts] [hKwRefIdeal : Cert.KwRefIdeal.Facts] : Prop :=
  ∀ (m : (ℓ : Loc Cert.KwIdeal.nD Cert.KwIdeal.τ Cert.KwIdeal.sig) → Buf (Elt Ideal) ℓ) (g : Dev Cert.KwIdeal.nD → PrngReg)
    (m' : (ℓ : Loc Cert.KwRefIdeal.nD Cert.KwRefIdeal.τ Cert.KwRefIdeal.sig) → Buf (Elt Ideal) ℓ) (g' : Dev Cert.KwRefIdeal.nD → PrngReg), Pre_KwIdeal m →
    (∀ c : Dev Cert.KwIdeal.nD,
      m' ((c.tc : Thread Cert.KwRefIdeal.nD Cert.KwRefIdeal.τ).loc Cert.KwRefIdeal.main_arg0) = m ((c.tc : Thread Cert.KwIdeal.nD Cert.KwIdeal.τ).loc Cert.KwIdeal.main_arg0)
      ∧ m' ((c.tc : Thread Cert.KwRefIdeal.nD Cert.KwRefIdeal.τ).loc Cert.KwRefIdeal.main_arg1) = m ((c.tc : Thread Cert.KwIdeal.nD Cert.KwIdeal.τ).loc Cert.KwIdeal.main_arg1)
      ∧ m' ((c.tc : Thread Cert.KwRefIdeal.nD Cert.KwRefIdeal.τ).loc Cert.KwRefIdeal.main_arg2) = m ((c.tc : Thread Cert.KwIdeal.nD Cert.KwIdeal.τ).loc Cert.KwIdeal.main_arg2)) →
    ∃ (v0 : (c : Dev Cert.KwIdeal.nD) → Buf (Elt Ideal) ((c.tc : Thread Cert.KwIdeal.nD Cert.KwIdeal.τ).loc Cert.KwIdeal.main_v4)),
      θ_run (Cert.KwIdeal.defs (F := Ideal)) (onTc (τ := Cert.KwIdeal.τ) (Cert.KwIdeal.main (F := Ideal))) ⟨m, fun _ => 0, g⟩ (fun r => ∀ c : Dev Cert.KwIdeal.nD,
          r.2.mem ((c.tc : Thread Cert.KwIdeal.nD Cert.KwIdeal.τ).loc Cert.KwIdeal.main_v4) = v0 c
          ∧ r.2.mem ((c.tc : Thread Cert.KwIdeal.nD Cert.KwIdeal.τ).loc Cert.KwIdeal.main_arg0) = m ((c.tc : Thread Cert.KwIdeal.nD Cert.KwIdeal.τ).loc Cert.KwIdeal.main_arg0)
          ∧ r.2.mem ((c.tc : Thread Cert.KwIdeal.nD Cert.KwIdeal.τ).loc Cert.KwIdeal.main_arg1) = m ((c.tc : Thread Cert.KwIdeal.nD Cert.KwIdeal.τ).loc Cert.KwIdeal.main_arg1)
          ∧ r.2.mem ((c.tc : Thread Cert.KwIdeal.nD Cert.KwIdeal.τ).loc Cert.KwIdeal.main_arg2) = m ((c.tc : Thread Cert.KwIdeal.nD Cert.KwIdeal.τ).loc Cert.KwIdeal.main_arg2))
      ∧ θ_run (Cert.KwRefIdeal.defs (F := Ideal)) (onTc (τ := Cert.KwRefIdeal.τ) (Cert.KwRefIdeal.main (F := Ideal))) ⟨m', fun _ => 0, g'⟩ (fun r => ∀ c : Dev Cert.KwRefIdeal.nD,
          r.2.mem ((c.tc : Thread Cert.KwRefIdeal.nD Cert.KwRefIdeal.τ).loc Cert.KwRefIdeal.main_v16) = v0 c
          ∧ r.2.mem ((c.tc : Thread Cert.KwRefIdeal.nD Cert.KwRefIdeal.τ).loc Cert.KwRefIdeal.main_arg0) = m' ((c.tc : Thread Cert.KwRefIdeal.nD Cert.KwRefIdeal.τ).loc Cert.KwRefIdeal.main_arg0)
          ∧ r.2.mem ((c.tc : Thread Cert.KwRefIdeal.nD Cert.KwRefIdeal.τ).loc Cert.KwRefIdeal.main_arg1) = m' ((c.tc : Thread Cert.KwRefIdeal.nD Cert.KwRefIdeal.τ).loc Cert.KwRefIdeal.main_arg1)
          ∧ r.2.mem ((c.tc : Thread Cert.KwRefIdeal.nD Cert.KwRefIdeal.τ).loc Cert.KwRefIdeal.main_arg2) = m' ((c.tc : Thread Cert.KwRefIdeal.nD Cert.KwRefIdeal.τ).loc Cert.KwRefIdeal.main_arg2))

def preserves_Vw_VwIdeal : Prop :=
  True

def algebraic_VwIdeal_VwRefIdeal [hVwIdeal : Cert.VwIdeal.Facts] [hVwRefIdeal : Cert.VwRefIdeal.Facts] : Prop :=
  ∀ (m : (ℓ : Loc Cert.VwIdeal.nD Cert.VwIdeal.τ Cert.VwIdeal.sig) → Buf (Elt Ideal) ℓ) (g : Dev Cert.VwIdeal.nD → PrngReg)
    (m' : (ℓ : Loc Cert.VwRefIdeal.nD Cert.VwRefIdeal.τ Cert.VwRefIdeal.sig) → Buf (Elt Ideal) ℓ) (g' : Dev Cert.VwRefIdeal.nD → PrngReg), Pre_VwIdeal m →
    (∀ c : Dev Cert.VwIdeal.nD,
      m' ((c.tc : Thread Cert.VwRefIdeal.nD Cert.VwRefIdeal.τ).loc Cert.VwRefIdeal.main_arg0) = m ((c.tc : Thread Cert.VwIdeal.nD Cert.VwIdeal.τ).loc Cert.VwIdeal.main_arg0)
      ∧ m' ((c.tc : Thread Cert.VwRefIdeal.nD Cert.VwRefIdeal.τ).loc Cert.VwRefIdeal.main_arg1) = m ((c.tc : Thread Cert.VwIdeal.nD Cert.VwIdeal.τ).loc Cert.VwIdeal.main_arg1)) →
    ∃ (v0 : (c : Dev Cert.VwIdeal.nD) → Buf (Elt Ideal) ((c.tc : Thread Cert.VwIdeal.nD Cert.VwIdeal.τ).loc Cert.VwIdeal.main_v3)),
      θ_run (Cert.VwIdeal.defs (F := Ideal)) (onTc (τ := Cert.VwIdeal.τ) (Cert.VwIdeal.main (F := Ideal))) ⟨m, fun _ => 0, g⟩ (fun r => ∀ c : Dev Cert.VwIdeal.nD,
          r.2.mem ((c.tc : Thread Cert.VwIdeal.nD Cert.VwIdeal.τ).loc Cert.VwIdeal.main_v3) = v0 c
          ∧ r.2.mem ((c.tc : Thread Cert.VwIdeal.nD Cert.VwIdeal.τ).loc Cert.VwIdeal.main_arg0) = m ((c.tc : Thread Cert.VwIdeal.nD Cert.VwIdeal.τ).loc Cert.VwIdeal.main_arg0)
          ∧ r.2.mem ((c.tc : Thread Cert.VwIdeal.nD Cert.VwIdeal.τ).loc Cert.VwIdeal.main_arg1) = m ((c.tc : Thread Cert.VwIdeal.nD Cert.VwIdeal.τ).loc Cert.VwIdeal.main_arg1))
      ∧ θ_run (Cert.VwRefIdeal.defs (F := Ideal)) (onTc (τ := Cert.VwRefIdeal.τ) (Cert.VwRefIdeal.main (F := Ideal))) ⟨m', fun _ => 0, g'⟩ (fun r => ∀ c : Dev Cert.VwRefIdeal.nD,
          r.2.mem ((c.tc : Thread Cert.VwRefIdeal.nD Cert.VwRefIdeal.τ).loc Cert.VwRefIdeal.main_v2) = v0 c
          ∧ r.2.mem ((c.tc : Thread Cert.VwRefIdeal.nD Cert.VwRefIdeal.τ).loc Cert.VwRefIdeal.main_arg0) = m' ((c.tc : Thread Cert.VwRefIdeal.nD Cert.VwRefIdeal.τ).loc Cert.VwRefIdeal.main_arg0)
          ∧ r.2.mem ((c.tc : Thread Cert.VwRefIdeal.nD Cert.VwRefIdeal.τ).loc Cert.VwRefIdeal.main_arg1) = m' ((c.tc : Thread Cert.VwRefIdeal.nD Cert.VwRefIdeal.τ).loc Cert.VwRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v22) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_DownS_DownSIdeal : Prop :=
  True

def algebraic_DownSIdeal_DownSRefIdeal [hDownSIdeal : Cert.DownSIdeal.Facts] [hDownSRefIdeal : Cert.DownSRefIdeal.Facts] : Prop :=
  ∀ (m : (ℓ : Loc Cert.DownSIdeal.nD Cert.DownSIdeal.τ Cert.DownSIdeal.sig) → Buf (Elt Ideal) ℓ) (g : Dev Cert.DownSIdeal.nD → PrngReg)
    (m' : (ℓ : Loc Cert.DownSRefIdeal.nD Cert.DownSRefIdeal.τ Cert.DownSRefIdeal.sig) → Buf (Elt Ideal) ℓ) (g' : Dev Cert.DownSRefIdeal.nD → PrngReg), Pre_DownSIdeal m →
    (∀ c : Dev Cert.DownSIdeal.nD,
      m' ((c.tc : Thread Cert.DownSRefIdeal.nD Cert.DownSRefIdeal.τ).loc Cert.DownSRefIdeal.main_arg0) = m ((c.tc : Thread Cert.DownSIdeal.nD Cert.DownSIdeal.τ).loc Cert.DownSIdeal.main_arg0)
      ∧ m' ((c.tc : Thread Cert.DownSRefIdeal.nD Cert.DownSRefIdeal.τ).loc Cert.DownSRefIdeal.main_arg1) = m ((c.tc : Thread Cert.DownSIdeal.nD Cert.DownSIdeal.τ).loc Cert.DownSIdeal.main_arg1)
      ∧ m' ((c.tc : Thread Cert.DownSRefIdeal.nD Cert.DownSRefIdeal.τ).loc Cert.DownSRefIdeal.main_arg2) = m ((c.tc : Thread Cert.DownSIdeal.nD Cert.DownSIdeal.τ).loc Cert.DownSIdeal.main_arg2)
      ∧ m' ((c.tc : Thread Cert.DownSRefIdeal.nD Cert.DownSRefIdeal.τ).loc Cert.DownSRefIdeal.main_arg3) = m ((c.tc : Thread Cert.DownSIdeal.nD Cert.DownSIdeal.τ).loc Cert.DownSIdeal.main_arg3)) →
    ∃ (v0 : (c : Dev Cert.DownSIdeal.nD) → Buf (Elt Ideal) ((c.tc : Thread Cert.DownSIdeal.nD Cert.DownSIdeal.τ).loc Cert.DownSIdeal.main_v4)),
      θ_run (Cert.DownSIdeal.defs (F := Ideal)) (onTc (τ := Cert.DownSIdeal.τ) (Cert.DownSIdeal.main (F := Ideal))) ⟨m, fun _ => 0, g⟩ (fun r => ∀ c : Dev Cert.DownSIdeal.nD,
          r.2.mem ((c.tc : Thread Cert.DownSIdeal.nD Cert.DownSIdeal.τ).loc Cert.DownSIdeal.main_v4) = v0 c
          ∧ r.2.mem ((c.tc : Thread Cert.DownSIdeal.nD Cert.DownSIdeal.τ).loc Cert.DownSIdeal.main_arg0) = m ((c.tc : Thread Cert.DownSIdeal.nD Cert.DownSIdeal.τ).loc Cert.DownSIdeal.main_arg0)
          ∧ r.2.mem ((c.tc : Thread Cert.DownSIdeal.nD Cert.DownSIdeal.τ).loc Cert.DownSIdeal.main_arg1) = m ((c.tc : Thread Cert.DownSIdeal.nD Cert.DownSIdeal.τ).loc Cert.DownSIdeal.main_arg1)
          ∧ r.2.mem ((c.tc : Thread Cert.DownSIdeal.nD Cert.DownSIdeal.τ).loc Cert.DownSIdeal.main_arg2) = m ((c.tc : Thread Cert.DownSIdeal.nD Cert.DownSIdeal.τ).loc Cert.DownSIdeal.main_arg2)
          ∧ r.2.mem ((c.tc : Thread Cert.DownSIdeal.nD Cert.DownSIdeal.τ).loc Cert.DownSIdeal.main_arg3) = m ((c.tc : Thread Cert.DownSIdeal.nD Cert.DownSIdeal.τ).loc Cert.DownSIdeal.main_arg3))
      ∧ θ_run (Cert.DownSRefIdeal.defs (F := Ideal)) (onTc (τ := Cert.DownSRefIdeal.τ) (Cert.DownSRefIdeal.main (F := Ideal))) ⟨m', fun _ => 0, g'⟩ (fun r => ∀ c : Dev Cert.DownSRefIdeal.nD,
          r.2.mem ((c.tc : Thread Cert.DownSRefIdeal.nD Cert.DownSRefIdeal.τ).loc Cert.DownSRefIdeal.main_v4) = v0 c
          ∧ r.2.mem ((c.tc : Thread Cert.DownSRefIdeal.nD Cert.DownSRefIdeal.τ).loc Cert.DownSRefIdeal.main_arg0) = m' ((c.tc : Thread Cert.DownSRefIdeal.nD Cert.DownSRefIdeal.τ).loc Cert.DownSRefIdeal.main_arg0)
          ∧ r.2.mem ((c.tc : Thread Cert.DownSRefIdeal.nD Cert.DownSRefIdeal.τ).loc Cert.DownSRefIdeal.main_arg1) = m' ((c.tc : Thread Cert.DownSRefIdeal.nD Cert.DownSRefIdeal.τ).loc Cert.DownSRefIdeal.main_arg1)
          ∧ r.2.mem ((c.tc : Thread Cert.DownSRefIdeal.nD Cert.DownSRefIdeal.τ).loc Cert.DownSRefIdeal.main_arg2) = m' ((c.tc : Thread Cert.DownSRefIdeal.nD Cert.DownSRefIdeal.τ).loc Cert.DownSRefIdeal.main_arg2)
          ∧ r.2.mem ((c.tc : Thread Cert.DownSRefIdeal.nD Cert.DownSRefIdeal.τ).loc Cert.DownSRefIdeal.main_arg3) = m' ((c.tc : Thread Cert.DownSRefIdeal.nD Cert.DownSRefIdeal.τ).loc Cert.DownSRefIdeal.main_arg3))

def preserves_KcS_KcSIdeal : Prop :=
  True

def algebraic_KcSIdeal_KcSRefIdeal [hKcSIdeal : Cert.KcSIdeal.Facts] [hKcSRefIdeal : Cert.KcSRefIdeal.Facts] : Prop :=
  ∀ (m : (ℓ : Loc Cert.KcSIdeal.nD Cert.KcSIdeal.τ Cert.KcSIdeal.sig) → Buf (Elt Ideal) ℓ) (g : Dev Cert.KcSIdeal.nD → PrngReg)
    (m' : (ℓ : Loc Cert.KcSRefIdeal.nD Cert.KcSRefIdeal.τ Cert.KcSRefIdeal.sig) → Buf (Elt Ideal) ℓ) (g' : Dev Cert.KcSRefIdeal.nD → PrngReg), Pre_KcSIdeal m →
    (∀ c : Dev Cert.KcSIdeal.nD,
      m' ((c.tc : Thread Cert.KcSRefIdeal.nD Cert.KcSRefIdeal.τ).loc Cert.KcSRefIdeal.main_arg0) = m ((c.tc : Thread Cert.KcSIdeal.nD Cert.KcSIdeal.τ).loc Cert.KcSIdeal.main_arg0)
      ∧ m' ((c.tc : Thread Cert.KcSRefIdeal.nD Cert.KcSRefIdeal.τ).loc Cert.KcSRefIdeal.main_arg1) = m ((c.tc : Thread Cert.KcSIdeal.nD Cert.KcSIdeal.τ).loc Cert.KcSIdeal.main_arg1)) →
    ∃ (v0 : (c : Dev Cert.KcSIdeal.nD) → Buf (Elt Ideal) ((c.tc : Thread Cert.KcSIdeal.nD Cert.KcSIdeal.τ).loc Cert.KcSIdeal.main_v3)),
      θ_run (Cert.KcSIdeal.defs (F := Ideal)) (onTc (τ := Cert.KcSIdeal.τ) (Cert.KcSIdeal.main (F := Ideal))) ⟨m, fun _ => 0, g⟩ (fun r => ∀ c : Dev Cert.KcSIdeal.nD,
          r.2.mem ((c.tc : Thread Cert.KcSIdeal.nD Cert.KcSIdeal.τ).loc Cert.KcSIdeal.main_v3) = v0 c
          ∧ r.2.mem ((c.tc : Thread Cert.KcSIdeal.nD Cert.KcSIdeal.τ).loc Cert.KcSIdeal.main_arg0) = m ((c.tc : Thread Cert.KcSIdeal.nD Cert.KcSIdeal.τ).loc Cert.KcSIdeal.main_arg0)
          ∧ r.2.mem ((c.tc : Thread Cert.KcSIdeal.nD Cert.KcSIdeal.τ).loc Cert.KcSIdeal.main_arg1) = m ((c.tc : Thread Cert.KcSIdeal.nD Cert.KcSIdeal.τ).loc Cert.KcSIdeal.main_arg1))
      ∧ θ_run (Cert.KcSRefIdeal.defs (F := Ideal)) (onTc (τ := Cert.KcSRefIdeal.τ) (Cert.KcSRefIdeal.main (F := Ideal))) ⟨m', fun _ => 0, g'⟩ (fun r => ∀ c : Dev Cert.KcSRefIdeal.nD,
          r.2.mem ((c.tc : Thread Cert.KcSRefIdeal.nD Cert.KcSRefIdeal.τ).loc Cert.KcSRefIdeal.main_v2) = v0 c
          ∧ r.2.mem ((c.tc : Thread Cert.KcSRefIdeal.nD Cert.KcSRefIdeal.τ).loc Cert.KcSRefIdeal.main_arg0) = m' ((c.tc : Thread Cert.KcSRefIdeal.nD Cert.KcSRefIdeal.τ).loc Cert.KcSRefIdeal.main_arg0)
          ∧ r.2.mem ((c.tc : Thread Cert.KcSRefIdeal.nD Cert.KcSRefIdeal.τ).loc Cert.KcSRefIdeal.main_arg1) = m' ((c.tc : Thread Cert.KcSRefIdeal.nD Cert.KcSRefIdeal.τ).loc Cert.KcSRefIdeal.main_arg1))

def preserves_VcS_VcSIdeal : Prop :=
  True

def algebraic_VcSIdeal_VcSRefIdeal [hVcSIdeal : Cert.VcSIdeal.Facts] [hVcSRefIdeal : Cert.VcSRefIdeal.Facts] : Prop :=
  ∀ (m : (ℓ : Loc Cert.VcSIdeal.nD Cert.VcSIdeal.τ Cert.VcSIdeal.sig) → Buf (Elt Ideal) ℓ) (g : Dev Cert.VcSIdeal.nD → PrngReg)
    (m' : (ℓ : Loc Cert.VcSRefIdeal.nD Cert.VcSRefIdeal.τ Cert.VcSRefIdeal.sig) → Buf (Elt Ideal) ℓ) (g' : Dev Cert.VcSRefIdeal.nD → PrngReg), Pre_VcSIdeal m →
    (∀ c : Dev Cert.VcSIdeal.nD,
      m' ((c.tc : Thread Cert.VcSRefIdeal.nD Cert.VcSRefIdeal.τ).loc Cert.VcSRefIdeal.main_arg0) = m ((c.tc : Thread Cert.VcSIdeal.nD Cert.VcSIdeal.τ).loc Cert.VcSIdeal.main_arg0)
      ∧ m' ((c.tc : Thread Cert.VcSRefIdeal.nD Cert.VcSRefIdeal.τ).loc Cert.VcSRefIdeal.main_arg1) = m ((c.tc : Thread Cert.VcSIdeal.nD Cert.VcSIdeal.τ).loc Cert.VcSIdeal.main_arg1)) →
    ∃ (v0 : (c : Dev Cert.VcSIdeal.nD) → Buf (Elt Ideal) ((c.tc : Thread Cert.VcSIdeal.nD Cert.VcSIdeal.τ).loc Cert.VcSIdeal.main_v3)),
      θ_run (Cert.VcSIdeal.defs (F := Ideal)) (onTc (τ := Cert.VcSIdeal.τ) (Cert.VcSIdeal.main (F := Ideal))) ⟨m, fun _ => 0, g⟩ (fun r => ∀ c : Dev Cert.VcSIdeal.nD,
          r.2.mem ((c.tc : Thread Cert.VcSIdeal.nD Cert.VcSIdeal.τ).loc Cert.VcSIdeal.main_v3) = v0 c
          ∧ r.2.mem ((c.tc : Thread Cert.VcSIdeal.nD Cert.VcSIdeal.τ).loc Cert.VcSIdeal.main_arg0) = m ((c.tc : Thread Cert.VcSIdeal.nD Cert.VcSIdeal.τ).loc Cert.VcSIdeal.main_arg0)
          ∧ r.2.mem ((c.tc : Thread Cert.VcSIdeal.nD Cert.VcSIdeal.τ).loc Cert.VcSIdeal.main_arg1) = m ((c.tc : Thread Cert.VcSIdeal.nD Cert.VcSIdeal.τ).loc Cert.VcSIdeal.main_arg1))
      ∧ θ_run (Cert.VcSRefIdeal.defs (F := Ideal)) (onTc (τ := Cert.VcSRefIdeal.τ) (Cert.VcSRefIdeal.main (F := Ideal))) ⟨m', fun _ => 0, g'⟩ (fun r => ∀ c : Dev Cert.VcSRefIdeal.nD,
          r.2.mem ((c.tc : Thread Cert.VcSRefIdeal.nD Cert.VcSRefIdeal.τ).loc Cert.VcSRefIdeal.main_v2) = v0 c
          ∧ r.2.mem ((c.tc : Thread Cert.VcSRefIdeal.nD Cert.VcSRefIdeal.τ).loc Cert.VcSRefIdeal.main_arg0) = m' ((c.tc : Thread Cert.VcSRefIdeal.nD Cert.VcSRefIdeal.τ).loc Cert.VcSRefIdeal.main_arg0)
          ∧ r.2.mem ((c.tc : Thread Cert.VcSRefIdeal.nD Cert.VcSRefIdeal.τ).loc Cert.VcSRefIdeal.main_arg1) = m' ((c.tc : Thread Cert.VcSRefIdeal.nD Cert.VcSRefIdeal.τ).loc Cert.VcSRefIdeal.main_arg1))

def preserves_VsS_VsSIdeal : Prop :=
  True

def algebraic_VsSIdeal_VsSRefIdeal [hVsSIdeal : Cert.VsSIdeal.Facts] [hVsSRefIdeal : Cert.VsSRefIdeal.Facts] : Prop :=
  ∀ (m : (ℓ : Loc Cert.VsSIdeal.nD Cert.VsSIdeal.τ Cert.VsSIdeal.sig) → Buf (Elt Ideal) ℓ) (g : Dev Cert.VsSIdeal.nD → PrngReg)
    (m' : (ℓ : Loc Cert.VsSRefIdeal.nD Cert.VsSRefIdeal.τ Cert.VsSRefIdeal.sig) → Buf (Elt Ideal) ℓ) (g' : Dev Cert.VsSRefIdeal.nD → PrngReg), Pre_VsSIdeal m →
    (∀ c : Dev Cert.VsSIdeal.nD,
      m' ((c.tc : Thread Cert.VsSRefIdeal.nD Cert.VsSRefIdeal.τ).loc Cert.VsSRefIdeal.main_arg0) = m ((c.tc : Thread Cert.VsSIdeal.nD Cert.VsSIdeal.τ).loc Cert.VsSIdeal.main_arg0)
      ∧ m' ((c.tc : Thread Cert.VsSRefIdeal.nD Cert.VsSRefIdeal.τ).loc Cert.VsSRefIdeal.main_arg1) = m ((c.tc : Thread Cert.VsSIdeal.nD Cert.VsSIdeal.τ).loc Cert.VsSIdeal.main_arg1)) →
    ∃ (v0 : (c : Dev Cert.VsSIdeal.nD) → Buf (Elt Ideal) ((c.tc : Thread Cert.VsSIdeal.nD Cert.VsSIdeal.τ).loc Cert.VsSIdeal.main_v3)),
      θ_run (Cert.VsSIdeal.defs (F := Ideal)) (onTc (τ := Cert.VsSIdeal.τ) (Cert.VsSIdeal.main (F := Ideal))) ⟨m, fun _ => 0, g⟩ (fun r => ∀ c : Dev Cert.VsSIdeal.nD,
          r.2.mem ((c.tc : Thread Cert.VsSIdeal.nD Cert.VsSIdeal.τ).loc Cert.VsSIdeal.main_v3) = v0 c
          ∧ r.2.mem ((c.tc : Thread Cert.VsSIdeal.nD Cert.VsSIdeal.τ).loc Cert.VsSIdeal.main_arg0) = m ((c.tc : Thread Cert.VsSIdeal.nD Cert.VsSIdeal.τ).loc Cert.VsSIdeal.main_arg0)
          ∧ r.2.mem ((c.tc : Thread Cert.VsSIdeal.nD Cert.VsSIdeal.τ).loc Cert.VsSIdeal.main_arg1) = m ((c.tc : Thread Cert.VsSIdeal.nD Cert.VsSIdeal.τ).loc Cert.VsSIdeal.main_arg1))
      ∧ θ_run (Cert.VsSRefIdeal.defs (F := Ideal)) (onTc (τ := Cert.VsSRefIdeal.τ) (Cert.VsSRefIdeal.main (F := Ideal))) ⟨m', fun _ => 0, g'⟩ (fun r => ∀ c : Dev Cert.VsSRefIdeal.nD,
          r.2.mem ((c.tc : Thread Cert.VsSRefIdeal.nD Cert.VsSRefIdeal.τ).loc Cert.VsSRefIdeal.main_v2) = v0 c
          ∧ r.2.mem ((c.tc : Thread Cert.VsSRefIdeal.nD Cert.VsSRefIdeal.τ).loc Cert.VsSRefIdeal.main_arg0) = m' ((c.tc : Thread Cert.VsSRefIdeal.nD Cert.VsSRefIdeal.τ).loc Cert.VsSRefIdeal.main_arg0)
          ∧ r.2.mem ((c.tc : Thread Cert.VsSRefIdeal.nD Cert.VsSRefIdeal.τ).loc Cert.VsSRefIdeal.main_arg1) = m' ((c.tc : Thread Cert.VsSRefIdeal.nD Cert.VsSRefIdeal.τ).loc Cert.VsSRefIdeal.main_arg1))

def preserves_KsS_KsSIdeal : Prop :=
  True

def algebraic_KsSIdeal_KsSRefIdeal [hKsSIdeal : Cert.KsSIdeal.Facts] [hKsSRefIdeal : Cert.KsSRefIdeal.Facts] : Prop :=
  ∀ (m : (ℓ : Loc Cert.KsSIdeal.nD Cert.KsSIdeal.τ Cert.KsSIdeal.sig) → Buf (Elt Ideal) ℓ) (g : Dev Cert.KsSIdeal.nD → PrngReg)
    (m' : (ℓ : Loc Cert.KsSRefIdeal.nD Cert.KsSRefIdeal.τ Cert.KsSRefIdeal.sig) → Buf (Elt Ideal) ℓ) (g' : Dev Cert.KsSRefIdeal.nD → PrngReg), Pre_KsSIdeal m →
    (∀ c : Dev Cert.KsSIdeal.nD,
      m' ((c.tc : Thread Cert.KsSRefIdeal.nD Cert.KsSRefIdeal.τ).loc Cert.KsSRefIdeal.main_arg0) = m ((c.tc : Thread Cert.KsSIdeal.nD Cert.KsSIdeal.τ).loc Cert.KsSIdeal.main_arg0)
      ∧ m' ((c.tc : Thread Cert.KsSRefIdeal.nD Cert.KsSRefIdeal.τ).loc Cert.KsSRefIdeal.main_arg1) = m ((c.tc : Thread Cert.KsSIdeal.nD Cert.KsSIdeal.τ).loc Cert.KsSIdeal.main_arg1)
      ∧ m' ((c.tc : Thread Cert.KsSRefIdeal.nD Cert.KsSRefIdeal.τ).loc Cert.KsSRefIdeal.main_arg2) = m ((c.tc : Thread Cert.KsSIdeal.nD Cert.KsSIdeal.τ).loc Cert.KsSIdeal.main_arg2)) →
    ∃ (v0 : (c : Dev Cert.KsSIdeal.nD) → Buf (Elt Ideal) ((c.tc : Thread Cert.KsSIdeal.nD Cert.KsSIdeal.τ).loc Cert.KsSIdeal.main_v4)),
      θ_run (Cert.KsSIdeal.defs (F := Ideal)) (onTc (τ := Cert.KsSIdeal.τ) (Cert.KsSIdeal.main (F := Ideal))) ⟨m, fun _ => 0, g⟩ (fun r => ∀ c : Dev Cert.KsSIdeal.nD,
          r.2.mem ((c.tc : Thread Cert.KsSIdeal.nD Cert.KsSIdeal.τ).loc Cert.KsSIdeal.main_v4) = v0 c
          ∧ r.2.mem ((c.tc : Thread Cert.KsSIdeal.nD Cert.KsSIdeal.τ).loc Cert.KsSIdeal.main_arg0) = m ((c.tc : Thread Cert.KsSIdeal.nD Cert.KsSIdeal.τ).loc Cert.KsSIdeal.main_arg0)
          ∧ r.2.mem ((c.tc : Thread Cert.KsSIdeal.nD Cert.KsSIdeal.τ).loc Cert.KsSIdeal.main_arg1) = m ((c.tc : Thread Cert.KsSIdeal.nD Cert.KsSIdeal.τ).loc Cert.KsSIdeal.main_arg1)
          ∧ r.2.mem ((c.tc : Thread Cert.KsSIdeal.nD Cert.KsSIdeal.τ).loc Cert.KsSIdeal.main_arg2) = m ((c.tc : Thread Cert.KsSIdeal.nD Cert.KsSIdeal.τ).loc Cert.KsSIdeal.main_arg2))
      ∧ θ_run (Cert.KsSRefIdeal.defs (F := Ideal)) (onTc (τ := Cert.KsSRefIdeal.τ) (Cert.KsSRefIdeal.main (F := Ideal))) ⟨m', fun _ => 0, g'⟩ (fun r => ∀ c : Dev Cert.KsSRefIdeal.nD,
          r.2.mem ((c.tc : Thread Cert.KsSRefIdeal.nD Cert.KsSRefIdeal.τ).loc Cert.KsSRefIdeal.main_v16) = v0 c
          ∧ r.2.mem ((c.tc : Thread Cert.KsSRefIdeal.nD Cert.KsSRefIdeal.τ).loc Cert.KsSRefIdeal.main_arg0) = m' ((c.tc : Thread Cert.KsSRefIdeal.nD Cert.KsSRefIdeal.τ).loc Cert.KsSRefIdeal.main_arg0)
          ∧ r.2.mem ((c.tc : Thread Cert.KsSRefIdeal.nD Cert.KsSRefIdeal.τ).loc Cert.KsSRefIdeal.main_arg1) = m' ((c.tc : Thread Cert.KsSRefIdeal.nD Cert.KsSRefIdeal.τ).loc Cert.KsSRefIdeal.main_arg1)
          ∧ r.2.mem ((c.tc : Thread Cert.KsSRefIdeal.nD Cert.KsSRefIdeal.τ).loc Cert.KsSRefIdeal.main_arg2) = m' ((c.tc : Thread Cert.KsSRefIdeal.nD Cert.KsSRefIdeal.τ).loc Cert.KsSRefIdeal.main_arg2))

def preserves_CompV_CompVIdeal : Prop :=
  True

def algebraic_CompVIdeal_CompVRefIdeal [hCompVIdeal : Cert.CompVIdeal.Facts] [hCompVRefIdeal : Cert.CompVRefIdeal.Facts] : Prop :=
  ∀ (m : (ℓ : Loc Cert.CompVIdeal.nD Cert.CompVIdeal.τ Cert.CompVIdeal.sig) → Buf (Elt Ideal) ℓ) (g : Dev Cert.CompVIdeal.nD → PrngReg)
    (m' : (ℓ : Loc Cert.CompVRefIdeal.nD Cert.CompVRefIdeal.τ Cert.CompVRefIdeal.sig) → Buf (Elt Ideal) ℓ) (g' : Dev Cert.CompVRefIdeal.nD → PrngReg), Pre_CompVIdeal m →
    (∀ c : Dev Cert.CompVIdeal.nD,
      m' ((c.tc : Thread Cert.CompVRefIdeal.nD Cert.CompVRefIdeal.τ).loc Cert.CompVRefIdeal.main_arg0) = m ((c.tc : Thread Cert.CompVIdeal.nD Cert.CompVIdeal.τ).loc Cert.CompVIdeal.main_arg0)
      ∧ m' ((c.tc : Thread Cert.CompVRefIdeal.nD Cert.CompVRefIdeal.τ).loc Cert.CompVRefIdeal.main_arg1) = m ((c.tc : Thread Cert.CompVIdeal.nD Cert.CompVIdeal.τ).loc Cert.CompVIdeal.main_arg1)
      ∧ m' ((c.tc : Thread Cert.CompVRefIdeal.nD Cert.CompVRefIdeal.τ).loc Cert.CompVRefIdeal.main_arg2) = m ((c.tc : Thread Cert.CompVIdeal.nD Cert.CompVIdeal.τ).loc Cert.CompVIdeal.main_arg2)) →
    ∃ (v0 : (c : Dev Cert.CompVIdeal.nD) → Buf (Elt Ideal) ((c.tc : Thread Cert.CompVIdeal.nD Cert.CompVIdeal.τ).loc Cert.CompVIdeal.main_v8)),
      θ_run (Cert.CompVIdeal.defs (F := Ideal)) (onTc (τ := Cert.CompVIdeal.τ) (Cert.CompVIdeal.main (F := Ideal))) ⟨m, fun _ => 0, g⟩ (fun r => ∀ c : Dev Cert.CompVIdeal.nD,
          r.2.mem ((c.tc : Thread Cert.CompVIdeal.nD Cert.CompVIdeal.τ).loc Cert.CompVIdeal.main_v8) = v0 c
          ∧ r.2.mem ((c.tc : Thread Cert.CompVIdeal.nD Cert.CompVIdeal.τ).loc Cert.CompVIdeal.main_arg0) = m ((c.tc : Thread Cert.CompVIdeal.nD Cert.CompVIdeal.τ).loc Cert.CompVIdeal.main_arg0)
          ∧ r.2.mem ((c.tc : Thread Cert.CompVIdeal.nD Cert.CompVIdeal.τ).loc Cert.CompVIdeal.main_arg1) = m ((c.tc : Thread Cert.CompVIdeal.nD Cert.CompVIdeal.τ).loc Cert.CompVIdeal.main_arg1)
          ∧ r.2.mem ((c.tc : Thread Cert.CompVIdeal.nD Cert.CompVIdeal.τ).loc Cert.CompVIdeal.main_arg2) = m ((c.tc : Thread Cert.CompVIdeal.nD Cert.CompVIdeal.τ).loc Cert.CompVIdeal.main_arg2))
      ∧ θ_run (Cert.CompVRefIdeal.defs (F := Ideal)) (onTc (τ := Cert.CompVRefIdeal.τ) (Cert.CompVRefIdeal.main (F := Ideal))) ⟨m', fun _ => 0, g'⟩ (fun r => ∀ c : Dev Cert.CompVRefIdeal.nD,
          r.2.mem ((c.tc : Thread Cert.CompVRefIdeal.nD Cert.CompVRefIdeal.τ).loc Cert.CompVRefIdeal.main_v14) = v0 c
          ∧ r.2.mem ((c.tc : Thread Cert.CompVRefIdeal.nD Cert.CompVRefIdeal.τ).loc Cert.CompVRefIdeal.main_arg0) = m' ((c.tc : Thread Cert.CompVRefIdeal.nD Cert.CompVRefIdeal.τ).loc Cert.CompVRefIdeal.main_arg0)
          ∧ r.2.mem ((c.tc : Thread Cert.CompVRefIdeal.nD Cert.CompVRefIdeal.τ).loc Cert.CompVRefIdeal.main_arg1) = m' ((c.tc : Thread Cert.CompVRefIdeal.nD Cert.CompVRefIdeal.τ).loc Cert.CompVRefIdeal.main_arg1)
          ∧ r.2.mem ((c.tc : Thread Cert.CompVRefIdeal.nD Cert.CompVRefIdeal.τ).loc Cert.CompVRefIdeal.main_arg2) = m' ((c.tc : Thread Cert.CompVRefIdeal.nD Cert.CompVRefIdeal.τ).loc Cert.CompVRefIdeal.main_arg2))

def preserves_CompK_CompKIdeal : Prop :=
  True

def algebraic_CompKIdeal_CompKRefIdeal [hCompKIdeal : Cert.CompKIdeal.Facts] [hCompKRefIdeal : Cert.CompKRefIdeal.Facts] : Prop :=
  ∀ (m : (ℓ : Loc Cert.CompKIdeal.nD Cert.CompKIdeal.τ Cert.CompKIdeal.sig) → Buf (Elt Ideal) ℓ) (g : Dev Cert.CompKIdeal.nD → PrngReg)
    (m' : (ℓ : Loc Cert.CompKRefIdeal.nD Cert.CompKRefIdeal.τ Cert.CompKRefIdeal.sig) → Buf (Elt Ideal) ℓ) (g' : Dev Cert.CompKRefIdeal.nD → PrngReg), Pre_CompKIdeal m →
    (∀ c : Dev Cert.CompKIdeal.nD,
      m' ((c.tc : Thread Cert.CompKRefIdeal.nD Cert.CompKRefIdeal.τ).loc Cert.CompKRefIdeal.main_arg0) = m ((c.tc : Thread Cert.CompKIdeal.nD Cert.CompKIdeal.τ).loc Cert.CompKIdeal.main_arg0)
      ∧ m' ((c.tc : Thread Cert.CompKRefIdeal.nD Cert.CompKRefIdeal.τ).loc Cert.CompKRefIdeal.main_arg1) = m ((c.tc : Thread Cert.CompKIdeal.nD Cert.CompKIdeal.τ).loc Cert.CompKIdeal.main_arg1)
      ∧ m' ((c.tc : Thread Cert.CompKRefIdeal.nD Cert.CompKRefIdeal.τ).loc Cert.CompKRefIdeal.main_arg2) = m ((c.tc : Thread Cert.CompKIdeal.nD Cert.CompKIdeal.τ).loc Cert.CompKIdeal.main_arg2)) →
    ∃ (v0 : (c : Dev Cert.CompKIdeal.nD) → Buf (Elt Ideal) ((c.tc : Thread Cert.CompKIdeal.nD Cert.CompKIdeal.τ).loc Cert.CompKIdeal.main_v8)),
      θ_run (Cert.CompKIdeal.defs (F := Ideal)) (onTc (τ := Cert.CompKIdeal.τ) (Cert.CompKIdeal.main (F := Ideal))) ⟨m, fun _ => 0, g⟩ (fun r => ∀ c : Dev Cert.CompKIdeal.nD,
          r.2.mem ((c.tc : Thread Cert.CompKIdeal.nD Cert.CompKIdeal.τ).loc Cert.CompKIdeal.main_v8) = v0 c
          ∧ r.2.mem ((c.tc : Thread Cert.CompKIdeal.nD Cert.CompKIdeal.τ).loc Cert.CompKIdeal.main_arg0) = m ((c.tc : Thread Cert.CompKIdeal.nD Cert.CompKIdeal.τ).loc Cert.CompKIdeal.main_arg0)
          ∧ r.2.mem ((c.tc : Thread Cert.CompKIdeal.nD Cert.CompKIdeal.τ).loc Cert.CompKIdeal.main_arg1) = m ((c.tc : Thread Cert.CompKIdeal.nD Cert.CompKIdeal.τ).loc Cert.CompKIdeal.main_arg1)
          ∧ r.2.mem ((c.tc : Thread Cert.CompKIdeal.nD Cert.CompKIdeal.τ).loc Cert.CompKIdeal.main_arg2) = m ((c.tc : Thread Cert.CompKIdeal.nD Cert.CompKIdeal.τ).loc Cert.CompKIdeal.main_arg2))
      ∧ θ_run (Cert.CompKRefIdeal.defs (F := Ideal)) (onTc (τ := Cert.CompKRefIdeal.τ) (Cert.CompKRefIdeal.main (F := Ideal))) ⟨m', fun _ => 0, g'⟩ (fun r => ∀ c : Dev Cert.CompKRefIdeal.nD,
          r.2.mem ((c.tc : Thread Cert.CompKRefIdeal.nD Cert.CompKRefIdeal.τ).loc Cert.CompKRefIdeal.main_v27) = v0 c
          ∧ r.2.mem ((c.tc : Thread Cert.CompKRefIdeal.nD Cert.CompKRefIdeal.τ).loc Cert.CompKRefIdeal.main_arg0) = m' ((c.tc : Thread Cert.CompKRefIdeal.nD Cert.CompKRefIdeal.τ).loc Cert.CompKRefIdeal.main_arg0)
          ∧ r.2.mem ((c.tc : Thread Cert.CompKRefIdeal.nD Cert.CompKRefIdeal.τ).loc Cert.CompKRefIdeal.main_arg1) = m' ((c.tc : Thread Cert.CompKRefIdeal.nD Cert.CompKRefIdeal.τ).loc Cert.CompKRefIdeal.main_arg1)
          ∧ r.2.mem ((c.tc : Thread Cert.CompKRefIdeal.nD Cert.CompKRefIdeal.τ).loc Cert.CompKRefIdeal.main_arg2) = m' ((c.tc : Thread Cert.CompKRefIdeal.nD Cert.CompKRefIdeal.τ).loc Cert.CompKRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)) →
    ∃ (v0 : (c : Dev Cert.TailIdeal.nD) → Buf (Elt Ideal) ((c.tc : Thread Cert.TailIdeal.nD Cert.TailIdeal.τ).loc Cert.TailIdeal.main_v7)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v7) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v5) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1))

def preserves_HgS_HgSIdeal : Prop :=
  True

def algebraic_HgSIdeal_HgSRefIdeal [hHgSIdeal : Cert.HgSIdeal.Facts] [hHgSRefIdeal : Cert.HgSRefIdeal.Facts] : Prop :=
  ∀ (m : (ℓ : Loc Cert.HgSIdeal.nD Cert.HgSIdeal.τ Cert.HgSIdeal.sig) → Buf (Elt Ideal) ℓ) (g : Dev Cert.HgSIdeal.nD → PrngReg)
    (m' : (ℓ : Loc Cert.HgSRefIdeal.nD Cert.HgSRefIdeal.τ Cert.HgSRefIdeal.sig) → Buf (Elt Ideal) ℓ) (g' : Dev Cert.HgSRefIdeal.nD → PrngReg), Pre_HgSIdeal m →
    (∀ c : Dev Cert.HgSIdeal.nD,
      m' ((c.tc : Thread Cert.HgSRefIdeal.nD Cert.HgSRefIdeal.τ).loc Cert.HgSRefIdeal.main_arg0) = m ((c.tc : Thread Cert.HgSIdeal.nD Cert.HgSIdeal.τ).loc Cert.HgSIdeal.main_arg0)
      ∧ m' ((c.tc : Thread Cert.HgSRefIdeal.nD Cert.HgSRefIdeal.τ).loc Cert.HgSRefIdeal.main_arg1) = m ((c.tc : Thread Cert.HgSIdeal.nD Cert.HgSIdeal.τ).loc Cert.HgSIdeal.main_arg1)
      ∧ m' ((c.tc : Thread Cert.HgSRefIdeal.nD Cert.HgSRefIdeal.τ).loc Cert.HgSRefIdeal.main_arg2) = m ((c.tc : Thread Cert.HgSIdeal.nD Cert.HgSIdeal.τ).loc Cert.HgSIdeal.main_arg2)
      ∧ m' ((c.tc : Thread Cert.HgSRefIdeal.nD Cert.HgSRefIdeal.τ).loc Cert.HgSRefIdeal.main_arg3) = m ((c.tc : Thread Cert.HgSIdeal.nD Cert.HgSIdeal.τ).loc Cert.HgSIdeal.main_arg3)) →
    ∃ (v0 : (c : Dev Cert.HgSIdeal.nD) → Buf (Elt Ideal) ((c.tc : Thread Cert.HgSIdeal.nD Cert.HgSIdeal.τ).loc Cert.HgSIdeal.main_v10_1)),
      θ_run (Cert.HgSIdeal.defs (F := Ideal)) (onTc (τ := Cert.HgSIdeal.τ) (Cert.HgSIdeal.main (F := Ideal))) ⟨m, fun _ => 0, g⟩ (fun r => ∀ c : Dev Cert.HgSIdeal.nD,
          r.2.mem ((c.tc : Thread Cert.HgSIdeal.nD Cert.HgSIdeal.τ).loc Cert.HgSIdeal.main_v10_1) = v0 c
          ∧ r.2.mem ((c.tc : Thread Cert.HgSIdeal.nD Cert.HgSIdeal.τ).loc Cert.HgSIdeal.main_arg0) = m ((c.tc : Thread Cert.HgSIdeal.nD Cert.HgSIdeal.τ).loc Cert.HgSIdeal.main_arg0)
          ∧ r.2.mem ((c.tc : Thread Cert.HgSIdeal.nD Cert.HgSIdeal.τ).loc Cert.HgSIdeal.main_arg1) = m ((c.tc : Thread Cert.HgSIdeal.nD Cert.HgSIdeal.τ).loc Cert.HgSIdeal.main_arg1)
          ∧ r.2.mem ((c.tc : Thread Cert.HgSIdeal.nD Cert.HgSIdeal.τ).loc Cert.HgSIdeal.main_arg2) = m ((c.tc : Thread Cert.HgSIdeal.nD Cert.HgSIdeal.τ).loc Cert.HgSIdeal.main_arg2)
          ∧ r.2.mem ((c.tc : Thread Cert.HgSIdeal.nD Cert.HgSIdeal.τ).loc Cert.HgSIdeal.main_arg3) = m ((c.tc : Thread Cert.HgSIdeal.nD Cert.HgSIdeal.τ).loc Cert.HgSIdeal.main_arg3))
      ∧ θ_run (Cert.HgSRefIdeal.defs (F := Ideal)) (onTc (τ := Cert.HgSRefIdeal.τ) (Cert.HgSRefIdeal.main (F := Ideal))) ⟨m', fun _ => 0, g'⟩ (fun r => ∀ c : Dev Cert.HgSRefIdeal.nD,
          r.2.mem ((c.tc : Thread Cert.HgSRefIdeal.nD Cert.HgSRefIdeal.τ).loc Cert.HgSRefIdeal.main_v29) = v0 c
          ∧ r.2.mem ((c.tc : Thread Cert.HgSRefIdeal.nD Cert.HgSRefIdeal.τ).loc Cert.HgSRefIdeal.main_arg0) = m' ((c.tc : Thread Cert.HgSRefIdeal.nD Cert.HgSRefIdeal.τ).loc Cert.HgSRefIdeal.main_arg0)
          ∧ r.2.mem ((c.tc : Thread Cert.HgSRefIdeal.nD Cert.HgSRefIdeal.τ).loc Cert.HgSRefIdeal.main_arg1) = m' ((c.tc : Thread Cert.HgSRefIdeal.nD Cert.HgSRefIdeal.τ).loc Cert.HgSRefIdeal.main_arg1)
          ∧ r.2.mem ((c.tc : Thread Cert.HgSRefIdeal.nD Cert.HgSRefIdeal.τ).loc Cert.HgSRefIdeal.main_arg2) = m' ((c.tc : Thread Cert.HgSRefIdeal.nD Cert.HgSRefIdeal.τ).loc Cert.HgSRefIdeal.main_arg2)
          ∧ r.2.mem ((c.tc : Thread Cert.HgSRefIdeal.nD Cert.HgSRefIdeal.τ).loc Cert.HgSRefIdeal.main_arg3) = m' ((c.tc : Thread Cert.HgSRefIdeal.nD Cert.HgSRefIdeal.τ).loc Cert.HgSRefIdeal.main_arg3))

def Claim : Prop :=
  ∃ (hCmp : Cert.Cmp.Facts) (hCmpIdeal : Cert.CmpIdeal.Facts) (hCmpRefIdeal : Cert.CmpRefIdeal.Facts) (hFfn : Cert.Ffn.Facts) (hFfnIdeal : Cert.FfnIdeal.Facts) (hFfnRefIdeal : Cert.FfnRefIdeal.Facts) (hZh : Cert.Zh.Facts) (hZhIdeal : Cert.ZhIdeal.Facts) (hZhRefIdeal : Cert.ZhRefIdeal.Facts) (hDown : Cert.Down.Facts) (hDownIdeal : Cert.DownIdeal.Facts) (hDownRefIdeal : Cert.DownRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hGab : Cert.Gab.Facts) (hGabIdeal : Cert.GabIdeal.Facts) (hGabRefIdeal : Cert.GabRefIdeal.Facts) (hQ : Cert.Q.Facts) (hQIdeal : Cert.QIdeal.Facts) (hQRefIdeal : Cert.QRefIdeal.Facts) (hKc : Cert.Kc.Facts) (hKcIdeal : Cert.KcIdeal.Facts) (hKcRefIdeal : Cert.KcRefIdeal.Facts) (hVc : Cert.Vc.Facts) (hVcIdeal : Cert.VcIdeal.Facts) (hVcRefIdeal : Cert.VcRefIdeal.Facts) (hKs : Cert.Ks.Facts) (hKsIdeal : Cert.KsIdeal.Facts) (hKsRefIdeal : Cert.KsRefIdeal.Facts) (hVs : Cert.Vs.Facts) (hVsIdeal : Cert.VsIdeal.Facts) (hVsRefIdeal : Cert.VsRefIdeal.Facts) (hKw : Cert.Kw.Facts) (hKwIdeal : Cert.KwIdeal.Facts) (hKwRefIdeal : Cert.KwRefIdeal.Facts) (hVw : Cert.Vw.Facts) (hVwIdeal : Cert.VwIdeal.Facts) (hVwRefIdeal : Cert.VwRefIdeal.Facts) (hMod : Cert.Mod.Facts) (hModIdeal : Cert.ModIdeal.Facts) (hModRefIdeal : Cert.ModRefIdeal.Facts) (hAda : Cert.Ada.Facts) (hAdaIdeal : Cert.AdaIdeal.Facts) (hAdaRefIdeal : Cert.AdaRefIdeal.Facts) (hDownS : Cert.DownS.Facts) (hDownSIdeal : Cert.DownSIdeal.Facts) (hDownSRefIdeal : Cert.DownSRefIdeal.Facts) (hKcS : Cert.KcS.Facts) (hKcSIdeal : Cert.KcSIdeal.Facts) (hKcSRefIdeal : Cert.KcSRefIdeal.Facts) (hVcS : Cert.VcS.Facts) (hVcSIdeal : Cert.VcSIdeal.Facts) (hVcSRefIdeal : Cert.VcSRefIdeal.Facts) (hVsS : Cert.VsS.Facts) (hVsSIdeal : Cert.VsSIdeal.Facts) (hVsSRefIdeal : Cert.VsSRefIdeal.Facts) (hKsS : Cert.KsS.Facts) (hKsSIdeal : Cert.KsSIdeal.Facts) (hKsSRefIdeal : Cert.KsSRefIdeal.Facts) (hCompV : Cert.CompV.Facts) (hCompVIdeal : Cert.CompVIdeal.Facts) (hCompVRefIdeal : Cert.CompVRefIdeal.Facts) (hCompK : Cert.CompK.Facts) (hCompKIdeal : Cert.CompKIdeal.Facts) (hCompKRefIdeal : Cert.CompKRefIdeal.Facts) (hTail : Cert.Tail.Facts) (hTailIdeal : Cert.TailIdeal.Facts) (hTailRefIdeal : Cert.TailRefIdeal.Facts) (hHgS : Cert.HgS.Facts) (hHgSIdeal : Cert.HgSIdeal.Facts) (hHgSRefIdeal : Cert.HgSRefIdeal.Facts) (hPre_finite_bias : Cert.Pre_finite_bias.Facts),
    quiescent_Cmp (hCmp := hCmp)
    ∧ quiescent_CmpIdeal (hCmpIdeal := hCmpIdeal)
    ∧ quiescent_CmpIdeal_pre_finite_bias (hCmpIdeal := hCmpIdeal) (hPre_finite_bias := hPre_finite_bias)
    ∧ quiescent_CmpRefIdeal (hCmpRefIdeal := hCmpRefIdeal)
    ∧ quiescent_CmpRefIdeal_pre_finite_bias (hCmpRefIdeal := hCmpRefIdeal) (hPre_finite_bias := hPre_finite_bias)
    ∧ quiescent_Ffn (hFfn := hFfn)
    ∧ quiescent_FfnIdeal (hFfnIdeal := hFfnIdeal)
    ∧ quiescent_FfnRefIdeal (hFfnRefIdeal := hFfnRefIdeal)
    ∧ quiescent_Zh (hZh := hZh)
    ∧ quiescent_ZhIdeal (hZhIdeal := hZhIdeal)
    ∧ quiescent_ZhRefIdeal (hZhRefIdeal := hZhRefIdeal)
    ∧ quiescent_Down (hDown := hDown)
    ∧ quiescent_DownIdeal (hDownIdeal := hDownIdeal)
    ∧ quiescent_DownRefIdeal (hDownRefIdeal := hDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Gab (hGab := hGab)
    ∧ quiescent_GabIdeal (hGabIdeal := hGabIdeal)
    ∧ quiescent_GabRefIdeal (hGabRefIdeal := hGabRefIdeal)
    ∧ quiescent_Q (hQ := hQ)
    ∧ quiescent_QIdeal (hQIdeal := hQIdeal)
    ∧ quiescent_QRefIdeal (hQRefIdeal := hQRefIdeal)
    ∧ quiescent_Kc (hKc := hKc)
    ∧ quiescent_KcIdeal (hKcIdeal := hKcIdeal)
    ∧ quiescent_KcRefIdeal (hKcRefIdeal := hKcRefIdeal)
    ∧ quiescent_Vc (hVc := hVc)
    ∧ quiescent_VcIdeal (hVcIdeal := hVcIdeal)
    ∧ quiescent_VcRefIdeal (hVcRefIdeal := hVcRefIdeal)
    ∧ quiescent_Ks (hKs := hKs)
    ∧ quiescent_KsIdeal (hKsIdeal := hKsIdeal)
    ∧ quiescent_KsRefIdeal (hKsRefIdeal := hKsRefIdeal)
    ∧ quiescent_Vs (hVs := hVs)
    ∧ quiescent_VsIdeal (hVsIdeal := hVsIdeal)
    ∧ quiescent_VsRefIdeal (hVsRefIdeal := hVsRefIdeal)
    ∧ quiescent_Kw (hKw := hKw)
    ∧ quiescent_KwIdeal (hKwIdeal := hKwIdeal)
    ∧ quiescent_KwRefIdeal (hKwRefIdeal := hKwRefIdeal)
    ∧ quiescent_Vw (hVw := hVw)
    ∧ quiescent_VwIdeal (hVwIdeal := hVwIdeal)
    ∧ quiescent_VwRefIdeal (hVwRefIdeal := hVwRefIdeal)
    ∧ quiescent_Mod (hMod := hMod)
    ∧ quiescent_ModIdeal (hModIdeal := hModIdeal)
    ∧ quiescent_ModRefIdeal (hModRefIdeal := hModRefIdeal)
    ∧ quiescent_Ada (hAda := hAda)
    ∧ quiescent_AdaIdeal (hAdaIdeal := hAdaIdeal)
    ∧ quiescent_AdaRefIdeal (hAdaRefIdeal := hAdaRefIdeal)
    ∧ quiescent_DownS (hDownS := hDownS)
    ∧ quiescent_DownSIdeal (hDownSIdeal := hDownSIdeal)
    ∧ quiescent_DownSRefIdeal (hDownSRefIdeal := hDownSRefIdeal)
    ∧ quiescent_KcS (hKcS := hKcS)
    ∧ quiescent_KcSIdeal (hKcSIdeal := hKcSIdeal)
    ∧ quiescent_KcSRefIdeal (hKcSRefIdeal := hKcSRefIdeal)
    ∧ quiescent_VcS (hVcS := hVcS)
    ∧ quiescent_VcSIdeal (hVcSIdeal := hVcSIdeal)
    ∧ quiescent_VcSRefIdeal (hVcSRefIdeal := hVcSRefIdeal)
    ∧ quiescent_VsS (hVsS := hVsS)
    ∧ quiescent_VsSIdeal (hVsSIdeal := hVsSIdeal)
    ∧ quiescent_VsSRefIdeal (hVsSRefIdeal := hVsSRefIdeal)
    ∧ quiescent_KsS (hKsS := hKsS)
    ∧ quiescent_KsSIdeal (hKsSIdeal := hKsSIdeal)
    ∧ quiescent_KsSRefIdeal (hKsSRefIdeal := hKsSRefIdeal)
    ∧ quiescent_CompV (hCompV := hCompV)
    ∧ quiescent_CompVIdeal (hCompVIdeal := hCompVIdeal)
    ∧ quiescent_CompVRefIdeal (hCompVRefIdeal := hCompVRefIdeal)
    ∧ quiescent_CompK (hCompK := hCompK)
    ∧ quiescent_CompKIdeal (hCompKIdeal := hCompKIdeal)
    ∧ quiescent_CompKRefIdeal (hCompKRefIdeal := hCompKRefIdeal)
    ∧ quiescent_Tail (hTail := hTail)
    ∧ quiescent_TailIdeal (hTailIdeal := hTailIdeal)
    ∧ quiescent_TailRefIdeal (hTailRefIdeal := hTailRefIdeal)
    ∧ quiescent_HgS (hHgS := hHgS)
    ∧ quiescent_HgSIdeal (hHgSIdeal := hHgSIdeal)
    ∧ quiescent_HgSRefIdeal (hHgSRefIdeal := hHgSRefIdeal)
    ∧ preserves_Cmp_CmpIdeal
    ∧ algebraic_CmpIdeal_CmpRefIdeal_pre_finite_bias (hCmpIdeal := hCmpIdeal) (hCmpRefIdeal := hCmpRefIdeal) (hPre_finite_bias := hPre_finite_bias)
    ∧ preserves_Ffn_FfnIdeal
    ∧ algebraic_FfnIdeal_FfnRefIdeal (hFfnIdeal := hFfnIdeal) (hFfnRefIdeal := hFfnRefIdeal)
    ∧ preserves_Zh_ZhIdeal
    ∧ algebraic_ZhIdeal_ZhRefIdeal (hZhIdeal := hZhIdeal) (hZhRefIdeal := hZhRefIdeal)
    ∧ preserves_Down_DownIdeal
    ∧ algebraic_DownIdeal_DownRefIdeal (hDownIdeal := hDownIdeal) (hDownRefIdeal := hDownRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Gab_GabIdeal
    ∧ algebraic_GabIdeal_GabRefIdeal (hGabIdeal := hGabIdeal) (hGabRefIdeal := hGabRefIdeal)
    ∧ preserves_Q_QIdeal
    ∧ algebraic_QIdeal_QRefIdeal (hQIdeal := hQIdeal) (hQRefIdeal := hQRefIdeal)
    ∧ preserves_Kc_KcIdeal
    ∧ algebraic_KcIdeal_KcRefIdeal (hKcIdeal := hKcIdeal) (hKcRefIdeal := hKcRefIdeal)
    ∧ preserves_Vc_VcIdeal
    ∧ algebraic_VcIdeal_VcRefIdeal (hVcIdeal := hVcIdeal) (hVcRefIdeal := hVcRefIdeal)
    ∧ preserves_Ks_KsIdeal
    ∧ algebraic_KsIdeal_KsRefIdeal (hKsIdeal := hKsIdeal) (hKsRefIdeal := hKsRefIdeal)
    ∧ preserves_Vs_VsIdeal
    ∧ algebraic_VsIdeal_VsRefIdeal (hVsIdeal := hVsIdeal) (hVsRefIdeal := hVsRefIdeal)
    ∧ preserves_Kw_KwIdeal
    ∧ algebraic_KwIdeal_KwRefIdeal (hKwIdeal := hKwIdeal) (hKwRefIdeal := hKwRefIdeal)
    ∧ preserves_Vw_VwIdeal
    ∧ algebraic_VwIdeal_VwRefIdeal (hVwIdeal := hVwIdeal) (hVwRefIdeal := hVwRefIdeal)
    ∧ preserves_Mod_ModIdeal
    ∧ algebraic_ModIdeal_ModRefIdeal (hModIdeal := hModIdeal) (hModRefIdeal := hModRefIdeal)
    ∧ preserves_Ada_AdaIdeal
    ∧ algebraic_AdaIdeal_AdaRefIdeal (hAdaIdeal := hAdaIdeal) (hAdaRefIdeal := hAdaRefIdeal)
    ∧ preserves_DownS_DownSIdeal
    ∧ algebraic_DownSIdeal_DownSRefIdeal (hDownSIdeal := hDownSIdeal) (hDownSRefIdeal := hDownSRefIdeal)
    ∧ preserves_KcS_KcSIdeal
    ∧ algebraic_KcSIdeal_KcSRefIdeal (hKcSIdeal := hKcSIdeal) (hKcSRefIdeal := hKcSRefIdeal)
    ∧ preserves_VcS_VcSIdeal
    ∧ algebraic_VcSIdeal_VcSRefIdeal (hVcSIdeal := hVcSIdeal) (hVcSRefIdeal := hVcSRefIdeal)
    ∧ preserves_VsS_VsSIdeal
    ∧ algebraic_VsSIdeal_VsSRefIdeal (hVsSIdeal := hVsSIdeal) (hVsSRefIdeal := hVsSRefIdeal)
    ∧ preserves_KsS_KsSIdeal
    ∧ algebraic_KsSIdeal_KsSRefIdeal (hKsSIdeal := hKsSIdeal) (hKsSRefIdeal := hKsSRefIdeal)
    ∧ preserves_CompV_CompVIdeal
    ∧ algebraic_CompVIdeal_CompVRefIdeal (hCompVIdeal := hCompVIdeal) (hCompVRefIdeal := hCompVRefIdeal)
    ∧ preserves_CompK_CompKIdeal
    ∧ algebraic_CompKIdeal_CompKRefIdeal (hCompKIdeal := hCompKIdeal) (hCompKRefIdeal := hCompKRefIdeal)
    ∧ preserves_Tail_TailIdeal
    ∧ algebraic_TailIdeal_TailRefIdeal (hTailIdeal := hTailIdeal) (hTailRefIdeal := hTailRefIdeal)
    ∧ preserves_HgS_HgSIdeal
    ∧ algebraic_HgSIdeal_HgSRefIdeal (hHgSIdeal := hHgSIdeal) (hHgSRefIdeal := hHgSRefIdeal)
-- ==== Pre_finite_bias.lean ====
abbrev S2x4096x4x4x128 : Shape := ⟨5, ![2, 4096, 4, 4, 128]⟩
abbrev S2x255x4x128 : Shape := ⟨4, ![2, 255, 4, 128]⟩
abbrev S32x16 : Shape := ⟨2, ![32, 16]⟩
abbrev S_ : Shape := ⟨0, ![]⟩

class Facts : Prop where
  bcast_S_S32x16 : S_.BroadcastsInDim S32x16 (![] : Fin 0 → Fin S32x16.rank)

variable [Facts]

def fn {F : FTy → Type} [FloatOps F] (main_arg0 : FVec F S2x4096x4x4x128 .f32) (main_arg1 : FVec F S2x255x4x128 .f32) (main_arg2 : FVec F S2x255x4x128 .f32) (main_arg3 : FVec F S32x16 .f32) : IVec S32x16 1 :=
  let main_cst : FVec F S_ .f32 := constant S_ .f32 0x7F800000#32
  let main_v0 : FVec F S32x16 .f32 := broadcastInDim S32x16 ![] bcast_S_S32x16 main_cst
  let main_v1 : IVec S32x16 1 := cmpf .olt main_arg3 main_v0
  let main_cst_0 : FVec F S_ .f32 := constant S_ .f32 0xFF800000#32
  let main_v2 : FVec F S32x16 .f32 := broadcastInDim S32x16 ![] bcast_S_S32x16 main_cst_0
  let main_v3 : IVec S32x16 1 := cmpf .ogt main_arg3 main_v2
  let main_v4 : IVec S32x16 1 := andi main_v1 main_v3
  main_v4
-- ==== Cmp.lean ====
abbrev S2x4096x4x4x128 : Shape := ⟨5, ![2, 4096, 4, 4, 128]⟩
abbrev S2x255x4x128 : Shape := ⟨4, ![2, 255, 4, 128]⟩
abbrev S32x16 : Shape := ⟨2, ![32, 16]⟩
abbrev S128x32 : Shape := ⟨2, ![128, 32]⟩
abbrev S128x128 : Shape := ⟨2, ![128, 128]⟩
abbrev S16x32 : Shape := ⟨2, ![16, 32]⟩
abbrev S16x1 : Shape := ⟨2, ![16, 1]⟩
abbrev S16 : Shape := ⟨1, ![16]⟩
abbrev S_ : Shape := ⟨0, ![]⟩
abbrev S128x32x1 : Shape := ⟨3, ![128, 32, 1]⟩
abbrev S16x128x32 : Shape := ⟨3, ![16, 128, 32]⟩
abbrev S16x1x1 : Shape := ⟨3, ![16, 1, 1]⟩
abbrev S1x128x32 : Shape := ⟨3, ![1, 128, 32]⟩
abbrev S16x128x128 : Shape := ⟨3, ![16, 128, 128]⟩
abbrev S128x128x1 : Shape := ⟨3, ![128, 128, 1]⟩
abbrev S1x128x128 : Shape := ⟨3, ![1, 128, 128]⟩
abbrev S1x16x128x128 : Shape := ⟨4, ![1, 16, 128, 128]⟩
abbrev S6x16x128x128 : Shape := ⟨4, ![6, 16, 128, 128]⟩
abbrev S16x1x256 : Shape := ⟨3, ![16, 1, 256]⟩
abbrev S8192x2048 : Shape := ⟨2, ![8192, 2048]⟩
abbrev S2x256x4x128 : Shape := ⟨4, ![2, 256, 4, 128]⟩
abbrev S2x256x512 : Shape := ⟨3, ![2, 256, 512]⟩
abbrev S2x4x64x4096 : Shape := ⟨4, ![2, 4, 64, 4096]⟩
abbrev S128x512 : Shape := ⟨2, ![128, 512]⟩
abbrev S1x256x128 : Shape := ⟨3, ![1, 256, 128]⟩
abbrev S4x128x32 : Shape := ⟨3, ![4, 128, 32]⟩
abbrev S4x1x256 : Shape := ⟨3, ![4, 1, 256]⟩
abbrev S1x1x64x128 : Shape := ⟨4, ![1, 1, 64, 128]⟩
abbrev S256x128 : Shape := ⟨2, ![256, 128]⟩
abbrev S128x256 : Shape := ⟨2, ![128, 256]⟩
abbrev S32x256 : Shape := ⟨2, ![32, 256]⟩
abbrev S1x1x256 : Shape := ⟨3, ![1, 1, 256]⟩
abbrev S1x256 : Shape := ⟨2, ![1, 256]⟩
abbrev S128 : Shape := ⟨1, ![128]⟩
abbrev S128x1 : Shape := ⟨2, ![128, 1]⟩
abbrev S64x256 : Shape := ⟨2, ![64, 256]⟩
abbrev S64x128 : Shape := ⟨2, ![64, 128]⟩

abbrev nBuf : Space → Nat
  | .hbm => 80
  | .vmem => 14
  | .smem => 0
  | _ => 0

abbrev bufTy : (tb : Table) → Fin (tcTables nBuf tb) → BufTy
  | .hbm, ⟨0, _⟩ => ⟨S2x4096x4x4x128, .f32⟩
  | .hbm, ⟨1, _⟩ => ⟨S2x255x4x128, .f32⟩
  | .hbm, ⟨2, _⟩ => ⟨S2x255x4x128, .f32⟩
  | .hbm, ⟨3, _⟩ => ⟨S32x16, .f32⟩
  | .hbm, ⟨4, _⟩ => ⟨S128x32, .i32⟩
  | .hbm, ⟨5, _⟩ => ⟨S128x32, .i1⟩
  | .hbm, ⟨6, _⟩ => ⟨S128x32, .i1⟩
  | .hbm, ⟨7, _⟩ => ⟨S128x128, .i32⟩
  | .hbm, ⟨8, _⟩ => ⟨S128x128, .i1⟩
  | .hbm, ⟨9, _⟩ => ⟨S128x128, .i1⟩
  | .hbm, ⟨10, _⟩ => ⟨S128x128, .i32⟩
  | .hbm, ⟨11, _⟩ => ⟨S128x128, .i1⟩
  | .hbm, ⟨12, _⟩ => ⟨S128x128, .i1⟩
  | .hbm, ⟨13, _⟩ => ⟨S16x32, .f32⟩
  | .hbm, ⟨14, _⟩ => ⟨S16x1, .f32⟩
  | .hbm, ⟨15, _⟩ => ⟨S16, .f32⟩
  | .hbm, ⟨16, _⟩ => ⟨S_, .i32⟩
  | .hbm, ⟨17, _⟩ => ⟨S128x32, .i32⟩
  | .hbm, ⟨18, _⟩ => ⟨S128x32, .i32⟩
  | .hbm, ⟨19, _⟩ => ⟨S128x32, .i32⟩
  | .hbm, ⟨20, _⟩ => ⟨S128x32x1, .i32⟩
  | .hbm, ⟨21, _⟩ => ⟨S16x128x32, .f32⟩
  | .hbm, ⟨22, _⟩ => ⟨S16x1x1, .f32⟩
  | .hbm, ⟨23, _⟩ => ⟨S16x128x32, .f32⟩
  | .hbm, ⟨24, _⟩ => ⟨S16x128x32, .f32⟩
  | .hbm, ⟨25, _⟩ => ⟨S1x128x32, .i1⟩
  | .hbm, ⟨26, _⟩ => ⟨S_, .f32⟩
  | .hbm, ⟨27, _⟩ => ⟨S_, .f32⟩
  | .hbm, ⟨28, _⟩ => ⟨S16x128x32, .i1⟩
  | .hbm, ⟨29, _⟩ => ⟨S16x128x32, .f32⟩
  | .hbm, ⟨30, _⟩ => ⟨S16x128x32, .f32⟩
  | .hbm, ⟨31, _⟩ => ⟨S16x1x1, .f32⟩
  | .hbm, ⟨32, _⟩ => ⟨S16x128x128, .f32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S128x128, .i32⟩
  | .hbm, ⟨37, _⟩ => ⟨S128x128x1, .i32⟩
  | .hbm, ⟨38, _⟩ => ⟨S16x128x128, .f32⟩
  | .hbm, ⟨39, _⟩ => ⟨S1x128x128, .i1⟩
  | .hbm, ⟨40, _⟩ => ⟨S_, .f32⟩
  | .hbm, ⟨41, _⟩ => ⟨S_, .f32⟩
  | .hbm, ⟨42, _⟩ => ⟨S16x128x128, .i1⟩
  | .hbm, ⟨43, _⟩ => ⟨S16x128x128, .f32⟩
  | .hbm, ⟨44, _⟩ => ⟨S16x128x128, .f32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128x1, .i32⟩
  | .hbm, ⟨50, _⟩ => ⟨S16x128x128, .f32⟩
  | .hbm, ⟨51, _⟩ => ⟨S1x128x128, .i1⟩
  | .hbm, ⟨52, _⟩ => ⟨S_, .f32⟩
  | .hbm, ⟨53, _⟩ => ⟨S_, .f32⟩
  | .hbm, ⟨54, _⟩ => ⟨S16x128x128, .i1⟩
  | .hbm, ⟨55, _⟩ => ⟨S16x128x128, .f32⟩
  | .hbm, ⟨56, _⟩ => ⟨S16x128x128, .f32⟩
  | .hbm, ⟨57, _⟩ => ⟨S_, .f32⟩
  | .hbm, ⟨58, _⟩ => ⟨S16x128x128, .f32⟩
  | .hbm, ⟨59, _⟩ => ⟨S1x16x128x128, .f32⟩
  | .hbm, ⟨60, _⟩ => ⟨S1x16x128x128, .f32⟩
  | .hbm, ⟨61, _⟩ => ⟨S1x16x128x128, .f32⟩
  | .hbm, ⟨62, _⟩ => ⟨S1x16x128x128, .f32⟩
  | .hbm, ⟨63, _⟩ => ⟨S1x16x128x128, .f32⟩
  | .hbm, ⟨64, _⟩ => ⟨S1x16x128x128, .f32⟩
  | .hbm, ⟨65, _⟩ => ⟨S6x16x128x128, .f32⟩
  | .hbm, ⟨66, _⟩ => ⟨S16x1x1, .f32⟩
  | .hbm, ⟨67, _⟩ => ⟨S16x1x256, .f32⟩
  | .hbm, ⟨68, _⟩ => ⟨S8192x2048, .f32⟩
  | .hbm, ⟨69, _⟩ => ⟨S8192x2048, .bf16⟩
  | .hbm, ⟨70, _⟩ => ⟨S_, .i32⟩
  | .hbm, ⟨71, _⟩ => ⟨S_, .f32⟩
  | .hbm, ⟨72, _⟩ => ⟨S2x256x4x128, .f32⟩
  | .hbm, ⟨73, _⟩ => ⟨S2x256x512, .f32⟩
  | .hbm, ⟨74, _⟩ => ⟨S_, .i32⟩
  | .hbm, ⟨75, _⟩ => ⟨S_, .f32⟩
  | .hbm, ⟨76, _⟩ => ⟨S2x256x4x128, .f32⟩
  | .hbm, ⟨77, _⟩ => ⟨S2x256x512, .f32⟩
  | .hbm, ⟨78, _⟩ => ⟨S8192x2048, .f32⟩
  | .hbm, ⟨79, _⟩ => ⟨S2x4x64x4096, .f32⟩
  | .local _ .vmem, ⟨0, _⟩ => ⟨S128x512, .bf16⟩
  | .local _ .vmem, ⟨1, _⟩ => ⟨S128x512, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S4x128x32, .f32⟩
  | .local _ .vmem, ⟨7, _⟩ => ⟨S4x128x32, .f32⟩
  | .local _ .vmem, ⟨8, _⟩ => ⟨S4x1x256, .f32⟩
  | .local _ .vmem, ⟨9, _⟩ => ⟨S4x1x256, .f32⟩
  | .local _ .vmem, ⟨10, _⟩ => ⟨S128x512, .f32⟩
  | .local _ .vmem, ⟨11, _⟩ => ⟨S128x512, .f32⟩
  | .local _ .vmem, ⟨12, _⟩ => ⟨S1x1x64x128, .f32⟩
  | .local _ .vmem, ⟨13, _⟩ => ⟨S1x1x64x128, .f32⟩
  | _, _ => ⟨S2x4096x4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_8 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_9 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_10 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_c_11 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_12 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v28 : Ref sig .tc := ⟨.hbm, 56, rfl⟩
abbrev main_cst_13 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_14 : Ref sig .tc := ⟨.hbm, 70, rfl⟩
abbrev main_call3_v0 : Ref sig .tc := ⟨.hbm, 71, rfl⟩
abbrev main_v41 : Ref sig .tc := ⟨.hbm, 72, rfl⟩
abbrev main_v42 : Ref sig .tc := ⟨.hbm, 73, rfl⟩
abbrev main_c_15 : Ref sig .tc := ⟨.hbm, 74, rfl⟩
abbrev main_call4_v0 : Ref sig .tc := ⟨.hbm, 75, rfl⟩
abbrev main_v43 : Ref sig .tc := ⟨.hbm, 76, rfl⟩
abbrev main_v44 : Ref sig .tc := ⟨.hbm, 77, rfl⟩
abbrev main_v45_0 : Ref sig .tc := ⟨.hbm, 78, rfl⟩
abbrev main_v45_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S4x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== CmpIdeal.lean ====
variable {F : FTy → Type} [FloatOps F] [Named F]
def κ : String → Option EReal := fun
  | "mask" => some ⊥
  | _ => none
-- ==== CmpRefIdeal.lean ====
abbrev S2x4096x4x4x128 : Shape := ⟨5, ![2, 4096, 4, 4, 128]⟩
abbrev S2x255x4x128 : Shape := ⟨4, ![2, 255, 4, 128]⟩
abbrev S32x16 : Shape := ⟨2, ![32, 16]⟩
abbrev S4096 : Shape := ⟨1, ![4096]⟩
abbrev S255 : Shape := ⟨1, ![255]⟩
abbrev S_ : Shape := ⟨0, ![]⟩
abbrev S4096x1 : Shape := ⟨2, ![4096, 1]⟩
abbrev S1x255 : Shape := ⟨2, ![1, 255]⟩
abbrev S4096x255 : Shape := ⟨2, ![4096, 255]⟩
abbrev S4096x255x1 : Shape := ⟨3, ![4096, 255, 1]⟩
abbrev S4096x255x16 : Shape := ⟨3, ![4096, 255, 16]⟩
abbrev S4096x255x4x4 : Shape := ⟨4, ![4096, 255, 4, 4]⟩
abbrev S4x4x4096x255 : Shape := ⟨4, ![4, 4, 4096, 255]⟩
abbrev S2x4x255x4096x4 : Shape := ⟨5, ![2, 4, 255, 4096, 4]⟩
abbrev S2x4x4x4096x255 : Shape := ⟨5, ![2, 4, 4, 4096, 255]⟩
abbrev S1x4x4x4096x255 : Shape := ⟨5, ![1, 4, 4, 4096, 255]⟩
abbrev S2x4x4x4096 : Shape := ⟨4, ![2, 4, 4, 4096]⟩
abbrev S2x4x4x4096x1 : Shape := ⟨5, ![2, 4, 4, 4096, 1]⟩
abbrev S2x4x128x4x4096 : Shape := ⟨5, ![2, 4, 128, 4, 4096]⟩
abbrev S255x1 : Shape := ⟨2, ![255, 1]⟩
abbrev S64 : Shape := ⟨1, ![64]⟩
abbrev S1x64 : Shape := ⟨2, ![1, 64]⟩
abbrev S255x64 : Shape := ⟨2, ![255, 64]⟩
abbrev S2x4x4096x255 : Shape := ⟨4, ![2, 4, 4096, 255]⟩
abbrev S64x2x4x4096 : Shape := ⟨4, ![64, 2, 4, 4096]⟩
abbrev S2x4096x4x64 : Shape := ⟨4, ![2, 4096, 4, 64]⟩
abbrev S8192x2048 : Shape := ⟨2, ![8192, 2048]⟩
abbrev S2x4x64x4096 : Shape := ⟨4, ![2, 4, 64, 4096]⟩

abbrev nBuf : Space → Nat
  | .hbm => 116
  | .vmem => 0
  | .smem => 0
  | _ => 0

abbrev bufTy : (tb : Table) → Fin (tcTables nBuf tb) → BufTy
  | .hbm, ⟨0, _⟩ => ⟨S2x4096x4x4x128, .f32⟩
  | .hbm, ⟨1, _⟩ => ⟨S2x255x4x128, .f32⟩
  | .hbm, ⟨2, _⟩ => ⟨S2x255x4x128, .f32⟩
  | .hbm, ⟨3, _⟩ => ⟨S32x16, .f32⟩
  | .hbm, ⟨4, _⟩ => ⟨S4096, .i32⟩
  | .hbm, ⟨5, _⟩ => ⟨S255, .i32⟩
  | .hbm, ⟨6, _⟩ => ⟨S_, .i32⟩
  | .hbm, ⟨7, _⟩ => ⟨S255, .i32⟩
  | .hbm, ⟨8, _⟩ => ⟨S255, .i32⟩
  | .hbm, ⟨9, _⟩ => ⟨S_, .i32⟩
  | .hbm, ⟨10, _⟩ => ⟨S255, .i32⟩
  | .hbm, ⟨11, _⟩ => ⟨S255, .i32⟩
  | .hbm, ⟨12, _⟩ => ⟨S4096x1, .i32⟩
  | .hbm, ⟨13, _⟩ => ⟨S1x255, .i32⟩
  | .hbm, ⟨14, _⟩ => ⟨S4096x255, .i32⟩
  | .hbm, ⟨15, _⟩ => ⟨S4096x255, .i32⟩
  | .hbm, ⟨16, _⟩ => ⟨S4096x255, .i32⟩
  | .hbm, ⟨17, _⟩ => ⟨S_, .i32⟩
  | .hbm, ⟨18, _⟩ => ⟨S4096x255, .i32⟩
  | .hbm, ⟨19, _⟩ => ⟨S4096x255, .i32⟩
  | .hbm, ⟨20, _⟩ => ⟨S_, .i32⟩
  | .hbm, ⟨21, _⟩ => ⟨S4096x255, .i32⟩
  | .hbm, ⟨22, _⟩ => ⟨S4096x255, .i32⟩
  | .hbm, ⟨23, _⟩ => ⟨S4096x255, .f32⟩
  | .hbm, ⟨24, _⟩ => ⟨S_, .f32⟩
  | .hbm, ⟨25, _⟩ => ⟨S4096x255, .f32⟩
  | .hbm, ⟨26, _⟩ => ⟨S4096x255, .f32⟩
  | .hbm, ⟨27, _⟩ => ⟨S4096x255, .f32⟩
  | .hbm, ⟨28, _⟩ => ⟨S_, .f32⟩
  | .hbm, ⟨29, _⟩ => ⟨S4096x255, .f32⟩
  | .hbm, ⟨30, _⟩ => ⟨S4096x255, .f32⟩
  | .hbm, ⟨31, _⟩ => ⟨S_, .f32⟩
  | .hbm, ⟨32, _⟩ => ⟨S4096x255, .f32⟩
  | .hbm, ⟨33, _⟩ => ⟨S4096x255, .f32⟩
  | .hbm, ⟨34, _⟩ => ⟨S4096x255, .i32⟩
  | .hbm, ⟨35, _⟩ => ⟨S_, .i32⟩
  | .hbm, ⟨36, _⟩ => ⟨S4096x255, .i32⟩
  | .hbm, ⟨37, _⟩ => ⟨S4096x255, .i32⟩
  | .hbm, ⟨38, _⟩ => ⟨S_, .i32⟩
  | .hbm, ⟨39, _⟩ => ⟨S4096x255, .i32⟩
  | .hbm, ⟨40, _⟩ => ⟨S4096x255, .i1⟩
  | .hbm, ⟨41, _⟩ => ⟨S_, .i32⟩
  | .hbm, ⟨42, _⟩ => ⟨S4096x255, .i32⟩
  | .hbm, ⟨43, _⟩ => ⟨S4096x255, .i32⟩
  | .hbm, ⟨44, _⟩ => ⟨S4096x255, .i32⟩
  | .hbm, ⟨45, _⟩ => ⟨S4096x255x1, .i32⟩
  | .hbm, ⟨46, _⟩ => ⟨S4096x255x16, .f32⟩
  | .hbm, ⟨47, _⟩ => ⟨S4096x255x4x4, .f32⟩
  | .hbm, ⟨48, _⟩ => ⟨S4x4x4096x255, .f32⟩
  | .hbm, ⟨49, _⟩ => ⟨S2x4x255x4096x4, .f32⟩
  | .hbm, ⟨50, _⟩ => ⟨S2x4x4x4096x255, .f32⟩
  | .hbm, ⟨51, _⟩ => ⟨S_, .f32⟩
  | .hbm, ⟨52, _⟩ => ⟨S2x4x4x4096x255, .f32⟩
  | .hbm, ⟨53, _⟩ => ⟨S2x4x4x4096x255, .f32⟩
  | .hbm, ⟨54, _⟩ => ⟨S1x4x4x4096x255, .f32⟩
  | .hbm, ⟨55, _⟩ => ⟨S2x4x4x4096x255, .f32⟩
  | .hbm, ⟨56, _⟩ => ⟨S2x4x4x4096x255, .f32⟩
  | .hbm, ⟨57, _⟩ => ⟨S_, .i32⟩
  | .hbm, ⟨58, _⟩ => ⟨S4096x255, .i32⟩
  | .hbm, ⟨59, _⟩ => ⟨S4096x255, .i1⟩
  | .hbm, ⟨60, _⟩ => ⟨S_, .f32⟩
  | .hbm, ⟨61, _⟩ => ⟨S_, .f32⟩
  | .hbm, ⟨62, _⟩ => ⟨S2x4x4x4096x255, .i1⟩
  | .hbm, ⟨63, _⟩ => ⟨S2x4x4x4096x255, .f32⟩
  | .hbm, ⟨64, _⟩ => ⟨S2x4x4x4096x255, .f32⟩
  | .hbm, ⟨65, _⟩ => ⟨S_, .f32⟩
  | .hbm, ⟨66, _⟩ => ⟨S2x4x4x4096, .f32⟩
  | .hbm, ⟨67, _⟩ => ⟨S2x4x4x4096x1, .f32⟩
  | .hbm, ⟨68, _⟩ => ⟨S2x4x4x4096x255, .f32⟩
  | .hbm, ⟨69, _⟩ => ⟨S2x4x4x4096x255, .f32⟩
  | .hbm, ⟨70, _⟩ => ⟨S2x4x4x4096x255, .f32⟩
  | .hbm, ⟨71, _⟩ => ⟨S_, .f32⟩
  | .hbm, ⟨72, _⟩ => ⟨S_, .f32⟩
  | .hbm, ⟨73, _⟩ => ⟨S2x4x4x4096x255, .i1⟩
  | .hbm, ⟨74, _⟩ => ⟨S2x4x4x4096x255, .f32⟩
  | .hbm, ⟨75, _⟩ => ⟨S2x4x4x4096x255, .f32⟩
  | .hbm, ⟨76, _⟩ => ⟨S_, .f32⟩
  | .hbm, ⟨77, _⟩ => ⟨S2x4x4x4096, .f32⟩
  | .hbm, ⟨78, _⟩ => ⟨S2x4x4x4096x1, .f32⟩
  | .hbm, ⟨79, _⟩ => ⟨S_, .f32⟩
  | .hbm, ⟨80, _⟩ => ⟨S2x4x4x4096x1, .f32⟩
  | .hbm, ⟨81, _⟩ => ⟨S2x4x4x4096x1, .f32⟩
  | .hbm, ⟨82, _⟩ => ⟨S2x4x4x4096x255, .f32⟩
  | .hbm, ⟨83, _⟩ => ⟨S2x4x4x4096x255, .f32⟩
  | .hbm, ⟨84, _⟩ => ⟨S2x4x128x4x4096, .f32⟩
  | .hbm, ⟨85, _⟩ => ⟨S2x4096x4x4x128, .f32⟩
  | .hbm, ⟨86, _⟩ => ⟨S255, .i32⟩
  | .hbm, ⟨87, _⟩ => ⟨S255x1, .i32⟩
  | .hbm, ⟨88, _⟩ => ⟨S_, .i32⟩
  | .hbm, ⟨89, _⟩ => ⟨S255x1, .i32⟩
  | .hbm, ⟨90, _⟩ => ⟨S255x1, .i32⟩
  | .hbm, ⟨91, _⟩ => ⟨S64, .i32⟩
  | .hbm, ⟨92, _⟩ => ⟨S1x64, .i32⟩
  | .hbm, ⟨93, _⟩ => ⟨S_, .i32⟩
  | .hbm, ⟨94, _⟩ => ⟨S1x64, .i32⟩
  | .hbm, ⟨95, _⟩ => ⟨S1x64, .i32⟩
  | .hbm, ⟨96, _⟩ => ⟨S_, .i32⟩
  | .hbm, ⟨97, _⟩ => ⟨S1x64, .i32⟩
  | .hbm, ⟨98, _⟩ => ⟨S1x64, .i32⟩
  | .hbm, ⟨99, _⟩ => ⟨S255x64, .i32⟩
  | .hbm, ⟨100, _⟩ => ⟨S255x64, .i32⟩
  | .hbm, ⟨101, _⟩ => ⟨S255x64, .i1⟩
  | .hbm, ⟨102, _⟩ => ⟨S_, .i32⟩
  | .hbm, ⟨103, _⟩ => ⟨S255x1, .i32⟩
  | .hbm, ⟨104, _⟩ => ⟨S255x1, .i32⟩
  | .hbm, ⟨105, _⟩ => ⟨S255x64, .i32⟩
  | .hbm, ⟨106, _⟩ => ⟨S255x64, .i32⟩
  | .hbm, ⟨107, _⟩ => ⟨S255x64, .i1⟩
  | .hbm, ⟨108, _⟩ => ⟨S255x64, .i1⟩
  | .hbm, ⟨109, _⟩ => ⟨S255x64, .f32⟩
  | .hbm, ⟨110, _⟩ => ⟨S_, .f32⟩
  | .hbm, ⟨111, _⟩ => ⟨S2x4x4096x255, .f32⟩
  | .hbm, ⟨112, _⟩ => ⟨S64x2x4x4096, .f32⟩
  | .hbm, ⟨113, _⟩ => ⟨S2x4096x4x64, .f32⟩
  | .hbm, ⟨114, _⟩ => ⟨S8192x2048, .f32⟩
  | .hbm, ⟨115, _⟩ => ⟨S2x4x64x4096, .f32⟩
  | _, _ => ⟨S2x4096x4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_c_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_19 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

def κ : String → Option EReal := fun
  | "mask" => some ⊥
  | _ => none
-- ==== Ffn.lean ====
abbrev S2x4096x2048 : Shape := ⟨3, ![2, 4096, 2048]⟩
abbrev S2048x11264 : Shape := ⟨2, ![2048, 11264]⟩
abbrev S8192x2048 : Shape := ⟨2, ![8192, 2048]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2048x11264, .f32⟩
  | .hbm, ⟨2, _⟩ => ⟨S8192x2048, .f32⟩
  | .hbm, ⟨3, _⟩ => ⟨S8192x2048, .bf16⟩
  | .hbm, ⟨4, _⟩ => ⟨S2048x11264, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnRefIdeal.lean ====
abbrev S2x4096x2048 : Shape := ⟨3, ![2, 4096, 2048]⟩
abbrev S2048x11264 : Shape := ⟨2, ![2048, 11264]⟩
abbrev S2x4096x11264 : Shape := ⟨3, ![2, 4096, 11264]⟩
abbrev S2x4096x5632 : Shape := ⟨3, ![2, 4096, 5632]⟩
abbrev S_ : Shape := ⟨0, ![]⟩
abbrev S8192x5632 : Shape := ⟨2, ![8192, 5632]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x11264, .f32⟩
  | .hbm, ⟨2, _⟩ => ⟨S2x4096x11264, .f32⟩
  | .hbm, ⟨3, _⟩ => ⟨S2x4096x5632, .f32⟩
  | .hbm, ⟨4, _⟩ => ⟨S2x4096x5632, .f32⟩
  | .hbm, ⟨5, _⟩ => ⟨S2x4096x5632, .f32⟩
  | .hbm, ⟨6, _⟩ => ⟨S2x4096x5632, .f32⟩
  | .hbm, ⟨7, _⟩ => ⟨S_, .f32⟩
  | .hbm, ⟨8, _⟩ => ⟨S2x4096x5632, .f32⟩
  | .hbm, ⟨9, _⟩ => ⟨S2x4096x5632, .f32⟩
  | .hbm, ⟨10, _⟩ => ⟨S_, .f32⟩
  | .hbm, ⟨11, _⟩ => ⟨S2x4096x5632, .f32⟩
  | .hbm, ⟨12, _⟩ => ⟨S2x4096x5632, .f32⟩
  | .hbm, ⟨13, _⟩ => ⟨S2x4096x5632, .f32⟩
  | .hbm, ⟨14, _⟩ => ⟨S2x4096x5632, .f32⟩
  | .hbm, ⟨15, _⟩ => ⟨S8192x5632, .f32⟩
  | .hbm, ⟨16, _⟩ => ⟨S8192x5632, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Zh.lean ====
abbrev S2x4096x2048 : Shape := ⟨3, ![2, 4096, 2048]⟩
abbrev S2048x17456 : Shape := ⟨2, ![2048, 17456]⟩
abbrev S8192x2048 : Shape := ⟨2, ![8192, 2048]⟩
abbrev S8192x8192 : Shape := ⟨2, ![8192, 8192]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S8192x2048, .f32⟩
  | .hbm, ⟨3, _⟩ => ⟨S8192x2048, .bf16⟩
  | .hbm, ⟨4, _⟩ => ⟨S2048x17456, .bf16⟩
  | .hbm, ⟨5, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZhRefIdeal.lean ====
abbrev S2x4096x2048 : Shape := ⟨3, ![2, 4096, 2048]⟩
abbrev S2048x17456 : Shape := ⟨2, ![2048, 17456]⟩
abbrev S2x4096x17456 : Shape := ⟨3, ![2, 4096, 17456]⟩
abbrev S2x4096x8192 : Shape := ⟨3, ![2, 4096, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S2x4096x17456, .f32⟩
  | .hbm, ⟨3, _⟩ => ⟨S2x4096x8192, .f32⟩
  | .hbm, ⟨4, _⟩ => ⟨S8192x8192, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S2x4096x5632 : Shape := ⟨3, ![2, 4096, 5632]⟩
abbrev S5632x2048 : Shape := ⟨2, ![5632, 2048]⟩
abbrev S2x4096x2048 : Shape := ⟨3, ![2, 4096, 2048]⟩
abbrev S2x2048 : Shape := ⟨2, ![2, 2048]⟩
abbrev S8192x5632 : Shape := ⟨2, ![8192, 5632]⟩
abbrev S8192x2048 : Shape := ⟨2, ![8192, 2048]⟩
abbrev S2x1x2048 : Shape := ⟨3, ![2, 1, 2048]⟩
abbrev S1024x5632 : Shape := ⟨2, ![1024, 5632]⟩
abbrev S5632x512 : Shape := ⟨2, ![5632, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x5632, .f32⟩
  | .hbm, ⟨1, _⟩ => ⟨S5632x2048, .f32⟩
  | .hbm, ⟨2, _⟩ => ⟨S2x4096x2048, .f32⟩
  | .hbm, ⟨3, _⟩ => ⟨S2x2048, .f32⟩
  | .hbm, ⟨4, _⟩ => ⟨S8192x5632, .f32⟩
  | .hbm, ⟨5, _⟩ => ⟨S8192x5632, .bf16⟩
  | .hbm, ⟨6, _⟩ => ⟨S5632x2048, .bf16⟩
  | .hbm, ⟨7, _⟩ => ⟨S8192x2048, .f32⟩
  | .hbm, ⟨8, _⟩ => ⟨S2x1x2048, .f32⟩
  | .hbm, ⟨9, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S2x4096x5632 : Shape := ⟨3, ![2, 4096, 5632]⟩
abbrev S5632x2048 : Shape := ⟨2, ![5632, 2048]⟩
abbrev S2x4096x2048 : Shape := ⟨3, ![2, 4096, 2048]⟩
abbrev S2x2048 : Shape := ⟨2, ![2, 2048]⟩
abbrev S2x1x2048 : Shape := ⟨3, ![2, 1, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S5632x2048, .f32⟩
  | .hbm, ⟨2, _⟩ => ⟨S2x4096x2048, .f32⟩
  | .hbm, ⟨3, _⟩ => ⟨S2x2048, .f32⟩
  | .hbm, ⟨4, _⟩ => ⟨S2x1x2048, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S8192x2048, .f32⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Merge.lean ====
abbrev S2x4096x2048 : Shape := ⟨3, ![2, 4096, 2048]⟩
abbrev S2048x2048 : Shape := ⟨2, ![2048, 2048]⟩
abbrev S2x4096x4096 : Shape := ⟨3, ![2, 4096, 4096]⟩
abbrev S8192x2048 : Shape := ⟨2, ![8192, 2048]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 13
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2048x2048, .f32⟩
  | .hbm, ⟨3, _⟩ => ⟨S2048x2048, .f32⟩
  | .hbm, ⟨4, _⟩ => ⟨S2x4096x4096, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .bf16⟩
  | .hbm, ⟨9, _⟩ => ⟨S2048x2048, .bf16⟩
  | .hbm, ⟨10, _⟩ => ⟨S2048x2048, .bf16⟩
  | .hbm, ⟨11, _⟩ => ⟨S8192x4096, .f32⟩
  | .hbm, ⟨12, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S2x4096x2048 : Shape := ⟨3, ![2, 4096, 2048]⟩
abbrev S2048x2048 : Shape := ⟨2, ![2048, 2048]⟩
abbrev S2x4096x4096 : Shape := ⟨3, ![2, 4096, 4096]⟩
abbrev S_ : Shape := ⟨0, ![]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2048x2048, .f32⟩
  | .hbm, ⟨3, _⟩ => ⟨S2048x2048, .f32⟩
  | .hbm, ⟨4, _⟩ => ⟨S2x4096x4096, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S_, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S8192x2048, .f32⟩
  | .hbm, ⟨29, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Out.lean ====
abbrev S2x4096x2048 : Shape := ⟨3, ![2, 4096, 2048]⟩
abbrev S2048x2048 : Shape := ⟨2, ![2048, 2048]⟩
abbrev S2x2048 : Shape := ⟨2, ![2, 2048]⟩
abbrev S8192x2048 : Shape := ⟨2, ![8192, 2048]⟩
abbrev S2x1x2048 : Shape := ⟨3, ![2, 1, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2x4096x2048, .f32⟩
  | .hbm, ⟨3, _⟩ => ⟨S2x2048, .f32⟩
  | .hbm, ⟨4, _⟩ => ⟨S8192x2048, .f32⟩
  | .hbm, ⟨5, _⟩ => ⟨S8192x2048, .bf16⟩
  | .hbm, ⟨6, _⟩ => ⟨S2048x2048, .bf16⟩
  | .hbm, ⟨7, _⟩ => ⟨S8192x2048, .f32⟩
  | .hbm, ⟨8, _⟩ => ⟨S2x1x2048, .f32⟩
  | .hbm, ⟨9, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S2x4096x2048 : Shape := ⟨3, ![2, 4096, 2048]⟩
abbrev S2048x2048 : Shape := ⟨2, ![2048, 2048]⟩
abbrev S2x2048 : Shape := ⟨2, ![2, 2048]⟩
abbrev S2x1x2048 : Shape := ⟨3, ![2, 1, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2x4096x2048, .f32⟩
  | .hbm, ⟨3, _⟩ => ⟨S2x2048, .f32⟩
  | .hbm, ⟨4, _⟩ => ⟨S2x1x2048, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Gab.lean ====
abbrev S2x4096x2048 : Shape := ⟨3, ![2, 4096, 2048]⟩
abbrev S2048x17456 : Shape := ⟨2, ![2048, 17456]⟩
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S8192x2048, .f32⟩
  | .hbm, ⟨3, _⟩ => ⟨S8192x2048, .bf16⟩
  | .hbm, ⟨4, _⟩ => ⟨S2048x17456, .bf16⟩
  | .hbm, ⟨5, _⟩ => ⟨S2048x4096, .bf16⟩
  | .hbm, ⟨6, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GabRefIdeal.lean ====
abbrev S2x4096x2048 : Shape := ⟨3, ![2, 4096, 2048]⟩
abbrev S2048x17456 : Shape := ⟨2, ![2048, 17456]⟩
abbrev S2x4096x17456 : Shape := ⟨3, ![2, 4096, 17456]⟩
abbrev S2x4096x4096 : Shape := ⟨3, ![2, 4096, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S2x4096x17456, .f32⟩
  | .hbm, ⟨3, _⟩ => ⟨S2x4096x4096, .f32⟩
  | .hbm, ⟨4, _⟩ => ⟨S8192x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Q.lean ====
abbrev S2x4096x2048 : Shape := ⟨3, ![2, 4096, 2048]⟩
abbrev S2048x17456 : Shape := ⟨2, ![2048, 17456]⟩
abbrev S128 : Shape := ⟨1, ![128]⟩
abbrev S8192x2048 : Shape := ⟨2, ![8192, 2048]⟩
abbrev S1x128 : Shape := ⟨2, ![1, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S128, .f32⟩
  | .hbm, ⟨3, _⟩ => ⟨S8192x2048, .f32⟩
  | .hbm, ⟨4, _⟩ => ⟨S8192x2048, .bf16⟩
  | .hbm, ⟨5, _⟩ => ⟨S2048x17456, .bf16⟩
  | .hbm, ⟨6, _⟩ => ⟨S1x128, .f32⟩
  | .hbm, ⟨7, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x128, .f32⟩
  | .local _ .vmem, ⟨5, _⟩ => ⟨S1024x512, .bf16⟩
  | .local _ .vmem, ⟨6, _⟩ => ⟨S1024x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QRefIdeal.lean ====
abbrev S2x4096x2048 : Shape := ⟨3, ![2, 4096, 2048]⟩
abbrev S2048x17456 : Shape := ⟨2, ![2048, 17456]⟩
abbrev S128 : Shape := ⟨1, ![128]⟩
abbrev S2x4096x17456 : Shape := ⟨3, ![2, 4096, 17456]⟩
abbrev S2x4096x16x128 : Shape := ⟨4, ![2, 4096, 16, 128]⟩
abbrev S_ : Shape := ⟨0, ![]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S128, .f32⟩
  | .hbm, ⟨3, _⟩ => ⟨S2x4096x17456, .f32⟩
  | .hbm, ⟨4, _⟩ => ⟨S2x4096x2048, .f32⟩
  | .hbm, ⟨5, _⟩ => ⟨S2x4096x16x128, .f32⟩
  | .hbm, ⟨6, _⟩ => ⟨S2x4096x16x128, .f32⟩
  | .hbm, ⟨7, _⟩ => ⟨S_, .f32⟩
  | .hbm, ⟨8, _⟩ => ⟨S2x4096x16, .f32⟩
  | .hbm, ⟨9, _⟩ => ⟨S2x4096x16x1, .f32⟩
  | .hbm, ⟨10, _⟩ => ⟨S_, .f32⟩
  | .hbm, ⟨11, _⟩ => ⟨S2x4096x16x1, .f32⟩
  | .hbm, ⟨12, _⟩ => ⟨S2x4096x16x1, .f32⟩
  | .hbm, ⟨13, _⟩ => ⟨S_, .f32⟩
  | .hbm, ⟨14, _⟩ => ⟨S2x4096x16x1, .f32⟩
  | .hbm, ⟨15, _⟩ => ⟨S2x4096x16x1, .f32⟩
  | .hbm, ⟨16, _⟩ => ⟨S2x4096x16x1, .f32⟩
  | .hbm, ⟨17, _⟩ => ⟨S2x4096x16x128, .f32⟩
  | .hbm, ⟨18, _⟩ => ⟨S2x4096x16x128, .f32⟩
  | .hbm, ⟨19, _⟩ => ⟨S1x1x1x128, .f32⟩
  | .hbm, ⟨20, _⟩ => ⟨S2x4096x16x128, .f32⟩
  | .hbm, ⟨21, _⟩ => ⟨S2x4096x16x128, .f32⟩
  | .hbm, ⟨22, _⟩ => ⟨S8192x2048, .f32⟩
  | .hbm, ⟨23, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kc.lean ====
abbrev S2x4096x2048 : Shape := ⟨3, ![2, 4096, 2048]⟩
abbrev S2048x17456 : Shape := ⟨2, ![2048, 17456]⟩
abbrev S8192x2048 : Shape := ⟨2, ![8192, 2048]⟩
abbrev S8192x512 : Shape := ⟨2, ![8192, 512]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S8192x2048, .f32⟩
  | .hbm, ⟨3, _⟩ => ⟨S8192x2048, .bf16⟩
  | .hbm, ⟨4, _⟩ => ⟨S2048x17456, .bf16⟩
  | .hbm, ⟨5, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KcRefIdeal.lean ====
abbrev S2x4096x2048 : Shape := ⟨3, ![2, 4096, 2048]⟩
abbrev S2048x17456 : Shape := ⟨2, ![2048, 17456]⟩
abbrev S2x4096x17456 : Shape := ⟨3, ![2, 4096, 17456]⟩
abbrev S2x4096x512 : Shape := ⟨3, ![2, 4096, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S2x4096x17456, .f32⟩
  | .hbm, ⟨3, _⟩ => ⟨S2x4096x512, .f32⟩
  | .hbm, ⟨4, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Vc.lean ====
abbrev S2x4096x2048 : Shape := ⟨3, ![2, 4096, 2048]⟩
abbrev S2048x17456 : Shape := ⟨2, ![2048, 17456]⟩
abbrev S8192x2048 : Shape := ⟨2, ![8192, 2048]⟩
abbrev S8192x512 : Shape := ⟨2, ![8192, 512]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S8192x2048, .f32⟩
  | .hbm, ⟨3, _⟩ => ⟨S8192x2048, .bf16⟩
  | .hbm, ⟨4, _⟩ => ⟨S2048x17456, .bf16⟩
  | .hbm, ⟨5, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VcRefIdeal.lean ====
abbrev S2x4096x2048 : Shape := ⟨3, ![2, 4096, 2048]⟩
abbrev S2048x17456 : Shape := ⟨2, ![2048, 17456]⟩
abbrev S2x4096x17456 : Shape := ⟨3, ![2, 4096, 17456]⟩
abbrev S2x4096x512 : Shape := ⟨3, ![2, 4096, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S2x4096x17456, .f32⟩
  | .hbm, ⟨3, _⟩ => ⟨S2x4096x512, .f32⟩
  | .hbm, ⟨4, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ks.lean ====
abbrev S2x4096x2048 : Shape := ⟨3, ![2, 4096, 2048]⟩
abbrev S2048x17456 : Shape := ⟨2, ![2048, 17456]⟩
abbrev S128 : Shape := ⟨1, ![128]⟩
abbrev S8192x2048 : Shape := ⟨2, ![8192, 2048]⟩
abbrev S1x128 : Shape := ⟨2, ![1, 128]⟩
abbrev S8192x512 : Shape := ⟨2, ![8192, 512]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S128, .f32⟩
  | .hbm, ⟨3, _⟩ => ⟨S8192x2048, .f32⟩
  | .hbm, ⟨4, _⟩ => ⟨S8192x2048, .bf16⟩
  | .hbm, ⟨5, _⟩ => ⟨S2048x17456, .bf16⟩
  | .hbm, ⟨6, _⟩ => ⟨S1x128, .f32⟩
  | .hbm, ⟨7, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x128, .f32⟩
  | .local _ .vmem, ⟨4, _⟩ => ⟨S1024x512, .f32⟩
  | .local _ .vmem, ⟨5, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KsRefIdeal.lean ====
abbrev S2x4096x2048 : Shape := ⟨3, ![2, 4096, 2048]⟩
abbrev S2048x17456 : Shape := ⟨2, ![2048, 17456]⟩
abbrev S128 : Shape := ⟨1, ![128]⟩
abbrev S2x4096x17456 : Shape := ⟨3, ![2, 4096, 17456]⟩
abbrev S2x4096x512 : Shape := ⟨3, ![2, 4096, 512]⟩
abbrev S2x4096x4x128 : Shape := ⟨4, ![2, 4096, 4, 128]⟩
abbrev S_ : Shape := ⟨0, ![]⟩
abbrev S2x4096x4 : Shape := ⟨3, ![2, 4096, 4]⟩
abbrev S2x4096x4x1 : Shape := ⟨4, ![2, 4096, 4, 1]⟩
abbrev S1x1x1x128 : Shape := ⟨4, ![1, 1, 1, 128]⟩
abbrev S8192x512 : Shape := ⟨2, ![8192, 512]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S128, .f32⟩
  | .hbm, ⟨3, _⟩ => ⟨S2x4096x17456, .f32⟩
  | .hbm, ⟨4, _⟩ => ⟨S2x4096x512, .f32⟩
  | .hbm, ⟨5, _⟩ => ⟨S2x4096x4x128, .f32⟩
  | .hbm, ⟨6, _⟩ => ⟨S2x4096x4x128, .f32⟩
  | .hbm, ⟨7, _⟩ => ⟨S_, .f32⟩
  | .hbm, ⟨8, _⟩ => ⟨S2x4096x4, .f32⟩
  | .hbm, ⟨9, _⟩ => ⟨S2x4096x4x1, .f32⟩
  | .hbm, ⟨10, _⟩ => ⟨S_, .f32⟩
  | .hbm, ⟨11, _⟩ => ⟨S2x4096x4x1, .f32⟩
  | .hbm, ⟨12, _⟩ => ⟨S2x4096x4x1, .f32⟩
  | .hbm, ⟨13, _⟩ => ⟨S_, .f32⟩
  | .hbm, ⟨14, _⟩ => ⟨S2x4096x4x1, .f32⟩
  | .hbm, ⟨15, _⟩ => ⟨S2x4096x4x1, .f32⟩
  | .hbm, ⟨16, _⟩ => ⟨S2x4096x4x1, .f32⟩
  | .hbm, ⟨17, _⟩ => ⟨S2x4096x4x128, .f32⟩
  | .hbm, ⟨18, _⟩ => ⟨S2x4096x4x128, .f32⟩
  | .hbm, ⟨19, _⟩ => ⟨S1x1x1x128, .f32⟩
  | .hbm, ⟨20, _⟩ => ⟨S2x4096x4x128, .f32⟩
  | .hbm, ⟨21, _⟩ => ⟨S2x4096x4x128, .f32⟩
  | .hbm, ⟨22, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Vs.lean ====
abbrev S2x4096x2048 : Shape := ⟨3, ![2, 4096, 2048]⟩
abbrev S2048x17456 : Shape := ⟨2, ![2048, 17456]⟩
abbrev S8192x2048 : Shape := ⟨2, ![8192, 2048]⟩
abbrev S8192x512 : Shape := ⟨2, ![8192, 512]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S8192x2048, .f32⟩
  | .hbm, ⟨3, _⟩ => ⟨S8192x2048, .bf16⟩
  | .hbm, ⟨4, _⟩ => ⟨S2048x17456, .bf16⟩
  | .hbm, ⟨5, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VsRefIdeal.lean ====
abbrev S2x4096x2048 : Shape := ⟨3, ![2, 4096, 2048]⟩
abbrev S2048x17456 : Shape := ⟨2, ![2048, 17456]⟩
abbrev S2x4096x17456 : Shape := ⟨3, ![2, 4096, 17456]⟩
abbrev S2x4096x512 : Shape := ⟨3, ![2, 4096, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S2x4096x17456, .f32⟩
  | .hbm, ⟨3, _⟩ => ⟨S2x4096x512, .f32⟩
  | .hbm, ⟨4, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kw.lean ====
abbrev S2x4096x2048 : Shape := ⟨3, ![2, 4096, 2048]⟩
abbrev S2048x17456 : Shape := ⟨2, ![2048, 17456]⟩
abbrev S128 : Shape := ⟨1, ![128]⟩
abbrev S8192x2048 : Shape := ⟨2, ![8192, 2048]⟩
abbrev S1x128 : Shape := ⟨2, ![1, 128]⟩
abbrev S8192x512 : Shape := ⟨2, ![8192, 512]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S128, .f32⟩
  | .hbm, ⟨3, _⟩ => ⟨S8192x2048, .f32⟩
  | .hbm, ⟨4, _⟩ => ⟨S8192x2048, .bf16⟩
  | .hbm, ⟨5, _⟩ => ⟨S2048x17456, .bf16⟩
  | .hbm, ⟨6, _⟩ => ⟨S1x128, .f32⟩
  | .hbm, ⟨7, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x128, .f32⟩
  | .local _ .vmem, ⟨4, _⟩ => ⟨S1024x512, .f32⟩
  | .local _ .vmem, ⟨5, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KwRefIdeal.lean ====
abbrev S2x4096x2048 : Shape := ⟨3, ![2, 4096, 2048]⟩
abbrev S2048x17456 : Shape := ⟨2, ![2048, 17456]⟩
abbrev S128 : Shape := ⟨1, ![128]⟩
abbrev S2x4096x17456 : Shape := ⟨3, ![2, 4096, 17456]⟩
abbrev S2x4096x512 : Shape := ⟨3, ![2, 4096, 512]⟩
abbrev S2x4096x4x128 : Shape := ⟨4, ![2, 4096, 4, 128]⟩
abbrev S_ : Shape := ⟨0, ![]⟩
abbrev S2x4096x4 : Shape := ⟨3, ![2, 4096, 4]⟩
abbrev S2x4096x4x1 : Shape := ⟨4, ![2, 4096, 4, 1]⟩
abbrev S1x1x1x128 : Shape := ⟨4, ![1, 1, 1, 128]⟩
abbrev S8192x512 : Shape := ⟨2, ![8192, 512]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S128, .f32⟩
  | .hbm, ⟨3, _⟩ => ⟨S2x4096x17456, .f32⟩
  | .hbm, ⟨4, _⟩ => ⟨S2x4096x512, .f32⟩
  | .hbm, ⟨5, _⟩ => ⟨S2x4096x4x128, .f32⟩
  | .hbm, ⟨6, _⟩ => ⟨S2x4096x4x128, .f32⟩
  | .hbm, ⟨7, _⟩ => ⟨S_, .f32⟩
  | .hbm, ⟨8, _⟩ => ⟨S2x4096x4, .f32⟩
  | .hbm, ⟨9, _⟩ => ⟨S2x4096x4x1, .f32⟩
  | .hbm, ⟨10, _⟩ => ⟨S_, .f32⟩
  | .hbm, ⟨11, _⟩ => ⟨S2x4096x4x1, .f32⟩
  | .hbm, ⟨12, _⟩ => ⟨S2x4096x4x1, .f32⟩
  | .hbm, ⟨13, _⟩ => ⟨S_, .f32⟩
  | .hbm, ⟨14, _⟩ => ⟨S2x4096x4x1, .f32⟩
  | .hbm, ⟨15, _⟩ => ⟨S2x4096x4x1, .f32⟩
  | .hbm, ⟨16, _⟩ => ⟨S2x4096x4x1, .f32⟩
  | .hbm, ⟨17, _⟩ => ⟨S2x4096x4x128, .f32⟩
  | .hbm, ⟨18, _⟩ => ⟨S2x4096x4x128, .f32⟩
  | .hbm, ⟨19, _⟩ => ⟨S1x1x1x128, .f32⟩
  | .hbm, ⟨20, _⟩ => ⟨S2x4096x4x128, .f32⟩
  | .hbm, ⟨21, _⟩ => ⟨S2x4096x4x128, .f32⟩
  | .hbm, ⟨22, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Vw.lean ====
abbrev S2x4096x2048 : Shape := ⟨3, ![2, 4096, 2048]⟩
abbrev S2048x17456 : Shape := ⟨2, ![2048, 17456]⟩
abbrev S8192x2048 : Shape := ⟨2, ![8192, 2048]⟩
abbrev S8192x512 : Shape := ⟨2, ![8192, 512]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S8192x2048, .f32⟩
  | .hbm, ⟨3, _⟩ => ⟨S8192x2048, .bf16⟩
  | .hbm, ⟨4, _⟩ => ⟨S2048x17456, .bf16⟩
  | .hbm, ⟨5, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VwRefIdeal.lean ====
abbrev S2x4096x2048 : Shape := ⟨3, ![2, 4096, 2048]⟩
abbrev S2048x17456 : Shape := ⟨2, ![2048, 17456]⟩
abbrev S2x4096x17456 : Shape := ⟨3, ![2, 4096, 17456]⟩
abbrev S2x4096x512 : Shape := ⟨3, ![2, 4096, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x17456, .f32⟩
  | .hbm, ⟨2, _⟩ => ⟨S2x4096x17456, .f32⟩
  | .hbm, ⟨3, _⟩ => ⟨S2x4096x512, .f32⟩
  | .hbm, ⟨4, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mod.lean ====
abbrev S2x4096x2048 : Shape := ⟨3, ![2, 4096, 2048]⟩
abbrev S2048 : Shape := ⟨1, ![2048]⟩
abbrev S2x2048 : Shape := ⟨2, ![2, 2048]⟩
abbrev S8192x2048 : Shape := ⟨2, ![8192, 2048]⟩
abbrev S1x2048 : Shape := ⟨2, ![1, 2048]⟩
abbrev S2x1x2048 : Shape := ⟨3, ![2, 1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S8192x2048, .f32⟩
  | .hbm, ⟨5, _⟩ => ⟨S1x2048, .f32⟩
  | .hbm, ⟨6, _⟩ => ⟨S2x1x2048, .f32⟩
  | .hbm, ⟨7, _⟩ => ⟨S2x1x2048, .f32⟩
  | .hbm, ⟨8, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModRefIdeal.lean ====
abbrev S2x4096x2048 : Shape := ⟨3, ![2, 4096, 2048]⟩
abbrev S2048 : Shape := ⟨1, ![2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2x1x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x4096x2048, .f32⟩
  | .hbm, ⟨25, _⟩ => ⟨S2x4096x2048, .f32⟩
  | .hbm, ⟨26, _⟩ => ⟨S2x1x2048, .f32⟩
  | .hbm, ⟨27, _⟩ => ⟨S2x4096x2048, .f32⟩
  | .hbm, ⟨28, _⟩ => ⟨S2x4096x2048, .f32⟩
  | .hbm, ⟨29, _⟩ => ⟨S8192x2048, .f32⟩
  | .hbm, ⟨30, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Ada.lean ====
abbrev S136x2048 : Shape := ⟨2, ![136, 2048]⟩
abbrev S2048x12288 : Shape := ⟨2, ![2048, 12288]⟩
abbrev S12288 : Shape := ⟨1, ![12288]⟩
abbrev S1x12288 : Shape := ⟨2, ![1, 12288]⟩
abbrev S136x12288 : Shape := ⟨2, ![136, 12288]⟩
abbrev S2048x512 : Shape := ⟨2, ![2048, 512]⟩
abbrev S1x512 : Shape := ⟨2, ![1, 512]⟩
abbrev S136x512 : Shape := ⟨2, ![136, 512]⟩

abbrev nBuf : Space → Nat
  | .hbm => 6
  | .vmem => 7
  | .smem => 0
  | _ => 0

abbrev bufTy : (tb : Table) → Fin (tcTables nBuf tb) → BufTy
  | .hbm, ⟨0, _⟩ => ⟨S136x2048, .f32⟩
  | .hbm, ⟨1, _⟩ => ⟨S2048x12288, .f32⟩
  | .hbm, ⟨2, _⟩ => ⟨S12288, .f32⟩
  | .hbm, ⟨3, _⟩ => ⟨S2048x12288, .bf16⟩
  | .hbm, ⟨4, _⟩ => ⟨S1x12288, .f32⟩
  | .hbm, ⟨5, _⟩ => ⟨S136x12288, .f32⟩
  | .local _ .vmem, ⟨0, _⟩ => ⟨S136x2048, .f32⟩
  | .local _ .vmem, ⟨1, _⟩ => ⟨S2048x512, .bf16⟩
  | .local _ .vmem, ⟨2, _⟩ => ⟨S2048x512, .bf16⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | _, _ => ⟨S136x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S136x2048 : Shape := ⟨2, ![136, 2048]⟩
abbrev S2048x12288 : Shape := ⟨2, ![2048, 12288]⟩
abbrev S12288 : Shape := ⟨1, ![12288]⟩
abbrev S_ : Shape := ⟨0, ![]⟩
abbrev S136x12288 : Shape := ⟨2, ![136, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S136x2048, .f32⟩
  | .hbm, ⟨1, _⟩ => ⟨S2048x12288, .f32⟩
  | .hbm, ⟨2, _⟩ => ⟨S12288, .f32⟩
  | .hbm, ⟨3, _⟩ => ⟨S136x2048, .f32⟩
  | .hbm, ⟨4, _⟩ => ⟨S136x2048, .f32⟩
  | .hbm, ⟨5, _⟩ => ⟨S_, .f32⟩
  | .hbm, ⟨6, _⟩ => ⟨S136x2048, .f32⟩
  | .hbm, ⟨7, _⟩ => ⟨S136x2048, .f32⟩
  | .hbm, ⟨8, _⟩ => ⟨S_, .f32⟩
  | .hbm, ⟨9, _⟩ => ⟨S136x2048, .f32⟩
  | .hbm, ⟨10, _⟩ => ⟨S136x2048, .f32⟩
  | .hbm, ⟨11, _⟩ => ⟨S136x2048, .f32⟩
  | .hbm, ⟨12, _⟩ => ⟨S136x12288, .f32⟩
  | .hbm, ⟨13, _⟩ => ⟨S1x12288, .f32⟩
  | .hbm, ⟨14, _⟩ => ⟨S136x12288, .f32⟩
  | .hbm, ⟨15, _⟩ => ⟨S136x12288, .f32⟩
  | _, _ => ⟨S136x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== DownS.lean ====
abbrev S128x1x5632 : Shape := ⟨3, ![128, 1, 5632]⟩
abbrev S5632x2048 : Shape := ⟨2, ![5632, 2048]⟩
abbrev S128x1x2048 : Shape := ⟨3, ![128, 1, 2048]⟩
abbrev S128x2048 : Shape := ⟨2, ![128, 2048]⟩
abbrev S128x5632 : Shape := ⟨2, ![128, 5632]⟩
abbrev S5632x512 : Shape := ⟨2, ![5632, 512]⟩
abbrev S128x512 : Shape := ⟨2, ![128, 512]⟩

abbrev nBuf : Space → Nat
  | .hbm => 9
  | .vmem => 9
  | .smem => 0
  | _ => 0

abbrev bufTy : (tb : Table) → Fin (tcTables nBuf tb) → BufTy
  | .hbm, ⟨0, _⟩ => ⟨S128x1x5632, .f32⟩
  | .hbm, ⟨1, _⟩ => ⟨S5632x2048, .f32⟩
  | .hbm, ⟨2, _⟩ => ⟨S128x1x2048, .f32⟩
  | .hbm, ⟨3, _⟩ => ⟨S128x2048, .f32⟩
  | .hbm, ⟨4, _⟩ => ⟨S128x5632, .f32⟩
  | .hbm, ⟨5, _⟩ => ⟨S128x5632, .bf16⟩
  | .hbm, ⟨6, _⟩ => ⟨S5632x2048, .bf16⟩
  | .hbm, ⟨7, _⟩ => ⟨S128x2048, .f32⟩
  | .hbm, ⟨8, _⟩ => ⟨S128x2048, .f32⟩
  | .local _ .vmem, ⟨0, _⟩ => ⟨S128x5632, .bf16⟩
  | .local _ .vmem, ⟨1, _⟩ => ⟨S5632x512, .bf16⟩
  | .local _ .vmem, ⟨2, _⟩ => ⟨S5632x512, .bf16⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | _, _ => ⟨S128x1x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownSRefIdeal.lean ====
abbrev S128x1x5632 : Shape := ⟨3, ![128, 1, 5632]⟩
abbrev S5632x2048 : Shape := ⟨2, ![5632, 2048]⟩
abbrev S128x1x2048 : Shape := ⟨3, ![128, 1, 2048]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S128x1x5632, .f32⟩
  | .hbm, ⟨1, _⟩ => ⟨S5632x2048, .f32⟩
  | .hbm, ⟨2, _⟩ => ⟨S128x1x2048, .f32⟩
  | .hbm, ⟨3, _⟩ => ⟨S128x2048, .f32⟩
  | .hbm, ⟨4, _⟩ => ⟨S128x1x2048, .f32⟩
  | .hbm, ⟨5, _⟩ => ⟨S128x1x2048, .f32⟩
  | .hbm, ⟨6, _⟩ => ⟨S128x1x2048, .f32⟩
  | .hbm, ⟨7, _⟩ => ⟨S128x1x2048, .f32⟩
  | .hbm, ⟨8, _⟩ => ⟨S128x2048, .f32⟩
  | _, _ => ⟨S128x1x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KcS.lean ====
abbrev S128x1x2048 : Shape := ⟨3, ![128, 1, 2048]⟩
abbrev S2048x17456 : Shape := ⟨2, ![2048, 17456]⟩
abbrev S128x2048 : Shape := ⟨2, ![128, 2048]⟩
abbrev S128x512 : Shape := ⟨2, ![128, 512]⟩
abbrev S2048x512 : Shape := ⟨2, ![2048, 512]⟩

abbrev nBuf : Space → Nat
  | .hbm => 6
  | .vmem => 3
  | .smem => 0
  | _ => 0

abbrev bufTy : (tb : Table) → Fin (tcTables nBuf tb) → BufTy
  | .hbm, ⟨0, _⟩ => ⟨S128x1x2048, .f32⟩
  | .hbm, ⟨1, _⟩ => ⟨S2048x17456, .f32⟩
  | .hbm, ⟨2, _⟩ => ⟨S128x2048, .f32⟩
  | .hbm, ⟨3, _⟩ => ⟨S128x2048, .bf16⟩
  | .hbm, ⟨4, _⟩ => ⟨S2048x17456, .bf16⟩
  | .hbm, ⟨5, _⟩ => ⟨S128x512, .f32⟩
  | .local _ .vmem, ⟨0, _⟩ => ⟨S128x2048, .bf16⟩
  | .local _ .vmem, ⟨1, _⟩ => ⟨S2048x512, .bf16⟩
  | .local _ .vmem, ⟨2, _⟩ => ⟨S128x512, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== KcSRefIdeal.lean ====
abbrev S128x1x2048 : Shape := ⟨3, ![128, 1, 2048]⟩
abbrev S2048x17456 : Shape := ⟨2, ![2048, 17456]⟩
abbrev S128x1x17456 : Shape := ⟨3, ![128, 1, 17456]⟩
abbrev S128x1x512 : Shape := ⟨3, ![128, 1, 512]⟩
abbrev S128x512 : Shape := ⟨2, ![128, 512]⟩

abbrev nBuf : Space → Nat
  | .hbm => 5
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2048x17456, .f32⟩
  | .hbm, ⟨2, _⟩ => ⟨S128x1x17456, .f32⟩
  | .hbm, ⟨3, _⟩ => ⟨S128x1x512, .f32⟩
  | .hbm, ⟨4, _⟩ => ⟨S128x512, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== VcS.lean ====
abbrev S128x1x2048 : Shape := ⟨3, ![128, 1, 2048]⟩
abbrev S2048x17456 : Shape := ⟨2, ![2048, 17456]⟩
abbrev S128x2048 : Shape := ⟨2, ![128, 2048]⟩
abbrev S128x512 : Shape := ⟨2, ![128, 512]⟩
abbrev S2048x512 : Shape := ⟨2, ![2048, 512]⟩

abbrev nBuf : Space → Nat
  | .hbm => 6
  | .vmem => 3
  | .smem => 0
  | _ => 0

abbrev bufTy : (tb : Table) → Fin (tcTables nBuf tb) → BufTy
  | .hbm, ⟨0, _⟩ => ⟨S128x1x2048, .f32⟩
  | .hbm, ⟨1, _⟩ => ⟨S2048x17456, .f32⟩
  | .hbm, ⟨2, _⟩ => ⟨S128x2048, .f32⟩
  | .hbm, ⟨3, _⟩ => ⟨S128x2048, .bf16⟩
  | .hbm, ⟨4, _⟩ => ⟨S2048x17456, .bf16⟩
  | .hbm, ⟨5, _⟩ => ⟨S128x512, .f32⟩
  | .local _ .vmem, ⟨0, _⟩ => ⟨S128x2048, .bf16⟩
  | .local _ .vmem, ⟨1, _⟩ => ⟨S2048x512, .bf16⟩
  | .local _ .vmem, ⟨2, _⟩ => ⟨S128x512, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== VcSRefIdeal.lean ====
abbrev S128x1x2048 : Shape := ⟨3, ![128, 1, 2048]⟩
abbrev S2048x17456 : Shape := ⟨2, ![2048, 17456]⟩
abbrev S128x1x17456 : Shape := ⟨3, ![128, 1, 17456]⟩
abbrev S128x1x512 : Shape := ⟨3, ![128, 1, 512]⟩
abbrev S128x512 : Shape := ⟨2, ![128, 512]⟩

abbrev nBuf : Space → Nat
  | .hbm => 5
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2048x17456, .f32⟩
  | .hbm, ⟨2, _⟩ => ⟨S128x1x17456, .f32⟩
  | .hbm, ⟨3, _⟩ => ⟨S128x1x512, .f32⟩
  | .hbm, ⟨4, _⟩ => ⟨S128x512, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== VsS.lean ====
abbrev S128x1x2048 : Shape := ⟨3, ![128, 1, 2048]⟩
abbrev S2048x17456 : Shape := ⟨2, ![2048, 17456]⟩
abbrev S128x2048 : Shape := ⟨2, ![128, 2048]⟩
abbrev S128x512 : Shape := ⟨2, ![128, 512]⟩
abbrev S2048x512 : Shape := ⟨2, ![2048, 512]⟩

abbrev nBuf : Space → Nat
  | .hbm => 6
  | .vmem => 3
  | .smem => 0
  | _ => 0

abbrev bufTy : (tb : Table) → Fin (tcTables nBuf tb) → BufTy
  | .hbm, ⟨0, _⟩ => ⟨S128x1x2048, .f32⟩
  | .hbm, ⟨1, _⟩ => ⟨S2048x17456, .f32⟩
  | .hbm, ⟨2, _⟩ => ⟨S128x2048, .f32⟩
  | .hbm, ⟨3, _⟩ => ⟨S128x2048, .bf16⟩
  | .hbm, ⟨4, _⟩ => ⟨S2048x17456, .bf16⟩
  | .hbm, ⟨5, _⟩ => ⟨S128x512, .f32⟩
  | .local _ .vmem, ⟨0, _⟩ => ⟨S128x2048, .bf16⟩
  | .local _ .vmem, ⟨1, _⟩ => ⟨S2048x512, .bf16⟩
  | .local _ .vmem, ⟨2, _⟩ => ⟨S128x512, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== VsSRefIdeal.lean ====
abbrev S128x1x2048 : Shape := ⟨3, ![128, 1, 2048]⟩
abbrev S2048x17456 : Shape := ⟨2, ![2048, 17456]⟩
abbrev S128x1x17456 : Shape := ⟨3, ![128, 1, 17456]⟩
abbrev S128x1x512 : Shape := ⟨3, ![128, 1, 512]⟩
abbrev S128x512 : Shape := ⟨2, ![128, 512]⟩

abbrev nBuf : Space → Nat
  | .hbm => 5
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2048x17456, .f32⟩
  | .hbm, ⟨2, _⟩ => ⟨S128x1x17456, .f32⟩
  | .hbm, ⟨3, _⟩ => ⟨S128x1x512, .f32⟩
  | .hbm, ⟨4, _⟩ => ⟨S128x512, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KsS.lean ====
abbrev S128x1x2048 : Shape := ⟨3, ![128, 1, 2048]⟩
abbrev S2048x17456 : Shape := ⟨2, ![2048, 17456]⟩
abbrev S128 : Shape := ⟨1, ![128]⟩
abbrev S128x2048 : Shape := ⟨2, ![128, 2048]⟩
abbrev S1x128 : Shape := ⟨2, ![1, 128]⟩
abbrev S128x512 : Shape := ⟨2, ![128, 512]⟩
abbrev S2048x512 : Shape := ⟨2, ![2048, 512]⟩
abbrev S128x128 : Shape := ⟨2, ![128, 128]⟩
abbrev S128x1 : Shape := ⟨2, ![128, 1]⟩

abbrev nBuf : Space → Nat
  | .hbm => 8
  | .vmem => 4
  | .smem => 0
  | _ => 0

abbrev bufTy : (tb : Table) → Fin (tcTables nBuf tb) → BufTy
  | .hbm, ⟨0, _⟩ => ⟨S128x1x2048, .f32⟩
  | .hbm, ⟨1, _⟩ => ⟨S2048x17456, .f32⟩
  | .hbm, ⟨2, _⟩ => ⟨S128, .f32⟩
  | .hbm, ⟨3, _⟩ => ⟨S128x2048, .f32⟩
  | .hbm, ⟨4, _⟩ => ⟨S128x2048, .bf16⟩
  | .hbm, ⟨5, _⟩ => ⟨S2048x17456, .bf16⟩
  | .hbm, ⟨6, _⟩ => ⟨S1x128, .f32⟩
  | .hbm, ⟨7, _⟩ => ⟨S128x512, .f32⟩
  | .local _ .vmem, ⟨0, _⟩ => ⟨S128x2048, .bf16⟩
  | .local _ .vmem, ⟨1, _⟩ => ⟨S2048x512, .bf16⟩
  | .local _ .vmem, ⟨2, _⟩ => ⟨S1x128, .f32⟩
  | .local _ .vmem, ⟨3, _⟩ => ⟨S128x512, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== KsSRefIdeal.lean ====
abbrev S128x1x2048 : Shape := ⟨3, ![128, 1, 2048]⟩
abbrev S2048x17456 : Shape := ⟨2, ![2048, 17456]⟩
abbrev S128 : Shape := ⟨1, ![128]⟩
abbrev S128x1x17456 : Shape := ⟨3, ![128, 1, 17456]⟩
abbrev S128x1x512 : Shape := ⟨3, ![128, 1, 512]⟩
abbrev S128x1x4x128 : Shape := ⟨4, ![128, 1, 4, 128]⟩
abbrev S_ : Shape := ⟨0, ![]⟩
abbrev S128x1x4 : Shape := ⟨3, ![128, 1, 4]⟩
abbrev S128x1x4x1 : Shape := ⟨4, ![128, 1, 4, 1]⟩
abbrev S1x1x1x128 : Shape := ⟨4, ![1, 1, 1, 128]⟩
abbrev S128x512 : Shape := ⟨2, ![128, 512]⟩

abbrev nBuf : Space → Nat
  | .hbm => 23
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2048x17456, .f32⟩
  | .hbm, ⟨2, _⟩ => ⟨S128, .f32⟩
  | .hbm, ⟨3, _⟩ => ⟨S128x1x17456, .f32⟩
  | .hbm, ⟨4, _⟩ => ⟨S128x1x512, .f32⟩
  | .hbm, ⟨5, _⟩ => ⟨S128x1x4x128, .f32⟩
  | .hbm, ⟨6, _⟩ => ⟨S128x1x4x128, .f32⟩
  | .hbm, ⟨7, _⟩ => ⟨S_, .f32⟩
  | .hbm, ⟨8, _⟩ => ⟨S128x1x4, .f32⟩
  | .hbm, ⟨9, _⟩ => ⟨S128x1x4x1, .f32⟩
  | .hbm, ⟨10, _⟩ => ⟨S_, .f32⟩
  | .hbm, ⟨11, _⟩ => ⟨S128x1x4x1, .f32⟩
  | .hbm, ⟨12, _⟩ => ⟨S128x1x4x1, .f32⟩
  | .hbm, ⟨13, _⟩ => ⟨S_, .f32⟩
  | .hbm, ⟨14, _⟩ => ⟨S128x1x4x1, .f32⟩
  | .hbm, ⟨15, _⟩ => ⟨S128x1x4x1, .f32⟩
  | .hbm, ⟨16, _⟩ => ⟨S128x1x4x1, .f32⟩
  | .hbm, ⟨17, _⟩ => ⟨S128x1x4x128, .f32⟩
  | .hbm, ⟨18, _⟩ => ⟨S128x1x4x128, .f32⟩
  | .hbm, ⟨19, _⟩ => ⟨S1x1x1x128, .f32⟩
  | .hbm, ⟨20, _⟩ => ⟨S128x1x4x128, .f32⟩
  | .hbm, ⟨21, _⟩ => ⟨S128x1x4x128, .f32⟩
  | .hbm, ⟨22, _⟩ => ⟨S128x512, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== CompV.lean ====
abbrev S2x4096x4x128 : Shape := ⟨4, ![2, 4096, 4, 128]⟩
abbrev S4x2x16x128x128 : Shape := ⟨5, ![4, 2, 16, 128, 128]⟩
abbrev S128 : Shape := ⟨1, ![128]⟩
abbrev S2x256x8192 : Shape := ⟨3, ![2, 256, 8192]⟩
abbrev S4x1x16x128x128 : Shape := ⟨5, ![4, 1, 16, 128, 128]⟩
abbrev S4x16x128x128 : Shape := ⟨4, ![4, 16, 128, 128]⟩
abbrev S4x16x128x256 : Shape := ⟨4, ![4, 16, 128, 256]⟩
abbrev S1x128 : Shape := ⟨2, ![1, 128]⟩
abbrev S2x256x512 : Shape := ⟨3, ![2, 256, 512]⟩
abbrev S1x256x8192 : Shape := ⟨3, ![1, 256, 8192]⟩
abbrev S1x256x512 : Shape := ⟨3, ![1, 256, 512]⟩
abbrev S256x1 : Shape := ⟨2, ![256, 1]⟩
abbrev S256x256 : Shape := ⟨2, ![256, 256]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩

abbrev nBuf : Space → Nat
  | .hbm => 12
  | .vmem => 6
  | .smem => 0
  | _ => 0

abbrev bufTy : (tb : Table) → Fin (tcTables nBuf tb) → BufTy
  | .hbm, ⟨0, _⟩ => ⟨S2x4096x4x128, .f32⟩
  | .hbm, ⟨1, _⟩ => ⟨S4x2x16x128x128, .f32⟩
  | .hbm, ⟨2, _⟩ => ⟨S128, .f32⟩
  | .hbm, ⟨3, _⟩ => ⟨S2x256x8192, .f32⟩
  | .hbm, ⟨4, _⟩ => ⟨S4x1x16x128x128, .f32⟩
  | .hbm, ⟨5, _⟩ => ⟨S4x16x128x128, .f32⟩
  | .hbm, ⟨6, _⟩ => ⟨S4x1x16x128x128, .f32⟩
  | .hbm, ⟨7, _⟩ => ⟨S4x16x128x128, .f32⟩
  | .hbm, ⟨8, _⟩ => ⟨S4x16x128x256, .f32⟩
  | .hbm, ⟨9, _⟩ => ⟨S4x16x128x256, .bf16⟩
  | .hbm, ⟨10, _⟩ => ⟨S1x128, .f32⟩
  | .hbm, ⟨11, _⟩ => ⟨S2x256x512, .f32⟩
  | .local _ .vmem, ⟨0, _⟩ => ⟨S1x256x8192, .f32⟩
  | .local _ .vmem, ⟨1, _⟩ => ⟨S1x256x8192, .f32⟩
  | .local _ .vmem, ⟨2, _⟩ => ⟨S4x16x128x256, .bf16⟩
  | .local _ .vmem, ⟨3, _⟩ => ⟨S1x128, .f32⟩
  | .local _ .vmem, ⟨4, _⟩ => ⟨S1x256x512, .f32⟩
  | .local _ .vmem, ⟨5, _⟩ => ⟨S1x256x512, .f32⟩
  | _, _ => ⟨S2x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x16x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CompVRefIdeal.lean ====
abbrev S2x4096x4x128 : Shape := ⟨4, ![2, 4096, 4, 128]⟩
abbrev S4x2x16x128x128 : Shape := ⟨5, ![4, 2, 16, 128, 128]⟩
abbrev S128 : Shape := ⟨1, ![128]⟩
abbrev S_ : Shape := ⟨0, ![]⟩
abbrev S2x256x16x4x128 : Shape := ⟨5, ![2, 256, 16, 4, 128]⟩
abbrev S2x255x16x4x128 : Shape := ⟨5, ![2, 255, 16, 4, 128]⟩
abbrev S4x1x16x128x128 : Shape := ⟨5, ![4, 1, 16, 128, 128]⟩
abbrev S4x16x128x128 : Shape := ⟨4, ![4, 16, 128, 128]⟩
abbrev S4x128x2x255 : Shape := ⟨4, ![4, 128, 2, 255]⟩
abbrev S2x255x4x128 : Shape := ⟨4, ![2, 255, 4, 128]⟩
abbrev S2x255x512 : Shape := ⟨3, ![2, 255, 512]⟩
abbrev S2x256x512 : Shape := ⟨3, ![2, 256, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x4x128, .f32⟩
  | .hbm, ⟨1, _⟩ => ⟨S4x2x16x128x128, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S2x4096x4x128, .f32⟩
  | .hbm, ⟨6, _⟩ => ⟨S2x256x16x4x128, .f32⟩
  | .hbm, ⟨7, _⟩ => ⟨S2x255x16x4x128, .f32⟩
  | .hbm, ⟨8, _⟩ => ⟨S4x1x16x128x128, .f32⟩
  | .hbm, ⟨9, _⟩ => ⟨S4x16x128x128, .f32⟩
  | .hbm, ⟨10, _⟩ => ⟨S4x128x2x255, .f32⟩
  | .hbm, ⟨11, _⟩ => ⟨S2x255x4x128, .f32⟩
  | .hbm, ⟨12, _⟩ => ⟨S2x255x16x4x128, .f32⟩
  | .hbm, ⟨13, _⟩ => ⟨S4x1x16x128x128, .f32⟩
  | .hbm, ⟨14, _⟩ => ⟨S4x16x128x128, .f32⟩
  | .hbm, ⟨15, _⟩ => ⟨S4x128x2x255, .f32⟩
  | .hbm, ⟨16, _⟩ => ⟨S2x255x4x128, .f32⟩
  | .hbm, ⟨17, _⟩ => ⟨S2x255x4x128, .f32⟩
  | .hbm, ⟨18, _⟩ => ⟨S2x255x512, .f32⟩
  | .hbm, ⟨19, _⟩ => ⟨S_, .i32⟩
  | .hbm, ⟨20, _⟩ => ⟨S_, .f32⟩
  | .hbm, ⟨21, _⟩ => ⟨S2x256x512, .f32⟩
  | _, _ => ⟨S2x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== CompK.lean ====
abbrev S2x4096x4x128 : Shape := ⟨4, ![2, 4096, 4, 128]⟩
abbrev S4x2x16x128x128 : Shape := ⟨5, ![4, 2, 16, 128, 128]⟩
abbrev S128 : Shape := ⟨1, ![128]⟩
abbrev S2x256x8192 : Shape := ⟨3, ![2, 256, 8192]⟩
abbrev S4x1x16x128x128 : Shape := ⟨5, ![4, 1, 16, 128, 128]⟩
abbrev S4x16x128x128 : Shape := ⟨4, ![4, 16, 128, 128]⟩
abbrev S4x16x128x256 : Shape := ⟨4, ![4, 16, 128, 256]⟩
abbrev S1x128 : Shape := ⟨2, ![1, 128]⟩
abbrev S2x256x512 : Shape := ⟨3, ![2, 256, 512]⟩
abbrev S1x256x8192 : Shape := ⟨3, ![1, 256, 8192]⟩
abbrev S1x256x512 : Shape := ⟨3, ![1, 256, 512]⟩
abbrev S256x1 : Shape := ⟨2, ![256, 1]⟩
abbrev S256x256 : Shape := ⟨2, ![256, 256]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S256 : Shape := ⟨1, ![256]⟩

abbrev nBuf : Space → Nat
  | .hbm => 12
  | .vmem => 6
  | .smem => 0
  | _ => 0

abbrev bufTy : (tb : Table) → Fin (tcTables nBuf tb) → BufTy
  | .hbm, ⟨0, _⟩ => ⟨S2x4096x4x128, .f32⟩
  | .hbm, ⟨1, _⟩ => ⟨S4x2x16x128x128, .f32⟩
  | .hbm, ⟨2, _⟩ => ⟨S128, .f32⟩
  | .hbm, ⟨3, _⟩ => ⟨S2x256x8192, .f32⟩
  | .hbm, ⟨4, _⟩ => ⟨S4x1x16x128x128, .f32⟩
  | .hbm, ⟨5, _⟩ => ⟨S4x16x128x128, .f32⟩
  | .hbm, ⟨6, _⟩ => ⟨S4x1x16x128x128, .f32⟩
  | .hbm, ⟨7, _⟩ => ⟨S4x16x128x128, .f32⟩
  | .hbm, ⟨8, _⟩ => ⟨S4x16x128x256, .f32⟩
  | .hbm, ⟨9, _⟩ => ⟨S4x16x128x256, .bf16⟩
  | .hbm, ⟨10, _⟩ => ⟨S1x128, .f32⟩
  | .hbm, ⟨11, _⟩ => ⟨S2x256x512, .f32⟩
  | .local _ .vmem, ⟨0, _⟩ => ⟨S1x256x8192, .f32⟩
  | .local _ .vmem, ⟨1, _⟩ => ⟨S1x256x8192, .f32⟩
  | .local _ .vmem, ⟨2, _⟩ => ⟨S4x16x128x256, .bf16⟩
  | .local _ .vmem, ⟨3, _⟩ => ⟨S1x128, .f32⟩
  | .local _ .vmem, ⟨4, _⟩ => ⟨S1x256x512, .f32⟩
  | .local _ .vmem, ⟨5, _⟩ => ⟨S1x256x512, .f32⟩
  | _, _ => ⟨S2x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x16x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CompKRefIdeal.lean ====
abbrev S2x4096x4x128 : Shape := ⟨4, ![2, 4096, 4, 128]⟩
abbrev S4x2x16x128x128 : Shape := ⟨5, ![4, 2, 16, 128, 128]⟩
abbrev S128 : Shape := ⟨1, ![128]⟩
abbrev S_ : Shape := ⟨0, ![]⟩
abbrev S2x256x16x4x128 : Shape := ⟨5, ![2, 256, 16, 4, 128]⟩
abbrev S2x255x16x4x128 : Shape := ⟨5, ![2, 255, 16, 4, 128]⟩
abbrev S4x1x16x128x128 : Shape := ⟨5, ![4, 1, 16, 128, 128]⟩
abbrev S4x16x128x128 : Shape := ⟨4, ![4, 16, 128, 128]⟩
abbrev S4x128x2x255 : Shape := ⟨4, ![4, 128, 2, 255]⟩
abbrev S2x255x4x128 : Shape := ⟨4, ![2, 255, 4, 128]⟩
abbrev S2x255x4 : Shape := ⟨3, ![2, 255, 4]⟩
abbrev S2x255x4x1 : Shape := ⟨4, ![2, 255, 4, 1]⟩
abbrev S1x1x1x128 : Shape := ⟨4, ![1, 1, 1, 128]⟩
abbrev S2x255x512 : Shape := ⟨3, ![2, 255, 512]⟩
abbrev S2x256x512 : Shape := ⟨3, ![2, 256, 512]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x4x128, .f32⟩
  | .hbm, ⟨1, _⟩ => ⟨S4x2x16x128x128, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S2x4096x4x128, .f32⟩
  | .hbm, ⟨6, _⟩ => ⟨S2x256x16x4x128, .f32⟩
  | .hbm, ⟨7, _⟩ => ⟨S2x255x16x4x128, .f32⟩
  | .hbm, ⟨8, _⟩ => ⟨S4x1x16x128x128, .f32⟩
  | .hbm, ⟨9, _⟩ => ⟨S4x16x128x128, .f32⟩
  | .hbm, ⟨10, _⟩ => ⟨S4x128x2x255, .f32⟩
  | .hbm, ⟨11, _⟩ => ⟨S2x255x4x128, .f32⟩
  | .hbm, ⟨12, _⟩ => ⟨S2x255x16x4x128, .f32⟩
  | .hbm, ⟨13, _⟩ => ⟨S4x1x16x128x128, .f32⟩
  | .hbm, ⟨14, _⟩ => ⟨S4x16x128x128, .f32⟩
  | .hbm, ⟨15, _⟩ => ⟨S4x128x2x255, .f32⟩
  | .hbm, ⟨16, _⟩ => ⟨S2x255x4x128, .f32⟩
  | .hbm, ⟨17, _⟩ => ⟨S2x255x4x128, .f32⟩
  | .hbm, ⟨18, _⟩ => ⟨S2x255x4x128, .f32⟩
  | .hbm, ⟨19, _⟩ => ⟨S_, .f32⟩
  | .hbm, ⟨20, _⟩ => ⟨S2x255x4, .f32⟩
  | .hbm, ⟨21, _⟩ => ⟨S2x255x4x1, .f32⟩
  | .hbm, ⟨22, _⟩ => ⟨S_, .f32⟩
  | .hbm, ⟨23, _⟩ => ⟨S2x255x4x1, .f32⟩
  | .hbm, ⟨24, _⟩ => ⟨S2x255x4x1, .f32⟩
  | .hbm, ⟨25, _⟩ => ⟨S_, .f32⟩
  | .hbm, ⟨26, _⟩ => ⟨S2x255x4x1, .f32⟩
  | .hbm, ⟨27, _⟩ => ⟨S2x255x4x1, .f32⟩
  | .hbm, ⟨28, _⟩ => ⟨S2x255x4x1, .f32⟩
  | .hbm, ⟨29, _⟩ => ⟨S2x255x4x128, .f32⟩
  | .hbm, ⟨30, _⟩ => ⟨S2x255x4x128, .f32⟩
  | .hbm, ⟨31, _⟩ => ⟨S1x1x1x128, .f32⟩
  | .hbm, ⟨32, _⟩ => ⟨S2x255x4x128, .f32⟩
  | .hbm, ⟨33, _⟩ => ⟨S2x255x4x128, .f32⟩
  | .hbm, ⟨34, _⟩ => ⟨S2x255x512, .f32⟩
  | .hbm, ⟨35, _⟩ => ⟨S_, .i32⟩
  | .hbm, ⟨36, _⟩ => ⟨S_, .f32⟩
  | .hbm, ⟨37, _⟩ => ⟨S2x256x512, .f32⟩
  | _, _ => ⟨S2x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_call1_v0 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Tail.lean ====
abbrev S128x1x4x128 : Shape := ⟨4, ![128, 1, 4, 128]⟩
abbrev S4x2x16x128x128 : Shape := ⟨5, ![4, 2, 16, 128, 128]⟩
abbrev S128x512 : Shape := ⟨2, ![128, 512]⟩
abbrev S4x1x16x128x128 : Shape := ⟨5, ![4, 1, 16, 128, 128]⟩
abbrev S4x16x128x128 : Shape := ⟨4, ![4, 16, 128, 128]⟩
abbrev S4x16x128x256 : Shape := ⟨4, ![4, 16, 128, 256]⟩
abbrev S128x128 : Shape := ⟨2, ![128, 128]⟩
abbrev S1x1x128x128 : Shape := ⟨4, ![1, 1, 128, 128]⟩

abbrev nBuf : Space → Nat
  | .hbm => 10
  | .vmem => 3
  | .smem => 0
  | _ => 0

abbrev bufTy : (tb : Table) → Fin (tcTables nBuf tb) → BufTy
  | .hbm, ⟨0, _⟩ => ⟨S128x1x4x128, .f32⟩
  | .hbm, ⟨1, _⟩ => ⟨S4x2x16x128x128, .f32⟩
  | .hbm, ⟨2, _⟩ => ⟨S128x512, .f32⟩
  | .hbm, ⟨3, _⟩ => ⟨S4x1x16x128x128, .f32⟩
  | .hbm, ⟨4, _⟩ => ⟨S4x16x128x128, .f32⟩
  | .hbm, ⟨5, _⟩ => ⟨S4x1x16x128x128, .f32⟩
  | .hbm, ⟨6, _⟩ => ⟨S4x16x128x128, .f32⟩
  | .hbm, ⟨7, _⟩ => ⟨S4x16x128x256, .f32⟩
  | .hbm, ⟨8, _⟩ => ⟨S4x16x128x256, .bf16⟩
  | .hbm, ⟨9, _⟩ => ⟨S128x512, .f32⟩
  | .local _ .vmem, ⟨0, _⟩ => ⟨S128x512, .f32⟩
  | .local _ .vmem, ⟨1, _⟩ => ⟨S4x16x128x256, .bf16⟩
  | .local _ .vmem, ⟨2, _⟩ => ⟨S128x512, .f32⟩
  | _, _ => ⟨S128x1x4x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== TailRefIdeal.lean ====
abbrev S128x1x4x128 : Shape := ⟨4, ![128, 1, 4, 128]⟩
abbrev S4x2x16x128x128 : Shape := ⟨5, ![4, 2, 16, 128, 128]⟩
abbrev S128x4x128 : Shape := ⟨3, ![128, 4, 128]⟩
abbrev S4x1x1x128x128 : Shape := ⟨5, ![4, 1, 1, 128, 128]⟩
abbrev S4x128x128 : Shape := ⟨3, ![4, 128, 128]⟩
abbrev S128x512 : Shape := ⟨2, ![128, 512]⟩

abbrev nBuf : Space → Nat
  | .hbm => 8
  | .vmem => 0
  | .smem => 0
  | _ => 0

abbrev bufTy : (tb : Table) → Fin (tcTables nBuf tb) → BufTy
  | .hbm, ⟨0, _⟩ => ⟨S128x1x4x128, .f32⟩
  | .hbm, ⟨1, _⟩ => ⟨S4x2x16x128x128, .f32⟩
  | .hbm, ⟨2, _⟩ => ⟨S128x4x128, .f32⟩
  | .hbm, ⟨3, _⟩ => ⟨S4x1x1x128x128, .f32⟩
  | .hbm, ⟨4, _⟩ => ⟨S4x128x128, .f32⟩
  | .hbm, ⟨5, _⟩ => ⟨S4x128x128, .f32⟩
  | .hbm, ⟨6, _⟩ => ⟨S128x4x128, .f32⟩
  | .hbm, ⟨7, _⟩ => ⟨S128x512, .f32⟩
  | _, _ => ⟨S128x1x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== HgS.lean ====
abbrev S128x1x8192 : Shape := ⟨3, ![128, 1, 8192]⟩
abbrev S2048 : Shape := ⟨1, ![2048]⟩
abbrev S128 : Shape := ⟨1, ![128]⟩
abbrev S2x128x16x128x128 : Shape := ⟨5, ![2, 128, 16, 128, 128]⟩
abbrev S128x8192 : Shape := ⟨2, ![128, 8192]⟩
abbrev S1x2048 : Shape := ⟨2, ![1, 2048]⟩
abbrev S1x128 : Shape := ⟨2, ![1, 128]⟩
abbrev S128x2048 : Shape := ⟨2, ![128, 2048]⟩
abbrev S128x16x128 : Shape := ⟨3, ![128, 16, 128]⟩
abbrev S16x128x128 : Shape := ⟨3, ![16, 128, 128]⟩
abbrev S16x128x1 : Shape := ⟨3, ![16, 128, 1]⟩
abbrev S128x16x128x128 : Shape := ⟨4, ![128, 16, 128, 128]⟩
abbrev S1x128x128 : Shape := ⟨3, ![1, 128, 128]⟩
abbrev S128x128 : Shape := ⟨2, ![128, 128]⟩
abbrev S1x128x1 : Shape := ⟨3, ![1, 128, 1]⟩
abbrev S1x128x1x128x128 : Shape := ⟨5, ![1, 128, 1, 128, 128]⟩
abbrev S128x1x128x128 : Shape := ⟨4, ![128, 1, 128, 128]⟩
abbrev S128x1 : Shape := ⟨2, ![128, 1]⟩
abbrev S1x1x1x128x128 : Shape := ⟨5, ![1, 1, 1, 128, 128]⟩
abbrev S1x1x128x128 : Shape := ⟨4, ![1, 1, 128, 128]⟩

abbrev nBuf : Space → Nat
  | .hbm => 16
  | .vmem => 18
  | .smem => 0
  | _ => 0

abbrev bufTy : (tb : Table) → Fin (tcTables nBuf tb) → BufTy
  | .hbm, ⟨0, _⟩ => ⟨S128x1x8192, .f32⟩
  | .hbm, ⟨1, _⟩ => ⟨S2048, .f32⟩
  | .hbm, ⟨2, _⟩ => ⟨S128, .f32⟩
  | .hbm, ⟨3, _⟩ => ⟨S2x128x16x128x128, .f32⟩
  | .hbm, ⟨4, _⟩ => ⟨S128x8192, .f32⟩
  | .hbm, ⟨5, _⟩ => ⟨S1x2048, .f32⟩
  | .hbm, ⟨6, _⟩ => ⟨S1x128, .f32⟩
  | .hbm, ⟨7, _⟩ => ⟨S128x2048, .f32⟩
  | .hbm, ⟨8, _⟩ => ⟨S128x16x128, .f32⟩
  | .hbm, ⟨9, _⟩ => ⟨S16x128x128, .f32⟩
  | .hbm, ⟨10, _⟩ => ⟨S128x2048, .f32⟩
  | .hbm, ⟨11, _⟩ => ⟨S128x16x128, .f32⟩
  | .hbm, ⟨12, _⟩ => ⟨S16x128x128, .f32⟩
  | .hbm, ⟨13, _⟩ => ⟨S16x128x1, .f32⟩
  | .hbm, ⟨14, _⟩ => ⟨S128x2048, .bf16⟩
  | .hbm, ⟨15, _⟩ => ⟨S128x16x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128x1, .f32⟩
  | .local _ .vmem, ⟨9, _⟩ => ⟨S1x128x1, .f32⟩
  | .local _ .vmem, ⟨10, _⟩ => ⟨S1x128, .f32⟩
  | .local _ .vmem, ⟨11, _⟩ => ⟨S1x128x1x128x128, .f32⟩
  | .local _ .vmem, ⟨12, _⟩ => ⟨S1x128x1x128x128, .f32⟩
  | .local _ .vmem, ⟨13, _⟩ => ⟨S128x128, .bf16⟩
  | .local _ .vmem, ⟨14, _⟩ => ⟨S128x128, .bf16⟩
  | .local _ .vmem, ⟨15, _⟩ => ⟨S128x1x128x128, .f32⟩
  | .local _ .vmem, ⟨16, _⟩ => ⟨S128x1x128x128, .f32⟩
  | .local _ .vmem, ⟨17, _⟩ => ⟨S128x128, .f32⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HgSRefIdeal.lean ====
abbrev S128x1x8192 : Shape := ⟨3, ![128, 1, 8192]⟩
abbrev S2048 : Shape := ⟨1, ![2048]⟩
abbrev S128 : Shape := ⟨1, ![128]⟩
abbrev S2x128x16x128x128 : Shape := ⟨5, ![2, 128, 16, 128, 128]⟩
abbrev S128x1x2048 : Shape := ⟨3, ![128, 1, 2048]⟩
abbrev S_ : Shape := ⟨0, ![]⟩
abbrev S1x1x2048 : Shape := ⟨3, ![1, 1, 2048]⟩
abbrev S128x16x128 : Shape := ⟨3, ![128, 16, 128]⟩
abbrev S128x16x128x1 : Shape := ⟨4, ![128, 16, 128, 1]⟩
abbrev S1x128x16x128x128 : Shape := ⟨5, ![1, 128, 16, 128, 128]⟩
abbrev S128x16x128x128 : Shape := ⟨4, ![128, 16, 128, 128]⟩
abbrev S128x16x1x128 : Shape := ⟨4, ![128, 16, 1, 128]⟩

abbrev nBuf : Space → Nat
  | .hbm => 38
  | .vmem => 0
  | .smem => 0
  | _ => 0

abbrev bufTy : (tb : Table) → Fin (tcTables nBuf tb) → BufTy
  | .hbm, ⟨0, _⟩ => ⟨S128x1x8192, .f32⟩
  | .hbm, ⟨1, _⟩ => ⟨S2048, .f32⟩
  | .hbm, ⟨2, _⟩ => ⟨S128, .f32⟩
  | .hbm, ⟨3, _⟩ => ⟨S2x128x16x128x128, .f32⟩
  | .hbm, ⟨4, _⟩ => ⟨S128x1x2048, .f32⟩
  | .hbm, ⟨5, _⟩ => ⟨S128x1x2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S128x1x2048, .f32⟩
  | .hbm, ⟨10, _⟩ => ⟨S128x1x2048, .f32⟩
  | .hbm, ⟨11, _⟩ => ⟨S_, .f32⟩
  | .hbm, ⟨12, _⟩ => ⟨S128x1x2048, .f32⟩
  | .hbm, ⟨13, _⟩ => ⟨S128x1x2048, .f32⟩
  | .hbm, ⟨14, _⟩ => ⟨S_, .f32⟩
  | .hbm, ⟨15, _⟩ => ⟨S128x1x2048, .f32⟩
  | .hbm, ⟨16, _⟩ => ⟨S128x1x2048, .f32⟩
  | .hbm, ⟨17, _⟩ => ⟨S1x1x2048, .f32⟩
  | .hbm, ⟨18, _⟩ => ⟨S128x1x2048, .f32⟩
  | .hbm, ⟨19, _⟩ => ⟨S128x1x2048, .f32⟩
  | .hbm, ⟨20, _⟩ => ⟨S1x1x2048, .f32⟩
  | .hbm, ⟨21, _⟩ => ⟨S128x1x2048, .f32⟩
  | .hbm, ⟨22, _⟩ => ⟨S128x1x2048, .f32⟩
  | .hbm, ⟨23, _⟩ => ⟨S128x16x128, .f32⟩
  | .hbm, ⟨24, _⟩ => ⟨S128x16x128x1, .f32⟩
  | .hbm, ⟨25, _⟩ => ⟨S1x128x16x128x128, .f32⟩
  | .hbm, ⟨26, _⟩ => ⟨S128x16x128x128, .f32⟩
  | .hbm, ⟨27, _⟩ => ⟨S128x16x128x128, .f32⟩
  | .hbm, ⟨28, _⟩ => ⟨S128x16x128x128, .f32⟩
  | .hbm, ⟨29, _⟩ => ⟨S_, .f32⟩
  | .hbm, ⟨30, _⟩ => ⟨S128x16x128, .f32⟩
  | .hbm, ⟨31, _⟩ => ⟨S128x16x128, .f32⟩
  | .hbm, ⟨32, _⟩ => ⟨S128x16x128x1, .f32⟩
  | .hbm, ⟨33, _⟩ => ⟨S128x16x1x128, .f32⟩
  | .hbm, ⟨34, _⟩ => ⟨S128x16x128x128, .f32⟩
  | .hbm, ⟨35, _⟩ => ⟨S128x16x128x128, .f32⟩
  | .hbm, ⟨36, _⟩ => ⟨S128x16x128x128, .f32⟩
  | .hbm, ⟨37, _⟩ => ⟨S128x16x128x128, .f32⟩
  | _, _ => ⟨S128x1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.Softmax.lean ====
module

public import Idealize.ShloMosaic.PureOps.Ideal
public import Idealize.ShloMosaic.Lib.Pointwise

@[expose] public section

/- The softmax over the visible keys of one row, as a function of the row's mask and scores over the extended reals:
   its weights are real numbers, depend on the visible scores alone, and do not change when one hidden key is appended. -/

noncomputable section

open Idealize.ShloMosaic

namespace Nsa

/-- The largest visible score; `⊥` when no key is visible. -/
def peak {n : Nat} (M : Fin n → BitVec 1) (s : Fin n → EReal) : EReal :=
  Finset.univ.fold max ⊥ fun x => Scalar.select (M x) (s x) ⊥

/-- A key's share before normalizing: `exp (s j - peak)`, nothing for a hidden key. -/
def mass {n : Nat} (M : Fin n → BitVec 1) (s : Fin n → EReal) (j : Fin n) : EReal :=
  Scalar.select (M j) (Ideal.exp (Scalar.select (M j) (s j) ⊥ - peak M s)) 0

/-- A key's weight: its share of the total, the total not taken below `eps`. -/
def weight {n : Nat} (eps : EReal) (M : Fin n → BitVec 1) (s : Fin n → EReal) (j : Fin n) : EReal :=
  Ideal.div (mass M s j) (max (∑ x, mass M s x) eps)

theorem le_peak {n : Nat} (M : Fin n → BitVec 1) (s : Fin n → EReal) (j : Fin n) :
    Scalar.select (M j) (s j) ⊥ ≤ peak M s :=
  Finset.le_sup (s := Finset.univ) (f := fun x => Scalar.select (M x) (s x) (⊥ : EReal)) (Finset.mem_univ j)

theorem exp_sub_real {a p : EReal} (h : a ≤ p) : ∃ r : ℝ, 0 ≤ r ∧ Ideal.exp (a - p) = (r : EReal) := by
  induction p with
  | bot =>
    obtain rfl := le_bot_iff.mp h
    exact ⟨0, le_rfl, by rw [EReal.bot_sub]; rfl⟩
  | top =>
    exact ⟨0, le_rfl, by rw [EReal.sub_top]; rfl⟩
  | coe y =>
    induction a with
    | bot => exact ⟨0, le_rfl, by rw [EReal.bot_sub]; rfl⟩
    | top => exact absurd (top_le_iff.mp h) (EReal.coe_ne_top y)
    | coe x => exact ⟨Real.exp (x - y), (Real.exp_pos _).le, by rw [← EReal.coe_sub]; rfl⟩

theorem mass_real {n : Nat} (M : Fin n → BitVec 1) (s : Fin n → EReal) (j : Fin n) :
    ∃ r : ℝ, 0 ≤ r ∧ mass M s j = (r : EReal) := by
  unfold mass
  by_cases h : M j = 1
  · have := exp_sub_real (le_peak M s j)
    rw [Scalar.select, if_pos h]
    exact this
  · exact ⟨0, le_rfl, by rw [Scalar.select, if_neg h]; rfl⟩

theorem sum_real {n : Nat} (f : Fin n → EReal) (h : ∀ j, ∃ r : ℝ, 0 ≤ r ∧ f j = (r : EReal)) :
    ∃ r : ℝ, 0 ≤ r ∧ ∑ j, f j = (r : EReal) := by
  choose g hg0 hg using h
  refine ⟨∑ j, g j, Finset.sum_nonneg fun j _ => hg0 j, ?_⟩
  rw [Finset.sum_congr rfl fun j _ => hg j]
  exact (map_sum (⟨⟨Real.toEReal, rfl⟩, EReal.coe_add⟩ : ℝ →+ EReal) g Finset.univ).symm

theorem total_real {n : Nat} {e : ℝ} (he : 0 < e) (M : Fin n → BitVec 1) (s : Fin n → EReal) :
    ∃ r : ℝ, 0 < r ∧ max (∑ x, mass M s x) (e : EReal) = (r : EReal) := by
  obtain ⟨t, ht, h⟩ := sum_real _ (mass_real M s)
  exact ⟨max t e, lt_max_of_lt_right he, by rw [h]; exact (EReal.coe_strictMono.monotone.map_max).symm⟩

theorem div_real (x y : ℝ) (hy : 0 < y) : Ideal.div (x : EReal) (y : EReal) = ((x * y⁻¹ : ℝ) : EReal) := by
  rw [Ideal.div, if_neg (by exact_mod_cast hy.ne'), EReal.coe_mul, EReal.coe_inv]

theorem weight_real {n : Nat} {e : ℝ} (he : 0 < e) (M : Fin n → BitVec 1) (s : Fin n → EReal) (j : Fin n) :
    ∃ r : ℝ, 0 ≤ r ∧ weight (e : EReal) M s j = (r : EReal) := by
  obtain ⟨a, ha, h⟩ := mass_real M s j
  obtain ⟨b, hb, h'⟩ := total_real he M s
  exact ⟨a * b⁻¹, mul_nonneg ha (inv_nonneg.mpr hb.le), by rw [weight, h, h', div_real _ _ hb]⟩

theorem masked_congr {n : Nat} (M : Fin n → BitVec 1) (s s' : Fin n → EReal) (h : ∀ x, M x = 1 → s x = s' x) (x : Fin n) :
    Scalar.select (M x) (s x) ⊥ = Scalar.select (M x) (s' x) ⊥ := by
  unfold Scalar.select
  split
  · exact h x ‹_›
  · rfl

/-- The weights depend on the visible scores alone. -/
theorem weight_congr {n : Nat} (e : EReal) (M : Fin n → BitVec 1) (s s' : Fin n → EReal) (h : ∀ x, M x = 1 → s x = s' x) (j : Fin n) :
    weight e M s j = weight e M s' j := by
  have hp : peak M s = peak M s' := by
    unfold peak
    rw [funext (masked_congr M s s' h)]
  have hm : ∀ x, mass M s x = mass M s' x := fun x => by
    unfold mass
    rw [hp, masked_congr M s s' h x]
  unfold weight
  rw [hm j, Finset.sum_congr rfl fun x _ => hm x]

theorem peak_hidden {n : Nat} (M : Fin (n + 1) → BitVec 1) (s : Fin (n + 1) → EReal) (h : M (Fin.last n) = 0#1) :
    peak M s = peak (fun x => M x.castSucc) (fun x => s x.castSucc) := by
  apply le_antisymm
  · refine Finset.sup_le fun x _ => ?_
    refine Fin.lastCases ?_ (fun y => ?_) x
    · rw [Scalar.select, if_neg (by rw [h]; decide)]
      exact bot_le
    · exact le_peak (fun x => M x.castSucc) (fun x => s x.castSucc) y
  · refine Finset.sup_le fun x _ => ?_
    exact le_peak M s x.castSucc

theorem mass_hidden_last {n : Nat} (M : Fin (n + 1) → BitVec 1) (s : Fin (n + 1) → EReal) (h : M (Fin.last n) = 0#1) :
    mass M s (Fin.last n) = 0 := by
  rw [mass, Scalar.select, if_neg (by rw [h]; decide)]

theorem mass_hidden {n : Nat} (M : Fin (n + 1) → BitVec 1) (s : Fin (n + 1) → EReal) (h : M (Fin.last n) = 0#1) (j : Fin n) :
    mass M s j.castSucc = mass (fun x => M x.castSucc) (fun x => s x.castSucc) j := by
  unfold mass
  rw [peak_hidden M s h]

theorem weight_hidden {n : Nat} (e : EReal) (M : Fin (n + 1) → BitVec 1) (s : Fin (n + 1) → EReal) (h : M (Fin.last n) = 0#1) (j : Fin n) :
    weight e M s j.castSucc = weight e (fun x => M x.castSucc) (fun x => s x.castSucc) j := by
  unfold weight
  rw [mass_hidden M s h, Fin.sum_univ_castSucc, mass_hidden_last M s h, add_zero, Finset.sum_congr rfl fun x _ => mass_hidden M s h x]

theorem weight_hidden_last {n : Nat} {e : ℝ} (he : 0 < e) (M : Fin (n + 1) → BitVec 1) (s : Fin (n + 1) → EReal) (h : M (Fin.last n) = 0#1) :
    weight (e : EReal) M s (Fin.last n) = 0 := by
  obtain ⟨b, hb, h'⟩ := total_real he M s
  rw [weight, mass_hidden_last M s h, h', show (0 : EReal) = ((0 : ℝ) : EReal) from rfl, div_real _ _ hb, zero_mul]

/-- A real number less itself is nothing: the remainders of splitting a real number by casts that keep it. -/
theorem real_sub_self {x : EReal} (h : ∃ r : ℝ, x = (r : EReal)) : x - x = 0 := by
  obtain ⟨r, rfl⟩ := h
  rw [← EReal.coe_sub, sub_self]; rfl

end Nsa

end
-- ==== Proof.Words.lean ====
module

public import Idealize.ShloMosaic.PureOps.Ideal
public import Idealize.ShloMosaic.Lib.Pointwise

@[expose] public section

/- The index words of the compressed attention: which key a query sees, where the near bias is placed, which chunk a key
   overlaps, each as a comparison of naturals. -/

noncomputable section

open Idealize.ShloMosaic

namespace Nsa

theorem add_word (a b : Nat) : IntOp.addi (BitVec.ofNat 32 a) (BitVec.ofNat 32 b) = BitVec.ofNat 32 (a + b) :=
  (BitVec.ofNat_add a b).symm

theorem mul_word (a b : Nat) : IntOp.muli (BitVec.ofNat 32 a) (BitVec.ofNat 32 b) = BitVec.ofNat 32 (a * b) :=
  (BitVec.ofNat_mul a b).symm

theorem smul_word (a b : Nat) : Scalar.muli (BitVec.ofNat 32 a) (BitVec.ofNat 32 b) = BitVec.ofNat 32 (a * b) :=
  (BitVec.ofNat_mul a b).symm

theorem int_of (a : Nat) (h : a < 2 ^ 31) : (BitVec.ofNat 32 a).toInt = (a : ℤ) := by
  rw [BitVec.toInt_ofNat']
  exact Int.bmod_eq_of_le (by omega) (by omega)

theorem sub_word (a b : Nat) (h : b ≤ a) : IntOp.subi (BitVec.ofNat 32 a) (BitVec.ofNat 32 b) = BitVec.ofNat 32 (a - b) := by
  show BitVec.ofNat 32 a - BitVec.ofNat 32 b = _
  conv_lhs => rw [show a = (a - b) + b by omega, BitVec.ofNat_add]
  exact BitVec.add_sub_cancel _ _

theorem sub_int (a b : Nat) (ha : a < 2 ^ 30) (hb : b < 2 ^ 30) :
    (IntOp.subi (BitVec.ofNat 32 a) (BitVec.ofNat 32 b)).toInt = (a : ℤ) - b := by
  show (BitVec.ofNat 32 a - BitVec.ofNat 32 b).toInt = _
  rw [BitVec.toInt_sub, int_of a (by omega), int_of b (by omega)]
  exact Int.bmod_eq_of_le (by omega) (by omega)

theorem sge_word (x y : BitVec 32) : IntOp.cmpi CmpIPredicate.sge x y = if y.toInt ≤ x.toInt then 1#1 else 0#1 := by
  show BitVec.ofBool (BitVec.sle y x) = _
  rw [BitVec.sle_eq_decide]
  split
  · rw [decide_eq_true ‹_›]; rfl
  · rw [decide_eq_false ‹_›]; rfl

theorem slt_word (x y : BitVec 32) : IntOp.cmpi CmpIPredicate.slt x y = if x.toInt < y.toInt then 1#1 else 0#1 := by
  show BitVec.ofBool (BitVec.slt x y) = _
  rw [BitVec.slt_eq_decide]
  split
  · rw [decide_eq_true ‹_›]; rfl
  · rw [decide_eq_false ‹_›]; rfl

theorem sgt_word (x y : BitVec 32) : IntOp.cmpi CmpIPredicate.sgt x y = if y.toInt < x.toInt then 1#1 else 0#1 := by
  show BitVec.ofBool (BitVec.slt y x) = _
  rw [BitVec.slt_eq_decide]
  split
  · rw [decide_eq_true ‹_›]; rfl
  · rw [decide_eq_false ‹_›]; rfl

/-- Whether the query at `q` sees the compressed key `j`, which ends at `16 j + 31`. -/
def sees (q j : Nat) : BitVec 1 := if 16 * j + 31 ≤ q then 1#1 else 0#1

/-- By the difference of the positions. -/
theorem sees_sub (q j : Nat) (hq : q < 4096) (hj : j < 256) :
    IntOp.cmpi CmpIPredicate.sge (IntOp.subi (BitVec.ofNat 32 q) (IntOp.addi (IntOp.muli (BitVec.ofNat 32 j) 16#32) 31#32)) 0#32
      = sees q j := by
  rw [mul_word, add_word, sge_word, sub_int _ _ (by omega) (by omega), sees]
  norm_num
  congr 1
  exact propext (by omega)

/-- By the positions themselves, the query's from its block and its row. -/
theorem sees_block (i r j : Nat) (hi : i < 32) (hr : r < 128) (hj : j < 256) :
    IntOp.cmpi CmpIPredicate.sge (IntOp.addi (Scalar.muli (BitVec.ofNat 32 i) 128#32) (BitVec.ofNat 32 r))
      (IntOp.addi (IntOp.muli (BitVec.ofNat 32 j) 16#32) 31#32) = sees (128 * i + r) j := by
  rw [mul_word, smul_word, add_word, add_word, sge_word, int_of _ (by omega), int_of _ (by omega), sees]
  congr 1
  exact propext (by omega)

/-- The distance of a seen key. -/
theorem dist_word (q j : Nat) (h : 16 * j + 31 ≤ q) :
    IntOp.subi (BitVec.ofNat 32 q) (IntOp.addi (IntOp.muli (BitVec.ofNat 32 j) 16#32) 31#32) = BitVec.ofNat 32 (q - (16 * j + 31)) := by
  rw [mul_word, add_word, sub_word _ _ (by omega)]
  congr 1
  omega

/-- The near bias's column `w` is placed at the key `j` with `j + 16 = 8 i + w`. -/
theorem place_word (i j w : Nat) (hi : i < 32) (hj : j < 256) (hw : w < 32) :
    IntOp.cmpi CmpIPredicate.eq (IntOp.addi (IntOp.subi (BitVec.ofNat 32 j) (IntOp.muli (BitVec.ofNat 32 i) 8#32)) 16#32) (BitVec.ofNat 32 w)
      = if j + 16 = 8 * i + w then 1#1 else 0#1 := by
  show BitVec.ofBool (BitVec.ofNat 32 j - BitVec.ofNat 32 i * 8#32 + 16#32 == BitVec.ofNat 32 w) = _
  have : (BitVec.ofNat 32 j - BitVec.ofNat 32 i * 8#32 + 16#32 = BitVec.ofNat 32 w) ↔ j + 16 = 8 * i + w := by
    rw [show BitVec.ofNat 32 i * 8#32 = BitVec.ofNat 32 (i * 8) from mul_word i 8]
    constructor
    · intro h
      have h' := congrArg BitVec.toNat h
      simp only [BitVec.toNat_add, BitVec.toNat_sub, BitVec.toNat_ofNat] at h'
      omega
    · intro h
      apply BitVec.eq_of_toNat_eq
      simp only [BitVec.toNat_add, BitVec.toNat_sub, BitVec.toNat_ofNat]
      omega
  split
  · rw [this.mpr ‹_›, beq_self_eq_true]; rfl
  · rw [beq_eq_false_iff_ne.mpr fun h => ‹¬_› (this.mp h)]; rfl

/-- Whether compressed key `j`, positions `16 j` to `16 j + 31`, meets chunk `b`, positions `64 b` to `64 b + 63`. -/
def meets (j b : Nat) : Prop := 16 * j < 64 * b + 64 ∧ 64 * b < 16 * j + 32

instance (j b : Nat) : Decidable (meets j b) := inferInstanceAs (Decidable (_ ∧ _))

theorem before_word (j b : Nat) (hj : j < 256) (hb : b < 64) :
    IntOp.cmpi CmpIPredicate.slt (IntOp.muli (BitVec.ofNat 32 j) 16#32) (IntOp.addi (IntOp.muli (BitVec.ofNat 32 b) 64#32) 64#32)
      = if 16 * j < 64 * b + 64 then 1#1 else 0#1 := by
  rw [mul_word, mul_word, add_word, slt_word, int_of _ (by omega), int_of _ (by omega)]
  congr 1
  exact propext (by omega)

theorem after_word (j b : Nat) (hj : j < 256) (hb : b < 64) :
    IntOp.cmpi CmpIPredicate.sgt (IntOp.addi (IntOp.muli (BitVec.ofNat 32 j) 16#32) 32#32) (IntOp.muli (BitVec.ofNat 32 b) 64#32)
      = if 64 * b < 16 * j + 32 then 1#1 else 0#1 := by
  rw [mul_word, mul_word, add_word, sgt_word, int_of _ (by omega), int_of _ (by omega)]
  congr 1
  exact propext (by omega)

end Nsa

end
-- ==== Proof.Bucket.lean ====
module

public import Idealize.ShloMosaic.PureOps.Ideal
public import Idealize.ShloMosaic.Lib.Pointwise

@[expose] public section

/- The bucket of a distance: the distance itself below 16, and above it one of sixteen buckets whose ends grow
   geometrically (sixteen to each factor of eight), the last one open. The formula by a logarithm, read over the reals,
   is the table by thresholds. -/

noncomputable section

open Idealize.ShloMosaic

namespace Nsa

/-- The number of thresholds at or below `n`. -/
def steps (n : Nat) : Nat :=
  if n < 19 then 0 else if n < 21 then 1 else if n < 24 then 2 else if n < 27 then 3 else if n < 31 then 4
  else if n < 35 then 5 else if n < 40 then 6 else if n < 46 then 7 else if n < 52 then 8 else if n < 59 then 9
  else if n < 67 then 10 else if n < 77 then 11 else if n < 87 then 12 else if n < 99 then 13 else if n < 113 then 14 else 15

/-- The bucket of a distance `n`. -/
def bucketOf (n : Nat) : Nat := if n < 16 then n else 16 + steps n

/-- The bucket's formula on words. -/
def bucketWord (d : BitVec 32) : BitVec 32 :=
  Scalar.select (IntOp.cmpi CmpIPredicate.slt (IntOp.maxsi d 0#32) 16#32) (IntOp.maxsi d 0#32)
    (IntOp.minsi (IntOp.addi (16#32) (FloatOps.fptosi (F := Ideal) (φ := .f32) 32
      (Ideal.div (Ideal.log (Ideal.div (FloatOps.sitofp (F := Ideal) FTy.f32 (IntOp.maxsi (IntOp.maxsi d 0#32) 1#32))
        (Ideal.ofBits FTy.f32 1098907648#32))) (Ideal.ofBits FTy.f32 1074075026#32) * Ideal.ofBits FTy.f32 1098907648#32))) 31#32)

/-- The rounded logarithm of 8 the formula divides by. -/
def ell : ℝ := 8721810 / 4194304

/-- The formula's real number before truncation. -/
def lg (n : Nat) : ℝ := Real.log ((n : ℝ) * 16⁻¹) * ell⁻¹ * 16

theorem ell_pos : 0 < ell := by unfold ell; norm_num

theorem sixteen : Ideal.ofBits FTy.f32 1098907648#32 = ((16 : ℝ) : EReal) := by
  simp [Ideal.ofBits, Ideal.ieee, -EReal.coe_mul]; norm_num

theorem ell_word : Ideal.ofBits FTy.f32 1074075026#32 = (ell : EReal) := by
  simp [Ideal.ofBits, Ideal.ieee, -EReal.coe_mul, ell]; norm_num

theorem log_two_le : Real.log 2 ≤ 6932 / 10000 := by
  have h : (2 : ℝ) ≤ (10001 / 10000) ^ 6932 := by
    rw [div_pow, le_div_iff₀ (by positivity)]
    exact_mod_cast (by decide +kernel : 2 * 10000 ^ 6932 ≤ 10001 ^ 6932)
  have h1 := Real.log_le_log (by norm_num) h
  rw [Real.log_pow] at h1
  have h2 := Real.log_le_sub_one_of_pos (show (0 : ℝ) < 10001 / 10000 by norm_num)
  norm_num at h1 h2 ⊢
  linarith

theorem le_log_two : 6931 / 10001 ≤ Real.log 2 := by
  have h : ((10001 : ℝ) / 10000) ^ 6931 ≤ 2 := by
    rw [div_pow, div_le_iff₀ (by positivity)]
    exact_mod_cast (by decide +kernel : 10001 ^ 6931 ≤ 2 * 10000 ^ 6931)
  have h1 := Real.log_le_log (by positivity) h
  rw [Real.log_pow] at h1
  have h2 := Real.one_sub_inv_le_log_of_pos (show (0 : ℝ) < 10001 / 10000 by norm_num)
  norm_num at h1 h2 ⊢
  linarith

theorem lt_ell : 2999 / 1000 * Real.log 2 < ell := by
  have := log_two_le
  unfold ell; linarith

theorem ell_le : ell ≤ 3001 / 1000 * Real.log 2 := by
  have := le_log_two
  unfold ell; linarith

/-- The power the ends of the buckets are compared at. -/
def big : Nat := 16000

theorem big_eq : (big : ℝ) = 16000 := by unfold big; norm_num

theorem log_le_of_pow {a e N : Nat} (ha : 0 < a) (h : 2 ^ e * 16 ^ N ≤ a ^ N) :
    (e : ℝ) * Real.log 2 ≤ N * Real.log ((a : ℝ) * 16⁻¹) := by
  have ha' : (0 : ℝ) < a := by exact_mod_cast ha
  have h1 : ((2 : ℝ) ^ e) * 16 ^ N ≤ (a : ℝ) ^ N := by exact_mod_cast h
  have h2 : (2 : ℝ) ^ e ≤ ((a : ℝ) * 16⁻¹) ^ N := by
    rw [mul_pow, inv_pow]
    rwa [← div_eq_mul_inv, le_div_iff₀ (by positivity)]
  have h3 := Real.log_le_log (by positivity) h2
  rwa [Real.log_pow, Real.log_pow] at h3

theorem le_log_of_pow {b e N : Nat} (hb : 0 < b) (h : b ^ N ≤ 2 ^ e * 16 ^ N) :
    N * Real.log ((b : ℝ) * 16⁻¹) ≤ (e : ℝ) * Real.log 2 := by
  have hb' : (0 : ℝ) < b := by exact_mod_cast hb
  have h1 : (b : ℝ) ^ N ≤ ((2 : ℝ) ^ e) * 16 ^ N := by exact_mod_cast h
  have h2 : ((b : ℝ) * 16⁻¹) ^ N ≤ (2 : ℝ) ^ e := by
    rw [mul_pow, inv_pow]
    rwa [← div_eq_mul_inv, div_le_iff₀ (by positivity)]
  have h3 := Real.log_le_log (by positivity) h2
  rwa [Real.log_pow, Real.log_pow] at h3

theorem le_lg {k a n : Nat} (ha : 0 < a) (han : a ≤ n) (h : 2 ^ (3001 * k) * 16 ^ big ≤ a ^ big) : (k : ℝ) ≤ lg n := by
  have ha' : (0 : ℝ) < a := by exact_mod_cast ha
  have h3 := log_le_of_pow ha h
  have h4 : Real.log ((a : ℝ) * 16⁻¹) ≤ Real.log ((n : ℝ) * 16⁻¹) :=
    Real.log_le_log (by positivity) (by gcongr)
  unfold lg
  rw [mul_assoc, mul_comm ell⁻¹, ← mul_assoc, ← div_eq_mul_inv, le_div_iff₀ ell_pos]
  have h5 := mul_le_mul_of_nonneg_left ell_le (Nat.cast_nonneg (α := ℝ) k)
  push_cast at h3
  rw [big_eq] at h3
  linarith

theorem lg_lt {k b n : Nat} (hn : 0 < n) (hnb : n ≤ b) (h : b ^ big ≤ 2 ^ (2999 * (k + 1)) * 16 ^ big) :
    lg n < (k : ℝ) + 1 := by
  have hn' : (0 : ℝ) < n := by exact_mod_cast hn
  have h3 := le_log_of_pow (hn.trans_le hnb) h
  have h4 : Real.log ((n : ℝ) * 16⁻¹) ≤ Real.log ((b : ℝ) * 16⁻¹) :=
    Real.log_le_log (by positivity) (by gcongr)
  unfold lg
  rw [mul_assoc, mul_comm ell⁻¹, ← mul_assoc, ← div_eq_mul_inv, div_lt_iff₀ ell_pos]
  have h5 := mul_lt_mul_of_pos_left lt_ell (Nat.cast_add_one_pos (α := ℝ) k)
  push_cast at h3
  rw [big_eq] at h3
  linarith

theorem floor_lg {k a b n : Nat} (ha : 0 < a) (han : a ≤ n) (hnb : n ≤ b)
    (h : 2 ^ (3001 * k) * 16 ^ big ≤ a ^ big) (h' : b ^ big ≤ 2 ^ (2999 * (k + 1)) * 16 ^ big) : ⌊lg n⌋ = (k : ℤ) :=
  Int.floor_eq_iff.mpr ⟨by exact_mod_cast le_lg ha han h, by exact_mod_cast lg_lt (ha.trans_le han) hnb h'⟩

theorem ends : ∀ n : Fin 113, 16 ≤ n.val →
    2 ^ (3001 * steps n) * 16 ^ big ≤ n.val ^ big ∧ n.val ^ big ≤ 2 ^ (2999 * (steps n + 1)) * 16 ^ big := by decide +kernel

theorem steps_le : ∀ n : Fin 113, steps n ≤ 15 := by decide +kernel

theorem steps_last : ∀ n : Fin 4096, 113 ≤ n.val → steps n = 15 := by decide +kernel

/-- Below the last threshold the truncated logarithm counts the thresholds. -/
theorem floor_steps (n : Nat) (h : 16 ≤ n) (h' : n < 113) : ⌊lg n⌋ = (steps n : ℤ) :=
  floor_lg (by omega) le_rfl le_rfl (ends ⟨n, h'⟩ h).1 (ends ⟨n, h'⟩ h).2

/-- From the last threshold on the truncated logarithm is at least 15, and at most 63. -/
theorem floor_last (n : Nat) (h : 113 ≤ n) (h' : n < 4096) : ∃ k : Nat, 15 ≤ k ∧ k < 64 ∧ ⌊lg n⌋ = (k : ℤ) := by
  have hl : (15 : ℝ) ≤ lg n := by exact_mod_cast le_lg (k := 15) (a := 113) (by omega) h (by decide +kernel)
  have hu : lg n < 64 := by
    have := lg_lt (k := 63) (b := 4096) (n := n) (by omega) (by omega) (by decide +kernel)
    norm_num at this ⊢; exact this
  have h0 : (15 : ℤ) ≤ ⌊lg n⌋ := Int.le_floor.mpr (by exact_mod_cast hl)
  have h1 : ⌊lg n⌋ < 64 := Int.floor_lt.mpr (by exact_mod_cast hu)
  exact ⟨⌊lg n⌋.toNat, by omega, by omega, by omega⟩

theorem max0 : ∀ n : Fin 4096, IntOp.maxsi (BitVec.ofNat 32 n) 0#32 = BitVec.ofNat 32 n := by decide +kernel

theorem max1 : ∀ n : Fin 4096, 16 ≤ n.val → IntOp.maxsi (BitVec.ofNat 32 n) 1#32 = BitVec.ofNat 32 n := by decide +kernel

theorem small : ∀ n : Fin 4096, IntOp.cmpi CmpIPredicate.slt (BitVec.ofNat 32 n) 16#32 = if n.val < 16 then 1#1 else 0#1 := by
  decide +kernel

theorem intOf : ∀ n : Fin 4096, (BitVec.ofNat 32 n).toInt = (n.val : ℤ) := by decide +kernel

theorem capped : ∀ k : Fin 64, IntOp.minsi (IntOp.addi (16#32) (BitVec.ofInt 32 (k.val : ℤ))) 31#32
    = BitVec.ofNat 32 (16 + min k.val 15) := by decide +kernel

theorem real_part (n : Nat) (h : 16 ≤ n) :
    Ideal.div (Ideal.log (Ideal.div (((n : ℤ) : ℝ) : EReal) ((16 : ℝ) : EReal))) (ell : EReal) * ((16 : ℝ) : EReal) = (lg n : EReal) := by
  have hn : (0 : ℝ) < (n : ℝ) * 16⁻¹ := by
    have : (0 : ℝ) < n := by exact_mod_cast (by omega : 0 < n)
    positivity
  have e1 : Ideal.div (((n : ℤ) : ℝ) : EReal) ((16 : ℝ) : EReal) = (((n : ℝ) * 16⁻¹ : ℝ) : EReal) := by
    rw [Ideal.div, if_neg (by norm_num : ((16 : ℝ) : EReal) ≠ 0), EReal.coe_mul, EReal.coe_inv]; push_cast; rfl
  have e2 : Ideal.log (((n : ℝ) * 16⁻¹ : ℝ) : EReal) = (Real.log ((n : ℝ) * 16⁻¹) : EReal) := by
    show (if (n : ℝ) * 16⁻¹ ≤ 0 then ⊥ else (Real.log ((n : ℝ) * 16⁻¹) : EReal)) = _
    rw [if_neg (not_le.mpr hn)]
  rw [e1, e2, Ideal.div, if_neg (by exact_mod_cast ell_pos.ne'), lg, EReal.coe_mul, EReal.coe_mul, EReal.coe_inv]

theorem trunc_lg (n k : Nat) (hk : k < 64) (h : ⌊lg n⌋ = (k : ℤ)) :
    FloatOps.fptosi (F := Ideal) (φ := .f32) 32 (lg n : EReal) = BitVec.ofInt 32 (k : ℤ) := by
  show Ideal.fptosi 32 (lg n : EReal) = _
  have h0 : 0 ≤ lg n := by
    have : (0 : ℤ) ≤ ⌊lg n⌋ := by omega
    exact_mod_cast Int.le_floor.mp this
  unfold Ideal.fptosi
  congr 1
  show max _ (min _ (if 0 ≤ lg n then ⌊lg n⌋ else ⌈lg n⌉)) = _
  rw [if_pos h0, h]
  norm_num
  omega

/-- The formula's bucket of a distance is the table's. -/
theorem bucketWord_eq (n : Nat) (h : n < 4096) : bucketWord (BitVec.ofNat 32 n) = BitVec.ofNat 32 (bucketOf n) := by
  unfold bucketWord bucketOf
  rw [max0 ⟨n, h⟩, small ⟨n, h⟩]
  by_cases hs : n < 16
  · rw [if_pos hs, if_pos hs]; rfl
  · rw [if_neg hs, if_neg hs, Scalar.select, if_neg (by decide), max1 ⟨n, h⟩ (Nat.le_of_not_lt hs)]
    rw [show FloatOps.sitofp (F := Ideal) FTy.f32 (BitVec.ofNat 32 n) = (((n : ℤ) : ℝ) : EReal) from
      congrArg (fun z : ℤ => ((z : ℝ) : EReal)) (intOf ⟨n, h⟩)]
    rw [sixteen, ell_word, real_part n (by omega)]
    by_cases hl : n < 113
    · have hk : steps n ≤ 15 := steps_le ⟨n, hl⟩
      rw [trunc_lg n (steps n) (by omega) (floor_steps n (by omega) hl), capped ⟨steps n, by omega⟩, min_eq_left hk]
    · obtain ⟨k, h15, h64, hf⟩ := floor_last n (by omega) h
      rw [trunc_lg n k h64 hf, capped ⟨k, h64⟩, min_eq_right h15]
      rw [steps_last ⟨n, h⟩ (Nat.le_of_not_lt hl)]

end Nsa

end
-- ==== Proof.CmpSpec.lean ====
module

public import proofs.«01_k».proof.Proof.Softmax
public import proofs.«01_k».proof.Proof.Words
public import proofs.«01_k».proof.Proof.Bucket

@[expose] public section

/- The compressed attention as functions of its arrays over the extended reals: a score of a query against a compressed
   key with the bias of their distance's bucket, the weights of the seen keys, the output, and each chunk's importance. The
   kernel's score, with its bias in a far and a placed near part, is the same number at every seen key. -/

noncomputable section

open Idealize.ShloMosaic

namespace Nsa

/-- The smallest total a row's weights are divided by. -/
def eps : EReal := Ideal.ofBits .f32 228737632#32

/-- One score of the kernel: the scaled product, the far bias, and the near bias by a product with the placement,
    the near values in three parts. -/
def score (q k : Fin 128 → EReal) (f : EReal) (n p : Fin 32 → EReal) : EReal :=
  (∑ x, q x * k x) * Ideal.ofBits .f32 1035273459#32
    + (f + (∑ x, n x * p x + ∑ x, (n x - n x) * p x + ∑ x, (n x - n x - (n x - n x)) * p x))

/-- The factor of the products. -/
def scale : EReal := Ideal.ofBits .f32 1035273459#32

theorem steps_ge (d : Nat) (h : 113 ≤ d) : steps d = 15 := by
  unfold steps
  simp only [show ¬ d < 19 by omega, show ¬ d < 21 by omega, show ¬ d < 24 by omega, show ¬ d < 27 by omega,
    show ¬ d < 31 by omega, show ¬ d < 35 by omega, show ¬ d < 40 by omega, show ¬ d < 46 by omega, show ¬ d < 52 by omega,
    show ¬ d < 59 by omega, show ¬ d < 67 by omega, show ¬ d < 77 by omega, show ¬ d < 87 by omega, show ¬ d < 99 by omega,
    show ¬ d < 113 by omega, if_false]

theorem bucket_lt (n : Nat) : bucketOf n < 32 := by
  unfold bucketOf
  by_cases h : n < 113
  · have := steps_le ⟨n, h⟩
    split <;> simp only [] at this ⊢ <;> omega
  · rw [steps_ge n (by omega), if_neg (by omega)]
    omega

/-- The bias table's row of a distance. -/
def rowOf (n : Nat) : Fin 32 := ⟨bucketOf n, bucket_lt n⟩

section
variable (q : Fin 2 → Fin 4096 → Fin 4 → Fin 4 → Fin 128 → EReal) (kc vc : Fin 2 → Fin 255 → Fin 4 → Fin 128 → EReal)
  (B : Fin 32 → Fin 16 → EReal)

/-- The score of query `Q`, head `(h, g)`, against compressed key `j`. -/
def cscore (n : Fin 2) (h g : Fin 4) (Q : Fin 4096) (j : Fin 255) : EReal :=
  (∑ x, q n Q h g x * kc n j h x) * scale + B (rowOf (Q.val - (16 * j.val + 31))) ⟨h.val * 4 + g.val, by omega⟩

/-- Its weight among the keys the query sees. -/
def cweight (n : Fin 2) (h g : Fin 4) (Q : Fin 4096) (j : Fin 255) : EReal :=
  weight eps (fun x : Fin 255 => sees Q.val x.val) (cscore q kc B n h g Q) j

/-- The attention's output. -/
def cout (n : Fin 2) (Q : Fin 4096) (h g : Fin 4) (d : Fin 128) : EReal :=
  ∑ j, cweight q kc B n h g Q j * vc n j h d

/-- The importance of chunk `b` to query `Q` and key head `h`: the weights of the keys that meet it, over the group. -/
def cimp (n : Fin 2) (h : Fin 4) (b : Fin 64) (Q : Fin 4096) : EReal :=
  ∑ j : Fin 255, if meets j.val b.val then ∑ g, cweight q kc B n h g Q j else 0

end

theorem eps_real : ∃ e : ℝ, 0 < e ∧ eps = (e : EReal) := by
  refine ⟨_, ?_, by unfold eps; simp [Ideal.ofBits, Ideal.ieee, -EReal.coe_mul]; rfl⟩
  norm_num

/-- The kernel's score at a seen key. -/
theorem score_seen (q k : Fin 128 → EReal) (b : Fin 32 → EReal) (n : Fin 32 → EReal) (i r j : Nat) (hi : i < 32) (hr : r < 128) (hj : j < 255)
    (hn : ∀ w, ∃ a : ℝ, n w = (a : EReal)) (hb : ∀ x, ∃ a : ℝ, b x = (a : EReal))
    (hnear : ∀ w : Fin 32, 16 * w.val ≤ r + 225 → n w = b (rowOf (r + 225 - 16 * w.val)) - b 31)
    (hs : 16 * j + 31 ≤ 128 * i + r) :
    score q k (b 31) n (fun w => if j + 16 = 8 * i + w.val then 1 else 0)
      = (∑ x, q x * k x) * scale + b (rowOf (128 * i + r - (16 * j + 31))) := by
  unfold score scale
  congr 1
  simp only [fun w => real_sub_self (hn w), sub_zero, zero_mul, Finset.sum_const_zero, add_zero, mul_ite, mul_one, mul_zero, ite_self]
  by_cases h : 8 * i ≤ j + 16
  · have hlt : j + 16 - 8 * i < 32 := by omega
    rw [Finset.sum_eq_single (⟨j + 16 - 8 * i, hlt⟩ : Fin 32)]
    · rw [if_pos (by show j + 16 = 8 * i + (j + 16 - 8 * i); omega), hnear _ (by show 16 * (j + 16 - 8 * i) ≤ r + 225; omega)]
      rw [show r + 225 - 16 * (⟨j + 16 - 8 * i, hlt⟩ : Fin 32).val = 128 * i + r - (16 * j + 31) by
        show r + 225 - 16 * (j + 16 - 8 * i) = _; omega]
      obtain ⟨a, ha⟩ := hb 31
      obtain ⟨c, hc⟩ := hb (rowOf (128 * i + r - (16 * j + 31)))
      rw [ha, hc, ← EReal.coe_sub, ← EReal.coe_add]
      congr 1
      ring
    · intro w _ hw
      rw [if_neg]
      intro he
      exact hw (Fin.ext (by show w.val = j + 16 - 8 * i; omega))
    · intro hw; exact absurd (Finset.mem_univ _) hw
  · rw [Finset.sum_eq_zero, add_zero]
    · congr 1
      have : bucketOf (128 * i + r - (16 * j + 31)) = 31 := by
        have : 241 ≤ 128 * i + r - (16 * j + 31) := by omega
        generalize 128 * i + r - (16 * j + 31) = d at this ⊢
        rw [bucketOf, if_neg (by omega), steps_ge d (by omega)]
      exact Fin.ext this.symm
    · intro w _
      rw [if_neg (by omega)]

end Nsa

end
-- ==== Proof.CmpPure.lean ====
module

public import proofs.«01_k».proof.Proof.Gen.CmpIdeal.Value
public import proofs.«01_k».proof.Proof.CmpSpec
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CmpIdeal.Own

open Cert.CmpIdeal Cert.CmpIdeal.Gen

open Nsa

theorem ninf : Ideal.ofBits .f32 4286578688#32 = (⊥ : EReal) := by
  simp [Ideal.ofBits, Ideal.ieee]

theorem masked : (Named.named (F := Ideal) (φ := .f32) κ "mask" (4048155338#32 : BitVec 32) : EReal) = ⊥ :=
  IdealRules.named_const.ideal_named_scalar κ "mask" (φ := .f32) _ ⊥ rfl

theorem pay17_at (v2 : FVec Ideal S256x128 .bf16) (v15 : IVec S128x256 1) (v27 : FVec Ideal S32x256 .bf16) (v73 : FVec Ideal S1x256 .f32)
    (v74 : FVec Ideal S1x128x32 .f32) (v90 : FVec Ideal S128x128 .bf16) (r : Fin 128) (j : Fin 256) :
    k0_pay17 (F := Ideal) v2 v15 v27 v73 v74 v90 (ix2 r j) = weight eps (fun x => v15 (ix2 r x)) (fun x =>
      score (fun k => v90 (ix2 r k)) (fun k => v2 (ix2 x k)) (v73 (ix2 0 x)) (fun w => v74 (ix3 0 r w)) (fun w => v27 (ix2 w x))) j := by
  pointwise [k0_pay17, weight, mass, peak, score, masked, ninf, eps]

theorem pay20_at (v2 : FVec Ideal S256x128 .bf16) (v15 : IVec S128x256 1) (v27 : FVec Ideal S32x256 .bf16) (v73 : FVec Ideal S1x1x256 .f32)
    (v74 : FVec Ideal S1x128x32 .f32) (v90 : FVec Ideal S128x128 .bf16) (r : Fin 128) (j : Fin 256) :
    k0_pay20 (F := Ideal) v2 v15 v27 v73 v74 v90 (ix2 r j) = weight eps (fun x => v15 (ix2 r x)) (fun x =>
      score (fun k => v90 (ix2 r k)) (fun k => v2 (ix2 x k)) (v73 (ix3 0 0 x)) (fun w => v74 (ix3 0 r w)) (fun w => v27 (ix2 w x))) j := by
  pointwise [k0_pay20, weight, mass, peak, score, masked, ninf, eps]

theorem pay23_at (v2 : FVec Ideal S256x128 .bf16) (v15 : IVec S128x256 1) (v27 : FVec Ideal S32x256 .bf16) (v73 : FVec Ideal S1x1x256 .f32)
    (v74 : FVec Ideal S1x128x32 .f32) (v90 : FVec Ideal S128x128 .bf16) (r : Fin 128) (j : Fin 256) :
    k0_pay23 (F := Ideal) v2 v15 v27 v73 v74 v90 (ix2 r j) = weight eps (fun x => v15 (ix2 r x)) (fun x =>
      score (fun k => v90 (ix2 r k)) (fun k => v2 (ix2 x k)) (v73 (ix3 0 0 x)) (fun w => v74 (ix3 0 r w)) (fun w => v27 (ix2 w x))) j := by
  pointwise [k0_pay23, weight, mass, peak, score, masked, ninf, eps]

theorem pay13_at (v2 : FVec Ideal S256x128 .bf16) (v15 : IVec S128x256 1) (v27 : FVec Ideal S32x256 .bf16) (v73 : FVec Ideal S1x1x256 .f32)
    (v74 : FVec Ideal S1x128x32 .f32) (v90 : FVec Ideal S128x128 .bf16) (r : Fin 128) (j : Fin 256) :
    k0_pay13 (F := Ideal) v2 v15 v27 (k0_pay8 v73) (k0_pay10 v74) (k0_pay11 v74) (k0_pay12 v74) v90 (ix2 r j) = weight eps (fun x => v15 (ix2 r x)) (fun x =>
      score (fun k => v90 (ix2 r k)) (fun k => v2 (ix2 x k)) (v73 (ix3 0 0 x)) (fun w => v74 (ix3 0 r w)) (fun w => v27 (ix2 w x))) j := by
  pointwise [k0_pay13, k0_pay8, k0_pay9, k0_pay10, k0_pay11, k0_pay12, weight, mass, peak, score, masked, ninf, eps]

theorem pay5_at (i) (r : Fin 128) (j : Fin 256) : k0_pay5 i (ix2 r j) = sees (128 * (i 2).val + r.val) j.val := by
  pointwise [k0_pay5]
  exact sees_block _ _ _ (i 2).isLt r.isLt j.isLt

theorem pay6_at (i) (w : Fin 32) (j : Fin 256) :
    k0_pay6 (F := Ideal) i (ix2 w j) = if j.val + 16 = 8 * (i 2).val + w.val then 1 else 0 := by
  pointwise [k0_pay6]
  refine (congrArg (fun c => Scalar.select c (1 : EReal) 0) (place_word _ _ _ (i 2).isLt j.isLt w.isLt)).trans ?_
  split <;> rfl

theorem pay3_at (v : FVec Ideal S1x256x128 .f32) (j : Fin 256) (k : Fin 128) : k0_pay3 (F := Ideal) v (ix2 j k) = v (ix3 0 j k) := by
  pointwise [k0_pay3]

theorem pay4_at (v : FVec Ideal S1x256x128 .f32) (j : Fin 256) (k : Fin 128) : k0_pay4 (F := Ideal) v (ix2 j k) = v (ix3 0 j k) := by
  pointwise [k0_pay4]

theorem select_meets (x b : Nat) (hx : x < 256) (hb : b < 64) (v : EReal) :
    Scalar.select (IntOp.cmpi CmpIPredicate.slt (IntOp.muli (BitVec.ofNat 32 x) 16#32) (IntOp.addi (IntOp.muli (BitVec.ofNat 32 b) 64#32) 64#32))
      (Scalar.select (IntOp.cmpi CmpIPredicate.sgt (IntOp.addi (IntOp.muli (BitVec.ofNat 32 x) 16#32) 32#32) (IntOp.muli (BitVec.ofNat 32 b) 64#32))
        v 0) 0 = if meets x b then v else 0 := by
  rw [before_word x b hx hb, after_word x b hx hb]
  by_cases h1 : 16 * x < 64 * b + 64
  · by_cases h2 : 64 * b < 16 * x + 32
    · rw [if_pos h1, if_pos h2, if_pos ⟨h1, h2⟩]; rfl
    · rw [if_pos h1, if_neg h2, if_neg (show ¬ meets x b from fun h => h2 h.2)]; rfl
  · rw [if_neg h1, if_neg (show ¬ meets x b from fun h => h1 h.1)]; rfl

theorem pay2_at (v157 v196 : FVec Ideal S128x256 .f32) (b : Fin 64) (r : Fin 128)
    (h : ∀ x : Fin 256, ∃ a : ℝ, v157 (ix2 r x) + v196 (ix2 r x) = (a : EReal)) :
    k0_pay2 (F := Ideal) v157 v196 (ix4 0 0 b r) = ∑ x : Fin 256, if meets x.val b.val then v157 (ix2 r x) + v196 (ix2 r x) else 0 := by
  pointwise [k0_pay2]
  simp only [fun x => real_sub_self (h x), sub_zero, Scalar.select, ite_self, Finset.sum_const_zero, add_zero]
  refine Finset.sum_congr rfl fun x _ => ?_
  exact select_meets x.val b.val x.isLt b.isLt _

theorem pay1_at (v5) (v197) (r : Fin 128) (c : Fin 128) : k0_pay1 (F := Ideal) v5 v197 (constant S128x128 .f32 0x00000000#32) (ix2 r c) = ∑ x, v197 (ix2 r x) * v5 (ix2 x c) := by
  pointwise [k0_pay1]

end Cert.CmpIdeal.Own
end
-- ==== Proof.CmpBlock.lean ====
module

public import proofs.«01_k».proof.Proof.CmpPure

@[expose] public section

set_option maxRecDepth 16384

noncomputable section

open Idealize.ShloMosaic Idealize.ShloMosaic.TcCoe Idealize.SL.Sem
open Idealize.ShloMosaic.Pipeline (Dat)

namespace Cert.CmpIdeal.Own

open Cert.CmpIdeal Cert.CmpIdeal.Gen

open Nsa

/-- The weight of key `j` for the query at row `r` of row block `I`. -/
def kwt (I : Nat) (q : Fin 128 → EReal) (k : Fin 256 → Fin 128 → EReal) (f : Fin 256 → EReal) (n : Fin 32 → EReal)
    (r : Nat) (j : Fin 256) : EReal :=
  weight eps (fun x : Fin 256 => sees (128 * I + r) x.val)
    (fun x => score q (k x) (f x) n (fun w => if x.val + 16 = 8 * I + w.val then 1 else 0)) j

theorem kwt_congr {I I' r r' : Nat} {q q' : Fin 128 → EReal} {k k' : Fin 256 → Fin 128 → EReal} {f f' : Fin 256 → EReal} {n n' : Fin 32 → EReal}
    (j : Fin 256) (hI : I = I') (hr : r = r') (hq : ∀ x, q x = q' x) (hk : ∀ a x, k a x = k' a x) (hf : ∀ a, f a = f' a) (hn : ∀ w, n w = n' w) :
    kwt I q k f n r j = kwt I' q' k' f' n' r' j := by
  obtain rfl := hI
  obtain rfl := hr
  obtain rfl : q = q' := funext hq
  obtain rfl : k = k' := funext fun a => funext (hk a)
  obtain rfl : f = f' := funext hf
  obtain rfl : n = n' := funext hn
  rfl

theorem kwt_real (I q k f n r j) : ∃ a : ℝ, kwt I q k f n r j = (a : EReal) := by
  obtain ⟨e, he, h⟩ := eps_real
  obtain ⟨a, -, ha⟩ := weight_real he (fun x : Fin 256 => sees (128 * I + r) x.val)
    (fun x => score q (k x) (f x) n (fun w => if x.val + 16 = 8 * I + w.val then 1 else 0)) j
  exact ⟨a, by unfold kwt; rw [h]; exact ha⟩

variable (i : grid0.Coords) (x0 : FVec Ideal S128x512 .bf16) (x1 x2 : FVec Ideal S1x256x128 .f32)
  (x3 : FVec Ideal S4x128x32 .f32) (x4 : FVec Ideal S4x1x256 .f32)

/-- The weight of key `j` for row `r` and head `g` of a block. -/
def bwt (g : Fin 4) (r : Fin 128) (j : Fin 256) : EReal :=
  kwt (i 2).val (fun k => x0 (ix2 r ⟨128 * g.val + k.val, by omega⟩)) (fun x k => x1 (ix3 0 x k)) (fun x => x4 (ix3 g 0 x))
    (fun w => x3 (ix3 g r w)) r.val j

/-- The block of outputs: row `r`, column `C`. -/
def tile5 (r : Fin 128) (C : Fin 512) : EReal :=
  ∑ j : Fin 256, bwt i x0 x1 x3 x4 ⟨C.val / 128, by omega⟩ r j * x2 (ix3 0 j ⟨C.val % 128, by omega⟩)

theorem out5_at (y : S128x512.Idx) : out0_5 (F := Ideal) i x0 x1 x2 x3 x4 y = tile5 i x0 x1 x2 x3 x4 (y 0) (y 1) := by
  unfold_out out0_5
  canon_tiles x h
  all_goals (
    try rw [show x = ix2 (x 0) (x 1) from (eq_ix2 x)]
    pointwise [k0_pay1, k0_pay14, k0_pay18, k0_pay21, k0_pay24, k0_pay16, pay17_at, pay20_at, pay23_at, pay13_at, pay5_at, pay6_at, pay3_at, pay4_at, tile5, bwt, kwt])
  all_goals (
    refine Finset.sum_congr rfl fun j _ => Ideal.mul_congr (kwt_congr j rfl h0.symm ?_ ?_ ?_ ?_) ?_
    all_goals (intros; blk_ext))

/-- The block of importances: chunk `b`, row `r`. -/
def tile6 (b : Fin 64) (r : Fin 128) : EReal :=
  ∑ j : Fin 256, if meets j.val b.val then ∑ g : Fin 4, bwt i x0 x1 x3 x4 g r j else 0

theorem bwt_real (g r j) : ∃ a : ℝ, bwt i x0 x1 x3 x4 g r j = (a : EReal) := kwt_real _ _ _ _ _ _ _

theorem sum_real4 (r j) : ∃ a : ℝ, ∑ g : Fin 4, bwt i x0 x1 x3 x4 g r j = (a : EReal) := by
  obtain ⟨a, ha⟩ := bwt_real i x0 x1 x3 x4 0 r j
  obtain ⟨b, hb⟩ := bwt_real i x0 x1 x3 x4 1 r j
  obtain ⟨c, hc⟩ := bwt_real i x0 x1 x3 x4 2 r j
  obtain ⟨d, hd⟩ := bwt_real i x0 x1 x3 x4 3 r j
  exact ⟨a + b + c + d, by rw [Fin.sum_univ_four, ha, hb, hc, hd]; push_cast; rfl⟩

theorem sum4 (r j) : bwt i x0 x1 x3 x4 0 r j + bwt i x0 x1 x3 x4 1 r j + bwt i x0 x1 x3 x4 2 r j + bwt i x0 x1 x3 x4 3 r j
    = ∑ g : Fin 4, bwt i x0 x1 x3 x4 g r j := by
  rw [Fin.sum_univ_four]

theorem out6_at (y : S1x1x64x128.Idx) : out0_6 (F := Ideal) i x0 x1 x2 x3 x4 y = tile6 i x0 x1 x3 x4 (y 2) (y 3) := by
  unfold_out out0_6
  canon_tiles x h
  rw [show y 2 = x 2 from Fin.ext h2, show y 3 = x 3 from Fin.ext h3]
  rw [show x = ix4 0 0 (x 2) (x 3) from by
    refine (eq_ix4 x).trans ?_
    rw [show x 0 = (0 : Fin 1) from Fin.ext (Nat.lt_one_iff.mp x0_lt), show x 1 = (0 : Fin 1) from Fin.ext (Nat.lt_one_iff.mp x1_lt)]
    rfl]
  refine (pay2_at _ _ (x 2) (x 3) fun j => ?_).trans ?_
  · obtain ⟨a, ha⟩ := sum_real4 i x0 x1 x3 x4 (x 3) j
    refine ⟨a, Eq.trans ?_ ha⟩
    refine Eq.trans ?_ (sum4 i x0 x1 x3 x4 (x 3) j)
    pointwise [k0_pay7, k0_pay15, k0_pay16, k0_pay19, k0_pay22, pay17_at, pay20_at, pay23_at, pay13_at, pay5_at, pay6_at, pay3_at]
    refine congrArg₂ (· + ·) (congrArg₂ (· + ·) (congrArg₂ (· + ·) ?_ ?_) ?_) ?_ <;>
      (refine kwt_congr j rfl rfl ?_ ?_ ?_ ?_ <;> (intros; blk_ext))
  · pointwise [k0_pay7, k0_pay15, k0_pay16, k0_pay19, k0_pay22, pay17_at, pay20_at, pay23_at, pay13_at, pay5_at, pay6_at, pay3_at]
    unfold tile6
    refine Finset.sum_congr rfl fun j _ => ?_
    refine congrArg (fun v => if meets j.val _ then v else (0 : EReal)) (Eq.trans ?_ (sum4 i x0 x1 x3 x4 (x 3) j))
    refine congrArg₂ (· + ·) (congrArg₂ (· + ·) (congrArg₂ (· + ·) ?_ ?_) ?_) ?_ <;>
      (refine kwt_congr j rfl rfl ?_ ?_ ?_ ?_ <;> (intros; blk_ext))

end Cert.CmpIdeal.Own
end
-- ==== Proof.CmpFinal.lean ====
module

public import proofs.«01_k».proof.Proof.CmpBlock

@[expose] public section

set_option maxRecDepth 16384

noncomputable section

open Idealize.ShloMosaic Idealize.ShloMosaic.TcCoe Idealize.SL.Sem
open Idealize.ShloMosaic.Pipeline (Dat)

namespace Cert.CmpIdeal.Own

open Cert.CmpIdeal Cert.CmpIdeal.Gen

open Nsa

section
variable (X : FVec Ideal S8192x2048 .bf16) (K W : FVec Ideal S2x256x512 .f32) (N : FVec Ideal S16x128x32 .f32) (E : FVec Ideal S16x1x256 .f32)

/-- The weight of key `j` for row `R` and head `H`, from the operand arrays. -/
def awt (R : Fin 8192) (H : Fin 16) (j : Fin 256) : EReal :=
  kwt (R.val / 128 % 32) (fun k => X (ix2 R ⟨128 * H.val + k.val, by omega⟩))
    (fun x k => K (ix3 ⟨R.val / 4096, by omega⟩ x ⟨128 * (H.val / 4) + k.val, by omega⟩))
    (fun x => E (ix3 H 0 x)) (fun w => N (ix3 H ⟨R.val % 128, by omega⟩ w)) (R.val % 128) j

/-- The array of outputs. -/
def G5f (R : Fin 8192) (C : Fin 2048) : EReal :=
  ∑ j : Fin 256, awt X K N E R ⟨C.val / 128, by omega⟩ j * W (ix3 ⟨R.val / 4096, by omega⟩ j ⟨128 * (C.val / 512) + C.val % 128, by omega⟩)

def G5 : FVec Ideal S8192x2048 .f32 := fun i => G5f X K W N E (i 0) (i 1)

/-- The array of importances. -/
def G6f (n : Fin 2) (h : Fin 4) (b : Fin 64) (q : Fin 4096) : EReal :=
  ∑ j : Fin 256, if meets j.val b.val then ∑ g : Fin 4, awt X K N E ⟨4096 * n.val + q.val, by omega⟩ ⟨4 * h.val + g.val, by omega⟩ j else 0

def G6 : FVec Ideal S2x4x64x4096 .f32 := fun i => G6f X K N E (i 0) (i 1) (i 2) (i 3)

end

theorem idx : ∀ t : Fin cfg0.N,
    win0_0.index t = ![32 * (grid0.coords t 0).val + (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 1).val, 0, 0]
    ∧ win0_4.index t = ![(grid0.coords t 1).val, 0, 0]
    ∧ win0_5.index t = ![32 * (grid0.coords t 0).val + (grid0.coords t 2).val, (grid0.coords t 1).val]
    ∧ win0_6.index t = ![(grid0.coords t 0).val, (grid0.coords t 1).val, 0, (grid0.coords t 2).val] :=
  (by decide +kernel : ∀ t : Fin grid0.N, _)

theorem coords_lt (t : Fin cfg0.N) : (grid0.coords t 0).val < 2 ∧ (grid0.coords t 1).val < 4 ∧ (grid0.coords t 2).val < 32 :=
  ⟨(grid0.coords t 0).isLt, (grid0.coords t 1).isLt, (grid0.coords t 2).isLt⟩

variable (m : (ℓ : Loc nD τ sig) → Buf (Elt Ideal) ℓ)

section
variable (c : Dev nD) (t : Fin cfg0.N) (g : Fin 4) (r : Fin 128) (R : Fin 8192) (H : Fin 16)

theorem q_leaf (hR : R.val = 4096 * (grid0.coords t 0).val + 128 * (grid0.coords t 2).val + r.val) (hH : H.val = 4 * (grid0.coords t 1).val + g.val) (k : Fin 128) :
    (iblk m c 0 t : FVec Ideal S128x512 .bf16) (ix2 r ⟨128 * g.val + k.val, by omega⟩)
      = (V m c main_v40 : FVec Ideal S8192x2048 .bf16) (ix2 R ⟨128 * H.val + k.val, by omega⟩) := by
  blk_ext [iblk, idx t]

theorem k_leaf (hR : R.val = 4096 * (grid0.coords t 0).val + 128 * (grid0.coords t 2).val + r.val) (hH : H.val = 4 * (grid0.coords t 1).val + g.val)
    (c2 : (grid0.coords t 2).val < 32) (x : Fin 256) (k : Fin 128) :
    (iblk m c 1 t : FVec Ideal S1x256x128 .f32) (ix3 0 x k)
      = (V m c main_v42 : FVec Ideal S2x256x512 .f32) (ix3 ⟨R.val / 4096, by omega⟩ x ⟨128 * (H.val / 4) + k.val, by omega⟩) := by
  have e1 : R.val / 4096 = (grid0.coords t 0).val := by omega
  have e2 : H.val / 4 = (grid0.coords t 1).val := by omega
  blk_ext [iblk, idx t]

theorem f_leaf (hH : H.val = 4 * (grid0.coords t 1).val + g.val) (x : Fin 256) :
    (iblk m c 4 t : FVec Ideal S4x1x256 .f32) (ix3 g 0 x) = (V m c main_v38 : FVec Ideal S16x1x256 .f32) (ix3 H 0 x) := by
  blk_ext [iblk, idx t]

theorem n_leaf (hR : R.val = 4096 * (grid0.coords t 0).val + 128 * (grid0.coords t 2).val + r.val) (hH : H.val = 4 * (grid0.coords t 1).val + g.val) (w : Fin 32) :
    (iblk m c 3 t : FVec Ideal S4x128x32 .f32) (ix3 g r w) = (V m c main_v12 : FVec Ideal S16x128x32 .f32) (ix3 H ⟨R.val % 128, by omega⟩ w) := by
  have e1 : R.val % 128 = r.val := by omega
  blk_ext [iblk, idx t]

end

theorem bwt_eq (c : Dev nD) (t : Fin cfg0.N) (g : Fin 4) (r : Fin 128) (j : Fin 256) (R : Fin 8192) (H : Fin 16)
    (hR : R.val = 4096 * (grid0.coords t 0).val + 128 * (grid0.coords t 2).val + r.val) (hH : H.val = 4 * (grid0.coords t 1).val + g.val) :
    bwt (grid0.coords t) (iblk m c 0 t) (iblk m c 1 t) (iblk m c 3 t) (iblk m c 4 t) g r j =
      awt (V m c main_v40) (V m c main_v42) (V m c main_v12) (V m c main_v38) R H j := by
  obtain ⟨c0, c1, c2⟩ := coords_lt t
  exact kwt_congr j (by omega) (by omega) (q_leaf m c t g r R H hR hH) (k_leaf m c t g r R H hR hH c2) (f_leaf m c t g H hH) (n_leaf m c t g r R H hR hH)

theorem point5 (c : Dev nD) (t : Fin cfg0.N) (y) :
    out0_5 (F := Ideal) (grid0.coords t) (iblk m c 0 t) (iblk m c 1 t) (iblk m c 2 t) (iblk m c 3 t) (iblk m c 4 t) y
      = G5 (V m c main_v40) (V m c main_v42) (V m c main_v44) (V m c main_v12) (V m c main_v38) (((cfg0.win 5).blk t).view.emb y) := by
  refine (out5_at _ _ _ _ _ _ _).trans ?_
  obtain ⟨c0, c1, c2⟩ := coords_lt t
  unfold tile5 G5 G5f
  refine Finset.sum_congr rfl fun j _ => Ideal.mul_congr (bwt_eq m c t _ _ j _ _ ?_ ?_) ?_
  · blk_simp [idx t] <;> first | omega | (dsimp only; omega)
  · blk_simp [idx t] <;> first | omega | (dsimp only; omega)
  · blk_ext [iblk, idx t]

theorem point6 (c : Dev nD) (t : Fin cfg0.N) (y) :
    out0_6 (F := Ideal) (grid0.coords t) (iblk m c 0 t) (iblk m c 1 t) (iblk m c 2 t) (iblk m c 3 t) (iblk m c 4 t) y
      = G6 (V m c main_v40) (V m c main_v42) (V m c main_v12) (V m c main_v38) (((cfg0.win 6).blk t).view.emb y) := by
  refine (out6_at _ _ _ _ _ _ _).trans ?_
  obtain ⟨c0, c1, c2⟩ := coords_lt t
  unfold tile6 G6 G6f
  have hb : ((((cfg0.win 6).blk t).view.emb y) 2).val = (y 2).val := by
    blk_simp [idx t] <;> try omega
  refine Finset.sum_congr rfl fun j _ => ?_
  rw [hb]
  refine congrArg (fun v => if meets j.val _ then v else (0 : EReal)) (Finset.sum_congr rfl fun g _ => bwt_eq m c t _ _ j _ _ ?_ ?_)
  · blk_simp [idx t] <;> first | omega | (dsimp only; omega)
  · blk_simp [idx t] <;> first | omega | (dsimp only; omega)

theorem final5 (c : Dev nD) : (dats m 0 c).arrAt 5 (cfgs 0).N =
    G5 (V m c main_v40) (V m c main_v42) (V m c main_v44) (V m c main_v12) (V m c main_v38) := by
  refine (dats m 0 c).arrAt_eq_of_covers 5 _ (by decide +kernel) fun t _ y => ?_
  blk_simp
  rw [after0_5]; exact point5 m c t y

theorem final6 (c : Dev nD) : (dats m 0 c).arrAt 6 (cfgs 0).N =
    G6 (V m c main_v40) (V m c main_v42) (V m c main_v12) (V m c main_v38) := by
  refine (dats m 0 c).arrAt_eq_of_covers 6 _ (by decide +kernel) fun t _ y => ?_
  blk_simp
  rw [after0_6]; exact point6 m c t y

end Cert.CmpIdeal.Own
end
-- ==== Proof.CmpEntry.lean ====
module

public import proofs.«01_k».proof.Proof.Gen.CmpIdeal.Value
public import proofs.«01_k».proof.Proof.Words
public import proofs.«01_k».proof.Proof.Bucket
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CmpIdeal.Own

open Cert.CmpIdeal Cert.CmpIdeal.Gen

variable (m : (ℓ : Loc nD τ sig) → Buf (Elt Ideal) ℓ)

/-- The gather at an index, where its start word is `b`. -/
theorem gather_at (X : FVec Ideal S16x32 .f32) (idx : IVec S128x32x1 32) (h : Fin 16) (r : Fin 128) (w : Fin 32) (b : Fin 32)
    (hb : idx (ix3 r w 0) = BitVec.ofNat 32 b.val) :
    Host.gather gather_S16x32_S128x32x1_S16x128x32_0_1_n_n_1_2_161 X idx (ix3 h r w) = X (ix2 h b) := by
  have hs : gather_S16x32_S128x32x1_S16x128x32_0_1_n_n_1_2_161.siIdx (ix3 h r w) ⟨0, by decide⟩ = (ix3 r w 0) := by
    funext a
    match a with
    | ⟨0, _⟩ => rfl
    | ⟨1, _⟩ => rfl
    | ⟨2, _⟩ => rfl
  refine congrArg X (funext fun a => Fin.ext ?_)
  show gather_S16x32_S128x32x1_S16x128x32_0_1_n_n_1_2_161.start (ix3 h r w) idx a + gather_S16x32_S128x32x1_S16x128x32_0_1_n_n_1_2_161.batchCoord (ix3 h r w) a + gather_S16x32_S128x32x1_S16x128x32_0_1_n_n_1_2_161.offCoord (ix3 h r w) a = _
  rw [GatherDims.batchCoord_eq_zero _ _ _ (List.not_mem_nil)]
  match a with
  | ⟨1, _⟩ =>
    have h0 : gather_S16x32_S128x32x1_S16x128x32_0_1_n_n_1_2_161.offCoord (ix3 h r w) 1 = 0 := GatherDims.offCoord_eq_zero _ _ _ (by decide)
    have h1 : gather_S16x32_S128x32x1_S16x128x32_0_1_n_n_1_2_161.start (ix3 h r w) idx 1 = min (idx (gather_S16x32_S128x32x1_S16x128x32_0_1_n_n_1_2_161.siIdx (ix3 h r w) ⟨0, by decide⟩)).toInt.toNat 31 := rfl
    show gather_S16x32_S128x32x1_S16x128x32_0_1_n_n_1_2_161.start (ix3 h r w) idx 1 + 0 + gather_S16x32_S128x32x1_S16x128x32_0_1_n_n_1_2_161.offCoord (ix3 h r w) 1 = b.val
    rw [h0, h1, hs, hb, Nsa.int_of _ (by omega)]
    omega
  | ⟨0, _⟩ =>
    have h0 : gather_S16x32_S128x32x1_S16x128x32_0_1_n_n_1_2_161.start (ix3 h r w) idx 0 = 0 := dif_neg (by decide)
    show gather_S16x32_S128x32x1_S16x128x32_0_1_n_n_1_2_161.start (ix3 h r w) idx 0 + 0 + gather_S16x32_S128x32x1_S16x128x32_0_1_n_n_1_2_161.offCoord (ix3 h r w) 0 = h.val
    rw [h0]
    show 0 + 0 + h.val = h.val
    omega

/-- The arguments' arrays. -/
abbrev argQ (c : Dev nD) : FVec Ideal S2x4096x4x4x128 .f32 := m ((c : Thread nD τ).loc main_arg0)
abbrev argK (c : Dev nD) : FVec Ideal S2x255x4x128 .f32 := m ((c : Thread nD τ).loc main_arg1)
abbrev argV (c : Dev nD) : FVec Ideal S2x255x4x128 .f32 := m ((c : Thread nD τ).loc main_arg2)
abbrev argB (c : Dev nD) : FVec Ideal S32x16 .f32 := m ((c : Thread nD τ).loc main_arg3)

/-- The queries as rows of heads. -/
def qrow (Q : FVec Ideal S2x4096x4x4x128 .f32) (R : Fin 8192) (C : Fin 2048) : EReal :=
  Q (ix5 ⟨R.val / 4096, by omega⟩ ⟨R.val % 4096, by omega⟩ ⟨C.val / 512, by omega⟩ ⟨C.val / 128 % 4, by omega⟩ ⟨C.val % 128, by omega⟩)

/-- The keys, or the values, as rows of heads, with one row of zeros after the last. -/
def krow (K : FVec Ideal S2x255x4x128 .f32) (n : Fin 2) (j : Fin 256) (d : Fin 512) : EReal :=
  if h : j.val < 255 then K (ix4 n ⟨j.val, h⟩ ⟨d.val / 128, by omega⟩ ⟨d.val % 128, by omega⟩) else 0

/-- The near bias of a block's row `r` and column `w`, less the last bucket's. -/
def nearf (B : FVec Ideal S32x16 .f32) (h : Fin 16) (r : Fin 128) (w : Fin 32) : EReal :=
  Scalar.select (lit1 ⟨r.val * 32 + w.val, by omega⟩)
    (B (ix2 ⟨(lit0 ⟨r.val * 32 + w.val, by omega⟩).toNat % 32, Nat.mod_lt _ (by omega)⟩ h) - B (ix2 31 h)) 0

theorem table_small : ∀ k : Fin 4096, lit0 k = BitVec.ofNat 32 ((lit0 k).toNat % 32) := by decide +kernel

theorem table_bucket : ∀ k : Fin 4096, 16 * (k.val % 32) ≤ k.val / 32 + 225 →
    (lit0 k).toNat % 32 = Nsa.bucketOf (k.val / 32 + 225 - 16 * (k.val % 32)) ∧ lit1 k = 1#1 := by decide +kernel

theorem q_eq (c : Dev nD) : V m c main_v40 = (fun i => qrow (argQ m c) (i 0) (i 1) : FVec Ideal S8192x2048 .bf16) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  try simp -implicitDefEqProofs only [StableHlo.TRef.toBuf, StableHlo.TRef.ofBuf, cast_cast, cast_eq]
  funext i
  idx_vars i
  pointwise
  rfl

theorem kc_eq (c : Dev nD) : V m c main_v42 = (fun i => krow (argK m c) (i 0) (i 1) (i 2) : FVec Ideal S2x256x512 .f32) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  try simp -implicitDefEqProofs only [StableHlo.TRef.toBuf, StableHlo.TRef.ofBuf, cast_cast, cast_eq]
  funext i
  idx_vars i
  pointwise
  have hz : (FloatOps.sitofp (F := Ideal) FTy.f32 (0#32) : EReal) = 0 := by
    show (((0 : ℤ) : ℝ) : EReal) = 0
    norm_num
  show _ = krow (argK m c) i0 i1 i2
  unfold krow
  by_cases h : i1.val < 255
  · rw [dif_pos h, dif_pos ⟨h, by omega, by omega⟩]
  · rw [dif_neg h, dif_neg fun hh => h hh.1, hz]

theorem vc_eq (c : Dev nD) : V m c main_v44 = (fun i => krow (argV m c) (i 0) (i 1) (i 2) : FVec Ideal S2x256x512 .f32) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  try simp -implicitDefEqProofs only [StableHlo.TRef.toBuf, StableHlo.TRef.ofBuf, cast_cast, cast_eq]
  funext i
  idx_vars i
  pointwise
  have hz : (FloatOps.sitofp (F := Ideal) FTy.f32 (0#32) : EReal) = 0 := by
    show (((0 : ℤ) : ℝ) : EReal) = 0
    norm_num
  show _ = krow (argV m c) i0 i1 i2
  unfold krow
  by_cases h : i1.val < 255
  · rw [dif_pos h, dif_pos ⟨h, by omega, by omega⟩]
  · rw [dif_neg h, dif_neg fun hh => h hh.1, hz]

theorem far_eq (c : Dev nD) : V m c main_v38 = (fun i => argB m c (ix2 31 (i 0)) : FVec Ideal S16x1x256 .f32) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  try simp -implicitDefEqProofs only [StableHlo.TRef.toBuf, StableHlo.TRef.ofBuf, cast_cast, cast_eq]
  funext i
  idx_vars i
  pointwise

theorem near_eq (c : Dev nD) : V m c main_v12 = (fun i => nearf (argB m c) (i 0) (i 1) (i 2) : FVec Ideal S16x128x32 .f32) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  try simp -implicitDefEqProofs only [StableHlo.TRef.toBuf, StableHlo.TRef.ofBuf, cast_cast, cast_eq]
  funext i
  idx_vars i
  pointwise
  have hk : S128x32.rowMajor (ix2 i1 i2) = ⟨i1.val * 32 + i2.val, by show _ < 4096; omega⟩ := Fin.ext (by rw [Shape.rowMajor_val_two]; rfl)
  refine (congrArg (fun z => Scalar.select _ (z - _) _) (gather_at _ _ i0 i1 i2
    ⟨(lit0 ⟨i1.val * 32 + i2.val, by omega⟩).toNat % 32, Nat.mod_lt _ (by omega)⟩ ?_)).trans ?_
  · pointwise
    rw [hk]
    exact table_small _
  · show _ = nearf (argB m c) i0 i1 i2
    unfold nearf
    pointwise
    rw [hk]

end Cert.CmpIdeal.Own
end
-- ==== Proof.CmpRefAt.lean ====
module

public import proofs.«01_k».proof.Proof.Gen.CmpRefIdeal.Read
public import proofs.«01_k».proof.Proof.CmpSpec
public import Idealize.ShloMosaic.Lib.Pointwise

@[expose] public section

set_option maxRecDepth 16384

noncomputable section

open Idealize.ShloMosaic

namespace Cert.CmpRefIdeal.Own

open Nsa Cert.CmpRefIdeal Cert.CmpRefIdeal.Gen Cert.CmpRefIdeal.Read

/-- The gather at an index, where its start word is `b`. -/
theorem gather_at (X : FVec Ideal S32x16 .f32) (idx : IVec S4096x255x1 32) (h : Fin 16) (q : Fin 4096) (j : Fin 255) (b : Fin 32)
    (hb : idx (ix3 q j 0) = BitVec.ofNat 32 b.val) :
    Host.gather gather_S32x16_S4096x255x1_S4096x255x16_2_0_n_n_0_2_116 X idx (ix3 q j h) = X (ix2 b h) := by
  have hs : gather_S32x16_S4096x255x1_S4096x255x16_2_0_n_n_0_2_116.siIdx (ix3 q j h) ⟨0, by decide⟩ = (ix3 q j 0) := by
    funext a
    match a with
    | ⟨0, _⟩ => rfl
    | ⟨1, _⟩ => rfl
    | ⟨2, _⟩ => rfl
  refine congrArg X (funext fun a => Fin.ext ?_)
  show gather_S32x16_S4096x255x1_S4096x255x16_2_0_n_n_0_2_116.start (ix3 q j h) idx a + gather_S32x16_S4096x255x1_S4096x255x16_2_0_n_n_0_2_116.batchCoord (ix3 q j h) a + gather_S32x16_S4096x255x1_S4096x255x16_2_0_n_n_0_2_116.offCoord (ix3 q j h) a = _
  rw [GatherDims.batchCoord_eq_zero _ _ _ (List.not_mem_nil)]
  match a with
  | ⟨0, _⟩ =>
    have h0 : gather_S32x16_S4096x255x1_S4096x255x16_2_0_n_n_0_2_116.offCoord (ix3 q j h) 0 = 0 := GatherDims.offCoord_eq_zero _ _ _ (by decide)
    have h1 : gather_S32x16_S4096x255x1_S4096x255x16_2_0_n_n_0_2_116.start (ix3 q j h) idx 0 = min (idx (gather_S32x16_S4096x255x1_S4096x255x16_2_0_n_n_0_2_116.siIdx (ix3 q j h) ⟨0, by decide⟩)).toInt.toNat 31 := rfl
    show gather_S32x16_S4096x255x1_S4096x255x16_2_0_n_n_0_2_116.start (ix3 q j h) idx 0 + 0 + gather_S32x16_S4096x255x1_S4096x255x16_2_0_n_n_0_2_116.offCoord (ix3 q j h) 0 = b.val
    rw [h0, h1, hs, hb, Nsa.int_of _ (by omega)]
    omega
  | ⟨1, _⟩ =>
    have h0 : gather_S32x16_S4096x255x1_S4096x255x16_2_0_n_n_0_2_116.start (ix3 q j h) idx 1 = 0 := dif_neg (by decide)
    show gather_S32x16_S4096x255x1_S4096x255x16_2_0_n_n_0_2_116.start (ix3 q j h) idx 1 + 0 + gather_S32x16_S4096x255x1_S4096x255x16_2_0_n_n_0_2_116.offCoord (ix3 q j h) 1 = h.val
    rw [h0]
    show 0 + 0 + h.val = h.val
    omega

theorem ninf : Ideal.ofBits .f32 4286578688#32 = (⊥ : EReal) := by
  simp [Ideal.ofBits, Ideal.ieee]

theorem dist_at (q : Fin 4096) (j : Fin 255) : val_main_v10 (F := Ideal) (ix2 q j)
    = IntOp.subi (BitVec.ofNat 32 q.val) (IntOp.addi (IntOp.muli (BitVec.ofNat 32 j.val) 16#32) 31#32) := by
  pointwise [val_main_v0, val_main_v1, val_main_v2, val_main_v3, val_main_v4, val_main_v5, val_main_v6, val_main_v7, val_main_v8, val_main_v9, val_main_v10, val_main_c, val_main_c_0]

theorem bucket_at (q : Fin 4096) (j : Fin 255) : val_main_v30 (F := Ideal) (ix2 q j) = bucketWord (val_main_v10 (F := Ideal) (ix2 q j)) := by
  pointwise [val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_3, val_main_cst_4, val_main_c_1, val_main_c_2, val_main_c_5, val_main_c_6, val_main_c_7]
  rfl

/-- The bias of a seen key is its distance's row of the table. -/
theorem bias_at (x3) (h g : Fin 4) (q : Fin 4096) (j : Fin 255) (hs : 16 * j.val + 31 ≤ q.val) :
    val_main_v34 (F := Ideal) x3 (ix4 h g q j)
      = (x3 : FVec Ideal S32x16 .f32) (ix2 (rowOf (q.val - (16 * j.val + 31))) ⟨h.val * 4 + g.val, by omega⟩) := by
  pointwise [val_main_v34, val_main_v33, val_main_v32, val_main_v31]
  refine gather_at x3 _ ⟨h.val * 4 + g.val, by omega⟩ q j (rowOf (q.val - (16 * j.val + 31))) ?_
  refine Eq.trans (b := val_main_v30 (F := Ideal) (ix2 q j)) ?_ ?_
  · pointwise
  · rw [bucket_at, dist_at, dist_word _ _ hs, bucketWord_eq _ (by omega)]
    rfl

section
variable (x0 : FVec Ideal S2x4096x4x4x128 .f32) (x1 x2 : FVec Ideal S2x255x4x128 .f32) (x3 : FVec Ideal S32x16 .f32)

/-- The arrays by their coordinates. -/
abbrev cq (x0 : FVec Ideal S2x4096x4x4x128 .f32) : Fin 2 → Fin 4096 → Fin 4 → Fin 4 → Fin 128 → EReal := fun n q h g d => x0 (ix5 n q h g d)
abbrev ck (x1 : FVec Ideal S2x255x4x128 .f32) : Fin 2 → Fin 255 → Fin 4 → Fin 128 → EReal := fun n j h d => x1 (ix4 n j h d)
abbrev cb (x3 : FVec Ideal S32x16 .f32) : Fin 32 → Fin 16 → EReal := fun b h => x3 (ix2 b h)

theorem score_at (n : Fin 2) (h g : Fin 4) (q : Fin 4096) (j : Fin 255) (hs : 16 * j.val + 31 ≤ q.val) :
    val_main_v41 (F := Ideal) x0 x1 x3 (ix5 n h g q j) = cscore (cq x0) (ck x1) (cb x3) n h g q j := by
  pointwise [val_main_v41, val_main_v40, val_main_v39, val_main_v38, val_main_v37, val_main_v36, val_main_v35, val_main_cst_8]
  rw [bias_at x3 h g q j hs]
  unfold cscore scale
  congr 2
  exact Finset.sum_congr rfl fun x _ => EReal.mul_comm _ _

theorem seen_at (q : Fin 4096) (j : Fin 255) : val_main_v43 (F := Ideal) (ix2 q j) = sees q.val j.val := by
  pointwise [val_main_v43, val_main_v42, val_main_c_9]
  rw [dist_at]
  exact sees_sub _ _ q.isLt (by omega)

theorem soft_at (n : Fin 2) (h g : Fin 4) (q : Fin 4096) (j : Fin 255) : val_main_v56 (F := Ideal) x0 x1 x3 (ix5 n h g q j)
    = weight eps (fun x : Fin 255 => sees q.val x.val) (fun x => val_main_v41 (F := Ideal) x0 x1 x3 (ix5 n h g q x)) j := by
  have hi : (constant (F := Ideal) S_ .f32 4286578688#32) ix0 = (⊥ : EReal) := ninf
  have hz : (constant (F := Ideal) S_ .f32 0#32) ix0 = (0 : EReal) := by pointwise
  pointwise [val_main_v56, val_main_v55, val_main_v54, val_main_v53, val_main_v52, val_main_v51, val_main_v50, val_main_v49, val_main_v48, val_main_v47, val_main_v46, val_main_v45, val_main_v44, val_main_cst_10, val_main_cst_11, val_main_cst_12, val_main_cst_13, val_main_cst_14, val_main_call1_v0, val_main_call1_v1, val_main_call1_v2, val_main_call2_v0, val_main_call2_v1, val_main_call2_v2, id, seen_at, ninf, hi, hz, weight, mass, peak, eps]

theorem weight_at (n : Fin 2) (h g : Fin 4) (q : Fin 4096) (j : Fin 255) : val_main_v56 (F := Ideal) x0 x1 x3 (ix5 n h g q j)
    = cweight (cq x0) (ck x1) (cb x3) n h g q j := by
  rw [soft_at]
  refine weight_congr _ _ _ _ (fun x hx => score_at x0 x1 x3 n h g q x ?_) j
  by_contra hn
  rw [sees, if_neg hn] at hx
  exact absurd hx (by decide)

theorem out_at (R : Fin 8192) (C : Fin 2048) : val_main_v82 (F := Ideal) x0 x1 x2 x3 (ix2 R C)
    = cout (cq x0) (ck x1) (ck x2) (cb x3) ⟨R.val / 4096, by omega⟩ ⟨R.val % 4096, by omega⟩ ⟨C.val / 512, by omega⟩
        ⟨C.val / 128 % 4, by omega⟩ ⟨C.val % 128, by omega⟩ := by
  pointwise [val_main_v82, val_main_v58, val_main_v57]
  refine Finset.sum_congr rfl fun x _ => ?_
  rw [weight_at]
  exact EReal.mul_comm _ _

theorem overlap_at (j : Fin 255) (b : Fin 64) : val_main_v78 (F := Ideal) (ix2 j b) = if meets j.val b.val then (1 : EReal) else 0 := by
  pointwise [val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_c_15, val_main_c_16, val_main_c_17, val_main_c_18]
  rw [before_word _ _ (by omega) b.isLt, after_word _ _ (by omega) b.isLt]
  by_cases h1 : 16 * j.val < 64 * b.val + 64
  · by_cases h2 : 64 * b.val < 16 * j.val + 32
    · rw [if_pos h1, if_pos h2, if_pos (show meets _ _ from ⟨h1, h2⟩)]
      show (((1 : ℕ) : ℝ) : EReal) = 1
      norm_num
    · rw [if_pos h1, if_neg h2, if_neg (show ¬ meets _ _ from fun h => h2 h.2)]
      show (((0 : ℕ) : ℝ) : EReal) = 0
      norm_num
  · rw [if_neg h1, if_neg (show ¬ meets _ _ from fun h => h1 h.1)]
    split <;> (show (((0 : ℕ) : ℝ) : EReal) = 0; norm_num)

theorem imp_at (n : Fin 2) (h : Fin 4) (b : Fin 64) (q : Fin 4096) : val_main_v83 (F := Ideal) x0 x1 x3 (ix4 n h b q)
    = cimp (cq x0) (ck x1) (cb x3) n h b q := by
  pointwise [val_main_v83, val_main_v81, val_main_v80, val_main_v79, val_main_cst_19]
  refine Finset.sum_congr rfl fun x _ => ?_
  rw [overlap_at, Finset.sum_congr rfl fun g _ => weight_at x0 x1 x3 n h g q x]
  split
  · rw [one_mul]
  · rw [zero_mul]

end

end Cert.CmpRefIdeal.Own
end
-- ==== Proof.CmpEq.lean ====
module

public import proofs.«01_k».proof.Proof.CmpFinal
public import proofs.«01_k».proof.Proof.CmpEntry
public import proofs.«01_k».proof.Proof.CmpRefAt
public import proofs.«01_k».proof.Pre_finite_bias

@[expose] public section

set_option maxRecDepth 16384

noncomputable section

open Idealize.ShloMosaic Idealize.ShloMosaic.TcCoe Idealize.SL.Sem
open Idealize.ShloMosaic.Pipeline (Dat)

namespace Cert.CmpIdeal.Own

open Cert.CmpIdeal Cert.CmpIdeal.Gen

open Nsa

open Cert.CmpRefIdeal.Own (cq ck cb)

section
variable (Q : FVec Ideal S2x4096x4x4x128 .f32) (K W : FVec Ideal S2x255x4x128 .f32) (B : FVec Ideal S32x16 .f32)

theorem nearf_real (hB : ∀ b h, ∃ a : ℝ, B (ix2 b h) = (a : EReal)) (h : Fin 16) (r : Fin 128) (w : Fin 32) :
    ∃ a : ℝ, nearf B h r w = (a : EReal) := by
  unfold nearf Scalar.select
  obtain ⟨x, hx⟩ := hB ⟨(lit0 ⟨r.val * 32 + w.val, by omega⟩).toNat % 32, Nat.mod_lt _ (by omega)⟩ h
  obtain ⟨y, hy⟩ := hB 31 h
  split
  · exact ⟨x - y, by rw [hx, hy]; rfl⟩
  · exact ⟨0, rfl⟩

theorem nearf_near (h : Fin 16) (r : Fin 128) (w : Fin 32) (hw : 16 * w.val ≤ r.val + 225) :
    nearf B h r w = B (ix2 (rowOf (r.val + 225 - 16 * w.val)) h) - B (ix2 31 h) := by
  have e1 : (r.val * 32 + w.val) / 32 = r.val := by omega
  have e2 : (r.val * 32 + w.val) % 32 = w.val := by omega
  have := table_bucket ⟨r.val * 32 + w.val, by omega⟩ (by dsimp only; rw [e1, e2]; exact hw)
  dsimp only at this
  rw [e1, e2] at this
  unfold nearf
  rw [this.2, show (⟨(lit0 ⟨r.val * 32 + w.val, by omega⟩).toNat % 32, Nat.mod_lt _ (by omega)⟩ : Fin 32)
    = rowOf (r.val + 225 - 16 * w.val) from Fin.ext this.1]
  rfl

theorem qrow_at (R : Fin 8192) (H : Fin 16) (k : Fin 128) : qrow Q R ⟨128 * H.val + k.val, by omega⟩
    = cq Q ⟨R.val / 4096, by omega⟩ ⟨R.val % 4096, by omega⟩ ⟨H.val / 4, by omega⟩ ⟨H.val % 4, by omega⟩ k := by
  unfold qrow
  simp only [show (128 * H.val + k.val) / 512 = H.val / 4 by omega, show (128 * H.val + k.val) / 128 % 4 = H.val % 4 by omega,
    show (128 * H.val + k.val) % 128 = k.val by omega]

theorem krow_at (n : Fin 2) (j : Fin 255) (h : Fin 4) (k : Fin 128) (d : Nat) (hd : d = 128 * h.val + k.val) :
    krow K n j.castSucc ⟨d, by omega⟩ = ck K n j h k := by
  subst hd
  unfold krow
  rw [dif_pos (show (j.castSucc).val < 255 from j.isLt)]
  simp only [show (128 * h.val + k.val) / 128 = h.val by omega, show (128 * h.val + k.val) % 128 = k.val by omega, Fin.val_castSucc]

theorem sees_last (q : Nat) (h : q < 4096) : sees q 255 = 0#1 := by
  unfold sees
  rw [if_neg (by omega)]

/-- The operand arrays as the host prepares them. -/
abbrev arrX : FVec Ideal S8192x2048 .bf16 := fun i => qrow Q (i 0) (i 1)
abbrev arrK : FVec Ideal S2x256x512 .f32 := fun i => krow K (i 0) (i 1) (i 2)
abbrev arrN : FVec Ideal S16x128x32 .f32 := fun i => nearf B (i 0) (i 1) (i 2)
abbrev arrE : FVec Ideal S16x1x256 .f32 := fun i => B (ix2 31 (i 0))

theorem awt_last (R : Fin 8192) (H : Fin 16) : awt (arrX Q) (arrK K) (arrN B) (arrE B) R H (Fin.last 255) = 0 := by
  obtain ⟨e, he, h⟩ := eps_real
  unfold awt kwt
  rw [h]
  exact weight_hidden_last he _ _ (sees_last _ (by omega))

theorem awt_at (hB : ∀ b h, ∃ a : ℝ, B (ix2 b h) = (a : EReal)) (R : Fin 8192) (H : Fin 16) (j : Fin 255) :
    awt (arrX Q) (arrK K) (arrN B) (arrE B) R H j.castSucc =
      cweight (cq Q) (ck K) (cb B) ⟨R.val / 4096, by omega⟩ ⟨H.val / 4, by omega⟩ ⟨H.val % 4, by omega⟩ ⟨R.val % 4096, by omega⟩ j := by
  unfold awt kwt cweight
  rw [weight_hidden eps _ _ (sees_last _ (by omega))]
  have hQ : 128 * (R.val / 128 % 32) + R.val % 128 = R.val % 4096 := by omega
  rw [hQ]
  refine weight_congr eps _ _ _ (fun x hx => ?_) j
  have hx' : 16 * x.val + 31 ≤ 128 * (R.val / 128 % 32) + R.val % 128 := by
    by_contra hn
    have hx : sees (R.val % 4096) x.val = 1#1 := hx
    unfold sees at hx
    rw [if_neg (by omega)] at hx
    exact absurd hx (by decide)
  refine (score_seen (fun k => arrX Q (ix2 R ⟨128 * H.val + k.val, by omega⟩)) _ (fun b => B (ix2 b H)) _ (R.val / 128 % 32) (R.val % 128) x.val (by omega) (by omega) x.isLt
    (fun w => nearf_real B hB H ⟨R.val % 128, by omega⟩ w) (fun b => hB b H)
    (fun w hw => nearf_near B H ⟨R.val % 128, by omega⟩ w hw) hx').trans ?_
  unfold cscore
  rw [hQ]
  have hh : (⟨H.val / 4 * 4 + H.val % 4, by omega⟩ : Fin 16) = H := Fin.ext (by dsimp only; omega)
  rw [hh]
  refine congrArg (fun z : EReal => z * scale + _) (Finset.sum_congr rfl fun k _ => Ideal.mul_congr ?_ ?_)
  · exact qrow_at Q R H k
  · exact krow_at K _ x ⟨H.val / 4, by omega⟩ k _ rfl

theorem out_flat (hB : ∀ b h, ∃ a : ℝ, B (ix2 b h) = (a : EReal)) :
    G5 (arrX Q) (arrK K) (arrK W) (arrN B) (arrE B) = Cert.CmpRefIdeal.Read.val_main_v82 (F := Ideal) Q K W B := by
  funext i
  idx_vars i
  refine Eq.trans ?_ (Cert.CmpRefIdeal.Own.out_at Q K W B i0 i1).symm
  show G5f _ _ _ _ _ i0 i1 = _
  unfold G5f cout
  rw [Fin.sum_univ_castSucc, awt_last, zero_mul, add_zero]
  refine Finset.sum_congr rfl fun j _ => Ideal.mul_congr ?_ ?_
  · refine (awt_at Q K B hB _ _ j).trans ?_
    simp only [show i1.val / 128 / 4 = i1.val / 512 by omega]
  · exact krow_at W _ j ⟨i1.val / 512, by omega⟩ ⟨i1.val % 128, by omega⟩ _ rfl

theorem imp_flat (hB : ∀ b h, ∃ a : ℝ, B (ix2 b h) = (a : EReal)) :
    G6 (arrX Q) (arrK K) (arrN B) (arrE B) = Cert.CmpRefIdeal.Read.val_main_v83 (F := Ideal) Q K B := by
  funext i
  idx_vars i
  refine Eq.trans ?_ (Cert.CmpRefIdeal.Own.imp_at Q K B i0 i1 i2 i3).symm
  show G6f _ _ _ _ i0 i1 i2 i3 = _
  unfold G6f cimp
  rw [Fin.sum_univ_castSucc]
  simp only [awt_last, awt_at Q K B hB, Finset.sum_const_zero, ite_self, add_zero]
  refine Finset.sum_congr rfl fun j _ => congrArg (fun v => if meets j.val i2.val then v else (0 : EReal)) (Finset.sum_congr rfl fun g _ => ?_)
  simp only [show (4096 * i0.val + i3.val) / 4096 = i0.val by omega, show (4096 * i0.val + i3.val) % 4096 = i3.val by omega,
    show (4 * i1.val + g.val) / 4 = i1.val by omega, show (4 * i1.val + g.val) % 4 = g.val by omega]

end

theorem bias_real [Cert.Pre_finite_bias.Facts] (Q : FVec Ideal S2x4096x4x4x128 .f32) (K W : FVec Ideal S2x255x4x128 .f32) (B : FVec Ideal S32x16 .f32)
    (h : Cert.Pre_finite_bias.fn (F := Ideal) Q K W B = fun _ => 1#1) (b : Fin 32) (g : Fin 16) : ∃ a : ℝ, B (ix2 b g) = (a : EReal) := by
  have e : Cert.Pre_finite_bias.fn (F := Ideal) Q K W B (ix2 b g) =
      IntOp.andi (BitVec.ofBool (decide (B (ix2 b g) < Ideal.ofBits FTy.f32 2139095040#32)))
        (BitVec.ofBool (decide (Ideal.ofBits FTy.f32 4286578688#32 < B (ix2 b g)))) := by
    pointwise [Cert.Pre_finite_bias.fn]
  have e' := e.symm.trans (congrFun h (ix2 b g))
  have top : Ideal.ofBits .f32 2139095040#32 = (⊤ : EReal) := by simp [Ideal.ofBits, Ideal.ieee]
  rw [top, ninf] at e'
  by_cases h1 : B (ix2 b g) < (⊤ : EReal)
  · by_cases h2 : (⊥ : EReal) < B (ix2 b g)
    · exact ⟨(B (ix2 b g)).toReal, (EReal.coe_toReal h1.ne h2.ne').symm⟩
    · rw [decide_eq_false h2] at e'
      exact absurd e' (by cases decide (B (ix2 b g) < (⊤ : EReal)) <;> decide)
  · rw [decide_eq_false h1] at e'
    exact absurd e' (by cases decide ((⊥ : EReal) < B (ix2 b g)) <;> decide)

variable (m : (ℓ : Loc nD τ sig) → Buf (Elt Ideal) ℓ)

theorem out_eq (c : Dev nD) (hB : ∀ b h, ∃ a : ℝ, argB m c (ix2 b h) = (a : EReal)) :
    (dats m 0 c).arrAt 5 (cfgs 0).N = Cert.CmpRefIdeal.Read.val_main_v82 (F := Ideal) (argQ m c) (argK m c) (argV m c) (argB m c) := by
  rw [final5, q_eq, kc_eq, vc_eq, far_eq, near_eq]
  exact out_flat _ _ _ _ hB

theorem imp_eq (c : Dev nD) (hB : ∀ b h, ∃ a : ℝ, argB m c (ix2 b h) = (a : EReal)) :
    (dats m 0 c).arrAt 6 (cfgs 0).N = Cert.CmpRefIdeal.Read.val_main_v83 (F := Ideal) (argQ m c) (argK m c) (argB m c) := by
  rw [final6, q_eq, kc_eq, far_eq, near_eq]
  exact imp_flat _ _ _ hB

end Cert.CmpIdeal.Own
end
-- ==== Proof.CmpValue.lean ====
module

public import proofs.«01_k».proof.Defs
public import proofs.«01_k».proof.Proof.CmpEq
public import proofs.«01_k».proof.Proof.Gen.CmpRefIdeal.Run

@[expose] public section

set_option maxRecDepth 16384

noncomputable section

open Idealize.ShloMosaic Idealize.ShloMosaic.TcCoe Idealize.SL.Sem

namespace Cert.CmpIdeal.Own

/-- The compressed attention's run against the reference's: the outputs and the importances agree. -/
theorem algebraic [Cert.Pre_finite_bias.Facts] : Cert.algebraic_CmpIdeal_CmpRefIdeal_pre_finite_bias := by
  pair_intro
  · run_from Cert.CmpIdeal.Value.run_blocks m g
  · run_from Cert.CmpRefIdeal.Value.run m' g'
    · rw [Cert.CmpRefIdeal.Read.val_main_v82_eq, (hagree c).1, (hagree c).2.1, (hagree c).2.2.1, (hagree c).2.2.2]
      exact (out_eq m c (bias_real _ _ _ _ (hpre c))).symm
    · rw [Cert.CmpRefIdeal.Read.val_main_v83_eq, (hagree c).1, (hagree c).2.1, (hagree c).2.2.2]
      exact (imp_eq m c (bias_real _ _ _ _ (hpre c))).symm

end Cert.CmpIdeal.Own

end
-- ==== Proof.FfnPure.lean ====
module

public import proofs.«01_k».proof.Proof.Gen.FfnIdeal.Value
public import proofs.«01_k».proof.Proof.Gen.FfnRefIdeal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Own

open Cert.FfnIdeal Cert.FfnIdeal.Gen

variable (m : (ℓ : Loc nD τ sig) → Buf (Elt Ideal) ℓ)

/-- One element of the gated up-projection: a row against a column of each half, the first through the logistic unit. -/
def gated (x g u : Fin 2048 → EReal) : EReal :=
  (∑ k, x k * g k) * Ideal.div 1 (1 + Ideal.exp (0 - ∑ k, x k * g k)) * ∑ k, x k * u k

/-- What the body computes at row `y 0` and column `y 1` of its block. -/
theorem pay_at (x : Vec Ideal S1024x2048 .bf16) (g u : Vec Ideal S2048x512 .bf16) (y : S1024x512.Idx) :
    k0_pay1 (F := Ideal) x g u y =
      gated (fun k => x (ix2 (y 0) k)) (fun k => g (ix2 k (y 1))) (fun k => u (ix2 k (y 1))) := by
  pointwise [k0_pay1, gated]

theorem idx : ∀ t : Fin cfg0.N, win0_0.index t = ![(grid0.coords t 0).val, 0] ∧ win0_1.index t = ![0, (grid0.coords t 1).val]
    ∧ win0_2.index t = ![0, 11 + (grid0.coords t 1).val] ∧ win0_3.index t = ![(grid0.coords t 0).val, (grid0.coords t 1).val] :=
  (by decide +kernel : ∀ t : Fin grid0.N, _)

/-- The whole result, from the region's operand arrays. -/
def G (X : FVec Ideal S8192x2048 .bf16) (W : FVec Ideal S2048x11264 .bf16) : FVec Ideal S8192x5632 .bf16 := fun i =>
  gated (fun k => X (ix2 (i 0) k))
    (fun k => W (ix2 k ⟨(i 1).val, lt_trans (show (i 1).val < 5632 from (i 1).isLt) (by decide)⟩))
    (fun k => W (ix2 k ⟨5632 + (i 1).val, by have : (i 1).val < 5632 := (i 1).isLt; omega⟩))

theorem point (c : Dev nD) (t : Fin cfg0.N) (y) : k0_pay1 (F := Ideal) (iblk m c 0 t) (iblk m c 1 t) (iblk m c 2 t) y
    = G (V m c main_v1) (V m c main_v2) (((cfg0.win 3).blk t).view.emb y) := by
  refine (pay_at _ _ _ _).trans ?_
  unfold G gated
  refine congrArg₂ (fun a b : EReal => a * Ideal.div 1 (1 + Ideal.exp (0 - a)) * b) ?_ ?_ <;>
  refine Finset.sum_congr rfl fun k _ => Ideal.mul_congr ?_ ?_ <;>
  blk_ext [iblk, idx t]

theorem final (c : Dev nD) : (dats m 0 c).arrAt 3 (cfgs 0).N = G (V m c main_v1) (V m c main_v2) := by
  refine (dats m 0 c).arrAt_eq_of_covers 3 _ (by decide +kernel) fun t _ y => ?_
  blk_simp
  rw [after0_3]; frame_out
  exact point m c t y

/-- The second operand is the weight array as launched. -/
theorem entry_w (c : Dev nD) : V m c main_v2 = (m ((c : Thread nD τ).loc main_arg1) : FVec Ideal S2048x11264 .f32) := by
  funext i
  entry_read
  idx_vars i
  pointwise

/-- The reference's array is the same function of the two arguments: its operands are the arguments' entries. -/
theorem ref_eq (c : Dev nD) : G (V m c main_v1) (V m c main_v2) =
    Cert.FfnRefIdeal.Read.val_main_v6 (F := Ideal) (m ((c : Thread nD τ).loc main_arg0)) (m ((c : Thread nD τ).loc main_arg1)) := by
  rw [entry_w]
  entry_read
  funext i
  idx_vars i
  open Cert.FfnRefIdeal.Read in
  pointwise [G, gated, zero_sub, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]

end Cert.FfnIdeal.Own

end
-- ==== Proof.FfnValue.lean ====
module

public import proofs.«01_k».proof.Defs
public import proofs.«01_k».proof.Proof.FfnPure
public import proofs.«01_k».proof.Proof.Gen.FfnRefIdeal.Run

@[expose] public section

set_option maxRecDepth 16384

noncomputable section

open Idealize.ShloMosaic Idealize.ShloMosaic.TcCoe Idealize.SL.Sem

namespace Cert.FfnIdeal.Own

/-- The gated up-projection's run against the reference's. -/
theorem algebraic : Cert.algebraic_FfnIdeal_FfnRefIdeal := by
  pair_intro
  · run_from Cert.FfnIdeal.Value.run_blocks m g
  · run_from Cert.FfnRefIdeal.Value.run m' g'
    exact (Cert.FfnRefIdeal.Read.val_main_v6_eq _ _).trans ((final m c).trans (ref_eq m c)).symm

end Cert.FfnIdeal.Own

end
-- ==== Proof.ZhValue.lean ====
module

public import proofs.«01_k».proof.Defs
public import proofs.«01_k».proof.Proof.Gen.ZhIdeal.Value
public import proofs.«01_k».proof.Proof.Gen.ZhRefIdeal.Read
public import proofs.«01_k».proof.Proof.Gen.ZhRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ZhIdeal.Own

open Cert.ZhIdeal Cert.ZhIdeal.Gen

variable (m : (ℓ : Loc nD τ sig) → Buf (Elt Ideal) ℓ)

/-- What the body computes at row `y 0` and column `y 1` of its block. -/
theorem pay_at (x : Vec Ideal S1024x2048 .bf16) (w : Vec Ideal S2048x512 .bf16) (y : S1024x512.Idx) :
    k0_pay1 (F := Ideal) x w y = ∑ k : Fin 2048, x (ix2 (y 0) k) * w (ix2 k (y 1)) := by
  pointwise [k0_pay1]

theorem idx : ∀ t : Fin cfg0.N, win0_0.index t = ![(grid0.coords t 0).val, 0]
    ∧ win0_1.index t = ![0, 0 + (grid0.coords t 1).val]
    ∧ win0_2.index t = ![(grid0.coords t 0).val, (grid0.coords t 1).val] :=
  (by decide +kernel : ∀ t : Fin grid0.N, _)

/-- The whole result: rows of the first operand against the columns of the second from 0 on. -/
def G (X : FVec Ideal S8192x2048 .bf16) (W : FVec Ideal S2048x17456 .bf16) : FVec Ideal S8192x8192 .f32 := fun i =>
  ∑ k : Fin 2048, X (ix2 (i 0) k) * W (ix2 k ⟨0 + (i 1).val, by have : (i 1).val < 8192 := (i 1).isLt; omega⟩)

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨0 + 512 * (grid0.coords t 1).val + j.val, by have : (grid0.coords t 1).val < 16 := (grid0.coords t 1).isLt; omega⟩) := by
  unfold X0_1 Pipeline.Window.fill
  rw [dif_pos (moved0_1 t _)]
  blk_ext [iblk, idx t]

theorem point (c : Dev nD) (t : Fin cfg0.N) (y) : k0_pay1 (F := Ideal) (iblk m c 0 t) (X0_1 m c t) y
    = G (V m c main_v1) (V m c main_v2) (((cfg0.win 2).blk t).view.emb y) := by
  refine (pay_at _ _ _).trans ?_
  unfold G
  refine Finset.sum_congr rfl fun k _ => Ideal.mul_congr ?_ ((weight_at m c t k (y 1)).trans ?_) <;>
  blk_ext [iblk, idx t]

theorem final (c : Dev nD) : (dats m 0 c).arrAt 2 (cfgs 0).N = G (V m c main_v1) (V m c main_v2) := by
  refine (dats m 0 c).arrAt_eq_of_covers 2 _ (by decide +kernel) fun t _ y => ?_
  blk_simp
  rw [after0_2]; unfold outsAt0; frame_out
  exact point m c t y

/-- The region's second operand is the weight argument. -/
theorem entry_v2 (c : Dev nD) : V m c main_v2 = (m ((c : Thread nD τ).loc main_arg1) : FVec Ideal S2048x17456 .f32) := by
  funext i
  entry_read
  idx_vars i
  pointwise

/-- The reference's array is the same function of the two arguments. -/
theorem ref_eq (c : Dev nD) : G (V m c main_v1) (V m c main_v2) =
    Cert.ZhRefIdeal.Read.val_main_v2 (F := Ideal) (m ((c : Thread nD τ).loc main_arg0)) (m ((c : Thread nD τ).loc main_arg1)) := by
  rw [entry_v2]
  entry_read
  funext i
  idx_vars i
  open Cert.ZhRefIdeal.Read in
  pointwise [G, val_main_v2, val_main_v1, val_main_v0]

/-- The claim: both runs end with the same result. -/
theorem algebraic : Cert.algebraic_ZhIdeal_ZhRefIdeal := by
  pair_intro
  · run_from Cert.ZhIdeal.Value.run_blocks m g
  · run_from Cert.ZhRefIdeal.Value.run m' g'
    exact (Cert.ZhRefIdeal.Read.val_main_v2_eq _ _ ).trans ((final m c).trans (ref_eq m c)).symm

end Cert.ZhIdeal.Own

end
-- ==== Proof.DownValue.lean ====
module

public import proofs.«01_k».proof.Defs
public import proofs.«01_k».proof.Proof.Gen.DownIdeal.Value
public import proofs.«01_k».proof.Proof.Gen.DownRefIdeal.Read
public import proofs.«01_k».proof.Proof.Gen.DownRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownIdeal.Own

open Cert.DownIdeal Cert.DownIdeal.Gen

variable (m : (ℓ : Loc nD τ sig) → Buf (Elt Ideal) ℓ)

/-- What the body computes at row `y 0` and column `y 1` of its block. -/
theorem pay_at (x : Vec Ideal S1024x512 .f32) (g : Vec Ideal S1x1x512 .f32) (a : Vec Ideal S1024x5632 .bf16)
    (w : Vec Ideal S5632x512 .bf16) (y : S1024x512.Idx) :
    k0_pay1 (F := Ideal) x g a w y = x y + g (ix3 0 0 (y 1)) * ∑ k : Fin 5632, a (ix2 (y 0) k) * w (ix2 k (y 1)) := by
  idx_vars y
  pointwise [k0_pay1]

theorem idx : ∀ t : Fin cfg0.N, win0_0.index t = ![(grid0.coords t 0).val, 0] ∧ win0_1.index t = ![0, (grid0.coords t 1).val]
    ∧ win0_2.index t = ![(grid0.coords t 0).val, (grid0.coords t 1).val]
    ∧ win0_3.index t = ![(grid0.coords t 0).val / 4, 0, (grid0.coords t 1).val]
    ∧ win0_4.index t = ![(grid0.coords t 0).val, (grid0.coords t 1).val] :=
  (by decide +kernel : ∀ t : Fin grid0.N, _)

/-- The whole result: the residual plus the sequence's gate times the product. Rows 4096 and on are the second sequence. -/
def G (A : FVec Ideal S8192x5632 .bf16) (W : FVec Ideal S5632x2048 .bf16) (X : FVec Ideal S8192x2048 .f32)
    (g : FVec Ideal S2x1x2048 .f32) : FVec Ideal S8192x2048 .f32 := fun i =>
  X (ix2 (i 0) (i 1)) + g (ix3 ⟨(i 0).val / 4096, by have : (i 0).val < 8192 := (i 0).isLt; omega⟩ 0 (i 1))
    * ∑ k : Fin 5632, A (ix2 (i 0) k) * W (ix2 k (i 1))

theorem point (c : Dev nD) (t : Fin cfg0.N) (y) : k0_pay1 (F := Ideal) (iblk m c 2 t) (iblk m c 3 t) (iblk m c 0 t) (iblk m c 1 t) y
    = G (V m c main_v1) (V m c main_v2) (V m c main_v3) (V m c main_v4) (((cfg0.win 4).blk t).view.emb y) := by
  refine (pay_at _ _ _ _ _).trans ?_
  unfold G
  refine congrArg₂ (fun a b : EReal => a + b) ?_ (Ideal.mul_congr ?_ (Finset.sum_congr rfl fun k _ => Ideal.mul_congr ?_ ?_)) <;>
  blk_ext [iblk, idx t]

theorem final (c : Dev nD) : (dats m 0 c).arrAt 4 (cfgs 0).N = G (V m c main_v1) (V m c main_v2) (V m c main_v3) (V m c main_v4) := by
  refine (dats m 0 c).arrAt_eq_of_covers 4 _ (by decide +kernel) fun t _ y => ?_
  blk_simp
  rw [after0_4]; frame_out
  exact point m c t y

/-- The region's operand `main_v1` reads the argument by sequence and position. -/
theorem entry_v1 (c : Dev nD) (a : Fin 8192) (b : Fin 5632) : (V m c main_v1 : FVec Ideal S8192x5632 .bf16) (ix2 a b) =
    (m ((c : Thread nD τ).loc main_arg0) : FVec Ideal S2x4096x5632 .f32) (ix3 ⟨a.val / 4096, by omega⟩ ⟨a.val % 4096, by omega⟩ b) := by
  entry_read
  pointwise

/-- The region's operand `main_v2` is the argument. -/
theorem entry_v2 (c : Dev nD) : V m c main_v2 = (m ((c : Thread nD τ).loc main_arg1) : FVec Ideal S5632x2048 .f32) := by
  funext i
  entry_read
  idx_vars i
  pointwise

/-- The region's operand `main_v3` reads the argument by sequence and position. -/
theorem entry_v3 (c : Dev nD) (a : Fin 8192) (b : Fin 2048) : (V m c main_v3 : FVec Ideal S8192x2048 .f32) (ix2 a b) =
    (m ((c : Thread nD τ).loc main_arg2) : FVec Ideal S2x4096x2048 .f32) (ix3 ⟨a.val / 4096, by omega⟩ ⟨a.val % 4096, by omega⟩ b) := by
  entry_read
  pointwise

/-- The region's operand `main_v4` is the gates' rows. -/
theorem entry_v4 (c : Dev nD) (a : Fin 2) (b : Fin 2048) : (V m c main_v4 : FVec Ideal S2x1x2048 .f32) (ix3 a 0 b) =
    (m ((c : Thread nD τ).loc main_arg3) : FVec Ideal S2x2048 .f32) (ix2 a b) := by
  entry_read
  pointwise

/-- The reference's array is the same function of the arguments. -/
theorem ref_eq (c : Dev nD) : G (V m c main_v1) (V m c main_v2) (V m c main_v3) (V m c main_v4) =
    Cert.DownRefIdeal.Read.val_main_v5 (F := Ideal) (m ((c : Thread nD τ).loc main_arg0)) (m ((c : Thread nD τ).loc main_arg1))
      (m ((c : Thread nD τ).loc main_arg2)) (m ((c : Thread nD τ).loc main_arg3)) := by
  rw [entry_v2]
  funext i
  idx_vars i
  open Cert.DownRefIdeal.Read in
  pointwise [G, val_main_v5, val_main_v4, val_main_v3, val_main_v2, val_main_v1, val_main_v0]
  exact congrArg₂ (fun a b : EReal => a + b) (entry_v3 m c _ _) (Ideal.mul_congr (entry_v4 m c _ _)
    (Finset.sum_congr rfl fun k _ => Ideal.mul_congr (entry_v1 m c _ _) rfl))

/-- The claim: both runs end with the same result. -/
theorem algebraic : Cert.algebraic_DownIdeal_DownRefIdeal := by
  pair_intro
  · run_from Cert.DownIdeal.Value.run_blocks m g
  · run_from Cert.DownRefIdeal.Value.run m' g'
    exact (Cert.DownRefIdeal.Read.val_main_v5_eq _ _ _ _ ).trans ((final m c).trans (ref_eq m c)).symm

end Cert.DownIdeal.Own

end
-- ==== Proof.MergeValue.lean ====
module

public import proofs.«01_k».proof.Defs
public import proofs.«01_k».proof.Proof.Gen.MergeIdeal.Value
public import proofs.«01_k».proof.Proof.Gen.MergeRefIdeal.Read
public import proofs.«01_k».proof.Proof.Gen.MergeRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Own

open Cert.MergeIdeal Cert.MergeIdeal.Gen

variable (m : (ℓ : Loc nD τ sig) → Buf (Elt Ideal) ℓ)

/-- One element of the merge: two products, each through its own logistic gate. -/
def merged (xa wa xb wb : Fin 2048 → EReal) (ga gb : EReal) : EReal :=
  Ideal.div 1 (1 + Ideal.exp (0 - ga)) * (∑ k, xa k * wa k) + Ideal.div 1 (1 + Ideal.exp (0 - gb)) * ∑ k, xb k * wb k

/-- What the body computes at row `y 0` and column `y 1` of its block. -/
theorem pay_at (xa : Vec Ideal S1024x2048 .bf16) (wa : Vec Ideal S2048x512 .bf16) (xb : Vec Ideal S1024x2048 .bf16)
    (wb : Vec Ideal S2048x512 .bf16) (ga gb : Vec Ideal S1024x512 .f32) (y : S1024x512.Idx) :
    k0_pay1 (F := Ideal) xa wa xb wb ga gb y = merged (fun k => xa (ix2 (y 0) k)) (fun k => wa (ix2 k (y 1)))
      (fun k => xb (ix2 (y 0) k)) (fun k => wb (ix2 k (y 1))) (ga y) (gb y) := by
  pointwise [k0_pay1, merged]

theorem idx : ∀ t : Fin cfg0.N, win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, (grid0.coords t 1).val]
    ∧ win0_5.index t = ![(grid0.coords t 0).val, 4 + (grid0.coords t 1).val]
    ∧ win0_6.index t = ![(grid0.coords t 0).val, (grid0.coords t 1).val] :=
  (by decide +kernel : ∀ t : Fin grid0.N, _)

/-- The whole result, from the region's operand arrays: the gates of the two branches lie side by side in `g`. -/
def G (A B : FVec Ideal S8192x2048 .bf16) (Wa Wb : FVec Ideal S2048x2048 .bf16) (g : FVec Ideal S8192x4096 .f32) :
    FVec Ideal S8192x2048 .bf16 := fun i =>
  merged (fun k => A (ix2 (i 0) k)) (fun k => Wa (ix2 k (i 1))) (fun k => B (ix2 (i 0) k)) (fun k => Wb (ix2 k (i 1)))
    (g (ix2 (i 0) ⟨(i 1).val, lt_trans (show (i 1).val < 2048 from (i 1).isLt) (by decide)⟩))
    (g (ix2 (i 0) ⟨2048 + (i 1).val, by have : (i 1).val < 2048 := (i 1).isLt; omega⟩))

theorem point (c : Dev nD) (t : Fin cfg0.N) (y) :
    k0_pay1 (F := Ideal) (iblk m c 0 t) (iblk m c 2 t) (iblk m c 1 t) (iblk m c 3 t) (iblk m c 4 t) (iblk m c 5 t) y
    = G (V m c main_v1) (V m c main_v3) (V m c main_v4) (V m c main_v5) (V m c main_v6) (((cfg0.win 6).blk t).view.emb y) := by
  refine (pay_at _ _ _ _ _ _ _).trans ?_
  unfold G merged
  refine congrArg₂ (fun a b : EReal => a + b) (Ideal.mul_congr (congrArg (fun a : EReal => Ideal.div 1 (1 + Ideal.exp (0 - a))) ?_) ?_)
    (Ideal.mul_congr (congrArg (fun a : EReal => Ideal.div 1 (1 + Ideal.exp (0 - a))) ?_) ?_)
  · blk_ext [iblk, idx t]
  · refine Finset.sum_congr rfl fun k _ => Ideal.mul_congr ?_ ?_ <;> blk_ext [iblk, idx t]
  · blk_ext [iblk, idx t]
  · refine Finset.sum_congr rfl fun k _ => Ideal.mul_congr ?_ ?_ <;> blk_ext [iblk, idx t]

theorem final (c : Dev nD) : (dats m 0 c).arrAt 6 (cfgs 0).N
    = G (V m c main_v1) (V m c main_v3) (V m c main_v4) (V m c main_v5) (V m c main_v6) := by
  refine (dats m 0 c).arrAt_eq_of_covers 6 _ (by decide +kernel) fun t _ y => ?_
  blk_simp
  rw [after0_6]; frame_out
  exact point m c t y

/-- The region's operand `main_v1` reads the argument by sequence and position. -/
theorem entry_v1 (c : Dev nD) (a : Fin 8192) (b : Fin 2048) : (V m c main_v1 : FVec Ideal S8192x2048 .bf16) (ix2 a b) =
    (m ((c : Thread nD τ).loc main_arg0) : FVec Ideal S2x4096x2048 .f32) (ix3 ⟨a.val / 4096, by omega⟩ ⟨a.val % 4096, by omega⟩ b) := by
  entry_read
  pointwise

/-- The region's operand `main_v3` reads the argument by sequence and position. -/
theorem entry_v3 (c : Dev nD) (a : Fin 8192) (b : Fin 2048) : (V m c main_v3 : FVec Ideal S8192x2048 .bf16) (ix2 a b) =
    (m ((c : Thread nD τ).loc main_arg1) : FVec Ideal S2x4096x2048 .f32) (ix3 ⟨a.val / 4096, by omega⟩ ⟨a.val % 4096, by omega⟩ b) := by
  entry_read
  pointwise

/-- The region's operand `main_v4` is the argument. -/
theorem entry_v4 (c : Dev nD) : V m c main_v4 = (m ((c : Thread nD τ).loc main_arg2) : FVec Ideal S2048x2048 .f32) := by
  funext i
  entry_read
  idx_vars i
  pointwise

/-- The region's operand `main_v5` is the argument. -/
theorem entry_v5 (c : Dev nD) : V m c main_v5 = (m ((c : Thread nD τ).loc main_arg3) : FVec Ideal S2048x2048 .f32) := by
  funext i
  entry_read
  idx_vars i
  pointwise

/-- The region's operand `main_v6` reads the argument by sequence and position. -/
theorem entry_v6 (c : Dev nD) (a : Fin 8192) (b : Fin 4096) : (V m c main_v6 : FVec Ideal S8192x4096 .f32) (ix2 a b) =
    (m ((c : Thread nD τ).loc main_arg4) : FVec Ideal S2x4096x4096 .f32) (ix3 ⟨a.val / 4096, by omega⟩ ⟨a.val % 4096, by omega⟩ b) := by
  entry_read
  pointwise

/-- The reference's array is the same function of the arguments. -/
theorem ref_eq (c : Dev nD) : G (V m c main_v1) (V m c main_v3) (V m c main_v4) (V m c main_v5) (V m c main_v6) =
    Cert.MergeRefIdeal.Read.val_main_v20 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  rw [entry_v4, entry_v5]
  funext i
  idx_vars i
  open Cert.MergeRefIdeal.Read in
  pointwise [G, merged, zero_sub, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  have gate : ∀ {a b : EReal}, a = b → Ideal.div 1 (1 + Ideal.exp (-a)) = Ideal.div 1 (1 + Ideal.exp (-b)) := fun h => by rw [h]
  exact congrArg₂ (fun a b : EReal => a + b)
    (Ideal.mul_congr (gate (entry_v6 m c _ _)) (Finset.sum_congr rfl fun k _ => Ideal.mul_congr (entry_v1 m c _ _) rfl))
    (Ideal.mul_congr (gate (entry_v6 m c _ _)) (Finset.sum_congr rfl fun k _ => Ideal.mul_congr (entry_v3 m c _ _) rfl))

/-- The claim: both runs end with the same result. -/
theorem algebraic : Cert.algebraic_MergeIdeal_MergeRefIdeal := by
  pair_intro
  · run_from Cert.MergeIdeal.Value.run_blocks m g
  · run_from Cert.MergeRefIdeal.Value.run m' g'
    exact (Cert.MergeRefIdeal.Read.val_main_v20_eq _ _ _ _ _ ).trans ((final m c).trans (ref_eq m c)).symm

end Cert.MergeIdeal.Own

end
-- ==== Proof.OutValue.lean ====
module

public import proofs.«01_k».proof.Defs
public import proofs.«01_k».proof.Proof.Gen.OutIdeal.Value
public import proofs.«01_k».proof.Proof.Gen.OutRefIdeal.Read
public import proofs.«01_k».proof.Proof.Gen.OutRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutIdeal.Own

open Cert.OutIdeal Cert.OutIdeal.Gen

variable (m : (ℓ : Loc nD τ sig) → Buf (Elt Ideal) ℓ)

/-- What the body computes at row `y 0` and column `y 1` of its block. -/
theorem pay_at (x : Vec Ideal S1024x512 .f32) (g : Vec Ideal S1x1x512 .f32) (a : Vec Ideal S1024x2048 .bf16)
    (w : Vec Ideal S2048x512 .bf16) (y : S1024x512.Idx) :
    k0_pay1 (F := Ideal) x g a w y = x y + g (ix3 0 0 (y 1)) * ∑ k : Fin 2048, a (ix2 (y 0) k) * w (ix2 k (y 1)) := by
  idx_vars y
  pointwise [k0_pay1]

theorem idx : ∀ t : Fin cfg0.N, win0_0.index t = ![(grid0.coords t 0).val, 0] ∧ win0_1.index t = ![0, (grid0.coords t 1).val]
    ∧ win0_2.index t = ![(grid0.coords t 0).val, (grid0.coords t 1).val]
    ∧ win0_3.index t = ![(grid0.coords t 0).val / 4, 0, (grid0.coords t 1).val]
    ∧ win0_4.index t = ![(grid0.coords t 0).val, (grid0.coords t 1).val] :=
  (by decide +kernel : ∀ t : Fin grid0.N, _)

/-- The whole result: the residual plus the sequence's gate times the product. Rows 4096 and on are the second sequence. -/
def G (A : FVec Ideal S8192x2048 .bf16) (W : FVec Ideal S2048x2048 .bf16) (X : FVec Ideal S8192x2048 .f32)
    (g : FVec Ideal S2x1x2048 .f32) : FVec Ideal S8192x2048 .f32 := fun i =>
  X (ix2 (i 0) (i 1)) + g (ix3 ⟨(i 0).val / 4096, by have : (i 0).val < 8192 := (i 0).isLt; omega⟩ 0 (i 1))
    * ∑ k : Fin 2048, A (ix2 (i 0) k) * W (ix2 k (i 1))

theorem point (c : Dev nD) (t : Fin cfg0.N) (y) : k0_pay1 (F := Ideal) (iblk m c 2 t) (iblk m c 3 t) (iblk m c 0 t) (iblk m c 1 t) y
    = G (V m c main_v1) (V m c main_v2) (V m c main_v3) (V m c main_v4) (((cfg0.win 4).blk t).view.emb y) := by
  refine (pay_at _ _ _ _ _).trans ?_
  unfold G
  refine congrArg₂ (fun a b : EReal => a + b) ?_ (Ideal.mul_congr ?_ (Finset.sum_congr rfl fun k _ => Ideal.mul_congr ?_ ?_)) <;>
  blk_ext [iblk, idx t]

theorem final (c : Dev nD) : (dats m 0 c).arrAt 4 (cfgs 0).N = G (V m c main_v1) (V m c main_v2) (V m c main_v3) (V m c main_v4) := by
  refine (dats m 0 c).arrAt_eq_of_covers 4 _ (by decide +kernel) fun t _ y => ?_
  blk_simp
  rw [after0_4]; frame_out
  exact point m c t y

/-- The region's operand `main_v1` reads the argument by sequence and position. -/
theorem entry_v1 (c : Dev nD) (a : Fin 8192) (b : Fin 2048) : (V m c main_v1 : FVec Ideal S8192x2048 .bf16) (ix2 a b) =
    (m ((c : Thread nD τ).loc main_arg0) : FVec Ideal S2x4096x2048 .f32) (ix3 ⟨a.val / 4096, by omega⟩ ⟨a.val % 4096, by omega⟩ b) := by
  entry_read
  pointwise

/-- The region's operand `main_v2` is the argument. -/
theorem entry_v2 (c : Dev nD) : V m c main_v2 = (m ((c : Thread nD τ).loc main_arg1) : FVec Ideal S2048x2048 .f32) := by
  funext i
  entry_read
  idx_vars i
  pointwise

/-- The region's operand `main_v3` reads the argument by sequence and position. -/
theorem entry_v3 (c : Dev nD) (a : Fin 8192) (b : Fin 2048) : (V m c main_v3 : FVec Ideal S8192x2048 .f32) (ix2 a b) =
    (m ((c : Thread nD τ).loc main_arg2) : FVec Ideal S2x4096x2048 .f32) (ix3 ⟨a.val / 4096, by omega⟩ ⟨a.val % 4096, by omega⟩ b) := by
  entry_read
  pointwise

/-- The region's operand `main_v4` is the gates' rows. -/
theorem entry_v4 (c : Dev nD) (a : Fin 2) (b : Fin 2048) : (V m c main_v4 : FVec Ideal S2x1x2048 .f32) (ix3 a 0 b) =
    (m ((c : Thread nD τ).loc main_arg3) : FVec Ideal S2x2048 .f32) (ix2 a b) := by
  entry_read
  pointwise

/-- The reference's array is the same function of the arguments. -/
theorem ref_eq (c : Dev nD) : G (V m c main_v1) (V m c main_v2) (V m c main_v3) (V m c main_v4) =
    Cert.OutRefIdeal.Read.val_main_v5 (F := Ideal) (m ((c : Thread nD τ).loc main_arg0)) (m ((c : Thread nD τ).loc main_arg1))
      (m ((c : Thread nD τ).loc main_arg2)) (m ((c : Thread nD τ).loc main_arg3)) := by
  rw [entry_v2]
  funext i
  idx_vars i
  open Cert.OutRefIdeal.Read in
  pointwise [G, val_main_v5, val_main_v4, val_main_v3, val_main_v2, val_main_v1, val_main_v0]
  exact congrArg₂ (fun a b : EReal => a + b) (entry_v3 m c _ _) (Ideal.mul_congr (entry_v4 m c _ _)
    (Finset.sum_congr rfl fun k _ => Ideal.mul_congr (entry_v1 m c _ _) rfl))

/-- The claim: both runs end with the same result. -/
theorem algebraic : Cert.algebraic_OutIdeal_OutRefIdeal := by
  pair_intro
  · run_from Cert.OutIdeal.Value.run_blocks m g
  · run_from Cert.OutRefIdeal.Value.run m' g'
    exact (Cert.OutRefIdeal.Read.val_main_v5_eq _ _ _ _ ).trans ((final m c).trans (ref_eq m c)).symm

end Cert.OutIdeal.Own

end
-- ==== Proof.GabValue.lean ====
module

public import proofs.«01_k».proof.Defs
public import proofs.«01_k».proof.Proof.Gen.GabIdeal.Value
public import proofs.«01_k».proof.Proof.Gen.GabRefIdeal.Read
public import proofs.«01_k».proof.Proof.Gen.GabRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GabIdeal.Own

open Cert.GabIdeal Cert.GabIdeal.Gen

variable (m : (ℓ : Loc nD τ sig) → Buf (Elt Ideal) ℓ)

/-- What the body computes at row `y 0` and column `y 1` of its block. -/
theorem pay_at (x : Vec Ideal S1024x2048 .bf16) (w : Vec Ideal S2048x512 .bf16) (y : S1024x512.Idx) :
    k0_pay1 (F := Ideal) x w y = ∑ k : Fin 2048, x (ix2 (y 0) k) * w (ix2 k (y 1)) := by
  pointwise [k0_pay1]

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The whole result: rows of the first operand against columns of the second. -/
def G (X : FVec Ideal S8192x2048 .bf16) (W : FVec Ideal S2048x4096 .bf16) : FVec Ideal S8192x4096 .f32 := fun i =>
  ∑ k : Fin 2048, X (ix2 (i 0) k) * W (ix2 k (i 1))

theorem point (c : Dev nD) (t : Fin cfg0.N) (y) : k0_pay1 (F := Ideal) (iblk m c 0 t) (iblk m c 1 t) y
    = G (V m c main_v1) (V m c main_v3) (((cfg0.win 2).blk t).view.emb y) := by
  refine (pay_at _ _ _).trans ?_
  unfold G
  refine Finset.sum_congr rfl fun k _ => Ideal.mul_congr ?_ ?_ <;>
  blk_ext [iblk, idx t]

theorem final (c : Dev nD) : (dats m 0 c).arrAt 2 (cfgs 0).N = G (V m c main_v1) (V m c main_v3) := by
  refine (dats m 0 c).arrAt_eq_of_covers 2 _ (by decide +kernel) fun t _ y => ?_
  blk_simp
  rw [after0_2]; frame_out
  exact point m c t y

/-- The region's second operand is the last columns of the weight. -/
theorem entry_v3 (c : Dev nD) : V m c main_v3 = (extractStridedSlice S2048x4096 ![0, 13360] (m ((c : Thread nD τ).loc main_arg1) : FVec Ideal S2048x17456 .f32) slices_S2048x17456_S2048x4096_0_13360 : FVec Ideal S2048x4096 .f32) := by
  funext i
  entry_read
  idx_vars i
  pointwise

/-- The reference's array is the same function of the two arguments. -/
theorem ref_eq (c : Dev nD) : G (V m c main_v1) (V m c main_v3) =
    Cert.GabRefIdeal.Read.val_main_v2 (F := Ideal) (m ((c : Thread nD τ).loc main_arg0)) (m ((c : Thread nD τ).loc main_arg1)) := by
  rw [entry_v3]
  entry_read
  funext i
  idx_vars i
  open Cert.GabRefIdeal.Read in
  pointwise [G, val_main_v2, val_main_v1, val_main_v0]

/-- The claim: both runs end with the same result. -/
theorem algebraic : Cert.algebraic_GabIdeal_GabRefIdeal := by
  pair_intro
  · run_from Cert.GabIdeal.Value.run_blocks m g
  · run_from Cert.GabRefIdeal.Value.run m' g'
    exact (Cert.GabRefIdeal.Read.val_main_v2_eq _ _ ).trans ((final m c).trans (ref_eq m c)).symm

end Cert.GabIdeal.Own

end
-- ==== Proof.HeadNorm.lean ====
module

public import Idealize.ShloMosaic.Lib.Pointwise

@[expose] public section

noncomputable section

open Idealize.ShloMosaic

namespace Cert.Own

/-- One lane of a head of 128 lanes, divided by the root of the mean square (with the small constant added) and scaled. -/
def headNorm (z : Fin 128 → EReal) (g : EReal) (l : Fin 128) : EReal :=
  z l * Ideal.rsqrt (Ideal.div (∑ k, z k * z k) (Ideal.ofBits .f32 1124073472#32) + Ideal.ofBits .f32 897988541#32) * g

theorem headNorm_congr {z z' : Fin 128 → EReal} {g g' : EReal} {l l' : Fin 128} (hz : ∀ e, z e = z' e) (hg : g = g') (hl : l = l') :
    headNorm z g l = headNorm z' g' l' := by
  subst hg hl; rw [funext hz]

end Cert.Own

end
-- ==== Proof.QValue.lean ====
module

public import proofs.«01_k».proof.Defs
public import proofs.«01_k».proof.Proof.Gen.QIdeal.Value
public import proofs.«01_k».proof.Proof.Gen.QRefIdeal.Read
public import proofs.«01_k».proof.Proof.Gen.QRefIdeal.Run
public import proofs.«01_k».proof.Proof.HeadNorm
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QIdeal.Own

open Cert.QIdeal Cert.QIdeal.Gen

variable (m : (ℓ : Loc nD τ sig) → Buf (Elt Ideal) ℓ)

/-- Head `n` of a block of four, at row `y 0` and lane `y 1`: the product's lanes, normalised. -/
def tile (x : Vec Ideal S1024x2048 .bf16) (w : Vec Ideal S2048x512 .bf16) (g : Vec Ideal S1x128 .f32) (n : Fin 4) (y : S1024x128.Idx) :
    EReal :=
  Cert.Own.headNorm (fun e => ∑ k : Fin 2048, x (ix2 (y 0) k) * w (ix2 k ⟨128 * n.val + e.val, by omega⟩)) (g (ix2 0 (y 1))) (y 1)

theorem tile0_at (x : Vec Ideal S1024x2048 .bf16) (w : Vec Ideal S2048x512 .bf16) (g : Vec Ideal S1x128 .f32) (y : S1024x128.Idx) :
    k0_pay4 (F := Ideal) x w g y = tile x w g 0 y := by
  idx_vars y
  pointwise [k0_pay4, k0_pay3, tile, Cert.Own.headNorm]

theorem tile1_at (x : Vec Ideal S1024x2048 .bf16) (w : Vec Ideal S2048x512 .bf16) (g : Vec Ideal S1x128 .f32) (y : S1024x128.Idx) :
    k0_pay5 (F := Ideal) x w g y = tile x w g 1 y := by
  idx_vars y
  pointwise [k0_pay5, k0_pay3, tile, Cert.Own.headNorm]

theorem tile2_at (x : Vec Ideal S1024x2048 .bf16) (w : Vec Ideal S2048x512 .bf16) (g : Vec Ideal S1x128 .f32) (y : S1024x128.Idx) :
    k0_pay1 (F := Ideal) (k0_pay3 x w) g y = tile x w g 2 y := by
  idx_vars y
  pointwise [k0_pay1, k0_pay3, tile, Cert.Own.headNorm]

theorem tile3_at (x : Vec Ideal S1024x2048 .bf16) (w : Vec Ideal S2048x512 .bf16) (g : Vec Ideal S1x128 .f32) (y : S1024x128.Idx) :
    k0_pay2 (F := Ideal) (k0_pay3 x w) g y = tile x w g 3 y := by
  idx_vars y
  pointwise [k0_pay2, k0_pay3, tile, Cert.Own.headNorm]

theorem idx : ∀ t : Fin cfg0.N, win0_0.index t = ![(grid0.coords t 0).val, 0]
    ∧ win0_1.index t = ![0, 16 + (grid0.coords t 1).val] ∧ win0_2.index t = ![0, 0]
    ∧ win0_3.index t = ![(grid0.coords t 0).val, (grid0.coords t 1).val] :=
  (by decide +kernel : ∀ t : Fin grid0.N, _)

/-- The whole result: rows against the columns from 8192 on, normalised head by head. -/
def G (X : FVec Ideal S8192x2048 .bf16) (W : FVec Ideal S2048x17456 .bf16) (g : FVec Ideal S1x128 .f32) :
    FVec Ideal S8192x2048 .bf16 := fun i =>
  Cert.Own.headNorm (fun e => ∑ k : Fin 2048, X (ix2 (i 0) k)
      * W (ix2 k ⟨8192 + ((i 1).val / 128 * 128 + e.val), by have : (i 1).val < 2048 := (i 1).isLt; omega⟩))
    (g (ix2 0 ⟨(i 1).val % 128, by omega⟩)) ⟨(i 1).val % 128, by omega⟩

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨8192 + 512 * (grid0.coords t 1).val + j.val, by have : (grid0.coords t 1).val < 4 := (grid0.coords t 1).isLt; omega⟩) := by
  unfold X0_1 Pipeline.Window.fill
  rw [dif_pos (moved0_1 t _)]
  blk_ext [iblk, idx t]

/-- Head `n` of a point's block is the whole result there. -/
theorem tile_eq (c : Dev nD) (t : Fin cfg0.N) (n : Fin 4) (x : S1024x128.Idx) (y : ((cfg0.win 3).xblock (cfg0.grid.coords t)).Idx)
    (h0 : (y 0).val = (x 0).val) (h1 : (y 1).val = 128 * n.val + (x 1).val) :
    tile (iblk m c 0 t) (X0_1 m c t) (iblk m c 2 t) n x
      = G (V m c main_v1) (V m c main_v2) (V m c main_v3) (((cfg0.win 3).blk t).view.emb y) := by
  have hx : (x 1).val < 128 := (x 1).isLt
  unfold tile G
  refine Cert.Own.headNorm_congr (fun e => Finset.sum_congr rfl fun k _ => Ideal.mul_congr ?_ ((weight_at m c t k _).trans ?_)) ?_ (Fin.ext ?_)
  · blk_ext [iblk, idx t]
  · blk_ext [iblk, idx t]
  · blk_ext [iblk, idx t]
  · blk_simp [idx t]
    show (x 1).val = ((grid0.coords t 1).val * 512 + (y 1).val) % 128
    omega

theorem point (c : Dev nD) (t : Fin cfg0.N) (y : ((cfg0.win 3).xblock (cfg0.grid.coords t)).Idx) :
    outsAt0 m c t y = G (V m c main_v1) (V m c main_v2) (V m c main_v3) (((cfg0.win 3).blk t).view.emb y) := by
  unfold outsAt0; frame_out
  canon_tiles x h
  · exact (tile3_at _ _ _ x).trans (tile_eq m c t 3 x y (by omega) (by omega))
  · exact (tile2_at _ _ _ x).trans (tile_eq m c t 2 x y (by omega) (by omega))
  · exact (tile1_at _ _ _ x).trans (tile_eq m c t 1 x y (by omega) (by omega))
  · exact (tile0_at _ _ _ x).trans (tile_eq m c t 0 x y (by omega) (by omega))

theorem final (c : Dev nD) : (dats m 0 c).arrAt 3 (cfgs 0).N = G (V m c main_v1) (V m c main_v2) (V m c main_v3) := by
  refine (dats m 0 c).arrAt_eq_of_covers 3 _ (by decide +kernel) fun t _ y => ?_
  blk_simp
  rw [after0_3]
  exact point m c t y

/-- The region's operand `main_v1` reads the argument by sequence and position. -/
theorem entry_v1 (c : Dev nD) (a : Fin 8192) (b : Fin 2048) : (V m c main_v1 : FVec Ideal S8192x2048 .bf16) (ix2 a b) =
    (m ((c : Thread nD τ).loc main_arg0) : FVec Ideal S2x4096x2048 .f32) (ix3 ⟨a.val / 4096, by omega⟩ ⟨a.val % 4096, by omega⟩ b) := by
  entry_read
  pointwise

/-- The region's second operand is the weight argument. -/
theorem entry_v2 (c : Dev nD) : V m c main_v2 = (m ((c : Thread nD τ).loc main_arg1) : FVec Ideal S2048x17456 .f32) := by
  funext i
  entry_read
  idx_vars i
  pointwise

/-- The region's third operand is the row of gains. -/
theorem entry_v3 (c : Dev nD) (b : Fin 128) : (V m c main_v3 : FVec Ideal S1x128 .f32) (ix2 0 b) =
    (m ((c : Thread nD τ).loc main_arg2) : FVec Ideal S128 .f32) (ix1 b) := by
  entry_read
  pointwise

/-- The reference's array is the same function of the arguments. -/
theorem ref_eq (c : Dev nD) : G (V m c main_v1) (V m c main_v2) (V m c main_v3) =
    Cert.QRefIdeal.Read.val_main_v17 (F := Ideal) (m ((c : Thread nD τ).loc main_arg0)) (m ((c : Thread nD τ).loc main_arg1))
      (m ((c : Thread nD τ).loc main_arg2)) := by
  rw [entry_v2]
  funext i
  idx_vars i
  unfold G
  refine (Cert.Own.headNorm_congr (fun e => Finset.sum_congr rfl fun k _ => Ideal.mul_congr (entry_v1 m c _ _) rfl) (entry_v3 m c _) rfl).trans ?_
  unfold Cert.Own.headNorm
  open Cert.QRefIdeal.Read in
  pointwise [Nat.div_add_mod', val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The claim: both runs end with the same result. -/
theorem algebraic : Cert.algebraic_QIdeal_QRefIdeal := by
  pair_intro
  · run_from Cert.QIdeal.Value.run_blocks m g
  · run_from Cert.QRefIdeal.Value.run m' g'
    exact (Cert.QRefIdeal.Read.val_main_v17_eq _ _ _ ).trans ((final m c).trans (ref_eq m c)).symm

end Cert.QIdeal.Own

end
-- ==== Proof.KcValue.lean ====
module

public import proofs.«01_k».proof.Defs
public import proofs.«01_k».proof.Proof.Gen.KcIdeal.Value
public import proofs.«01_k».proof.Proof.Gen.KcRefIdeal.Read
public import proofs.«01_k».proof.Proof.Gen.KcRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KcIdeal.Own

open Cert.KcIdeal Cert.KcIdeal.Gen

variable (m : (ℓ : Loc nD τ sig) → Buf (Elt Ideal) ℓ)

/-- What the body computes at row `y 0` and column `y 1` of its block. -/
theorem pay_at (x : Vec Ideal S1024x2048 .bf16) (w : Vec Ideal S2048x512 .bf16) (y : S1024x512.Idx) :
    k0_pay1 (F := Ideal) x w y = ∑ k : Fin 2048, x (ix2 (y 0) k) * w (ix2 k (y 1)) := by
  pointwise [k0_pay1]

theorem idx : ∀ t : Fin cfg0.N, win0_0.index t = ![(grid0.coords t 0).val, 0]
    ∧ win0_1.index t = ![0, 20 + (grid0.coords t 1).val]
    ∧ win0_2.index t = ![(grid0.coords t 0).val, (grid0.coords t 1).val] :=
  (by decide +kernel : ∀ t : Fin grid0.N, _)

/-- The whole result: rows of the first operand against the columns of the second from 10240 on. -/
def G (X : FVec Ideal S8192x2048 .bf16) (W : FVec Ideal S2048x17456 .bf16) : FVec Ideal S8192x512 .f32 := fun i =>
  ∑ k : Fin 2048, X (ix2 (i 0) k) * W (ix2 k ⟨10240 + (i 1).val, by have : (i 1).val < 512 := (i 1).isLt; omega⟩)

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨10240 + 512 * (grid0.coords t 1).val + j.val, by have : (grid0.coords t 1).val < 1 := (grid0.coords t 1).isLt; omega⟩) := by
  unfold X0_1 Pipeline.Window.fill
  rw [dif_pos (moved0_1 t _)]
  blk_ext [iblk, idx t]

theorem point (c : Dev nD) (t : Fin cfg0.N) (y) : k0_pay1 (F := Ideal) (iblk m c 0 t) (X0_1 m c t) y
    = G (V m c main_v1) (V m c main_v2) (((cfg0.win 2).blk t).view.emb y) := by
  refine (pay_at _ _ _).trans ?_
  unfold G
  refine Finset.sum_congr rfl fun k _ => Ideal.mul_congr ?_ ((weight_at m c t k (y 1)).trans ?_) <;>
  blk_ext [iblk, idx t]

theorem final (c : Dev nD) : (dats m 0 c).arrAt 2 (cfgs 0).N = G (V m c main_v1) (V m c main_v2) := by
  refine (dats m 0 c).arrAt_eq_of_covers 2 _ (by decide +kernel) fun t _ y => ?_
  blk_simp
  rw [after0_2]; unfold outsAt0; frame_out
  exact point m c t y

/-- The region's second operand is the weight argument. -/
theorem entry_v2 (c : Dev nD) : V m c main_v2 = (m ((c : Thread nD τ).loc main_arg1) : FVec Ideal S2048x17456 .f32) := by
  funext i
  entry_read
  idx_vars i
  pointwise

/-- The reference's array is the same function of the two arguments. -/
theorem ref_eq (c : Dev nD) : G (V m c main_v1) (V m c main_v2) =
    Cert.KcRefIdeal.Read.val_main_v2 (F := Ideal) (m ((c : Thread nD τ).loc main_arg0)) (m ((c : Thread nD τ).loc main_arg1)) := by
  rw [entry_v2]
  entry_read
  funext i
  idx_vars i
  open Cert.KcRefIdeal.Read in
  pointwise [G, val_main_v2, val_main_v1, val_main_v0]

/-- The claim: both runs end with the same result. -/
theorem algebraic : Cert.algebraic_KcIdeal_KcRefIdeal := by
  pair_intro
  · run_from Cert.KcIdeal.Value.run_blocks m g
  · run_from Cert.KcRefIdeal.Value.run m' g'
    exact (Cert.KcRefIdeal.Read.val_main_v2_eq _ _ ).trans ((final m c).trans (ref_eq m c)).symm

end Cert.KcIdeal.Own

end
-- ==== Proof.VcValue.lean ====
module

public import proofs.«01_k».proof.Defs
public import proofs.«01_k».proof.Proof.Gen.VcIdeal.Value
public import proofs.«01_k».proof.Proof.Gen.VcRefIdeal.Read
public import proofs.«01_k».proof.Proof.Gen.VcRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.VcIdeal.Own

open Cert.VcIdeal Cert.VcIdeal.Gen

variable (m : (ℓ : Loc nD τ sig) → Buf (Elt Ideal) ℓ)

/-- What the body computes at row `y 0` and column `y 1` of its block. -/
theorem pay_at (x : Vec Ideal S1024x2048 .bf16) (w : Vec Ideal S2048x512 .bf16) (y : S1024x512.Idx) :
    k0_pay1 (F := Ideal) x w y = ∑ k : Fin 2048, x (ix2 (y 0) k) * w (ix2 k (y 1)) := by
  pointwise [k0_pay1]

theorem idx : ∀ t : Fin cfg0.N, win0_0.index t = ![(grid0.coords t 0).val, 0]
    ∧ win0_1.index t = ![0, 21 + (grid0.coords t 1).val]
    ∧ win0_2.index t = ![(grid0.coords t 0).val, (grid0.coords t 1).val] :=
  (by decide +kernel : ∀ t : Fin grid0.N, _)

/-- The whole result: rows of the first operand against the columns of the second from 10752 on. -/
def G (X : FVec Ideal S8192x2048 .bf16) (W : FVec Ideal S2048x17456 .bf16) : FVec Ideal S8192x512 .f32 := fun i =>
  ∑ k : Fin 2048, X (ix2 (i 0) k) * W (ix2 k ⟨10752 + (i 1).val, by have : (i 1).val < 512 := (i 1).isLt; omega⟩)

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨10752 + 512 * (grid0.coords t 1).val + j.val, by have : (grid0.coords t 1).val < 1 := (grid0.coords t 1).isLt; omega⟩) := by
  unfold X0_1 Pipeline.Window.fill
  rw [dif_pos (moved0_1 t _)]
  blk_ext [iblk, idx t]

theorem point (c : Dev nD) (t : Fin cfg0.N) (y) : k0_pay1 (F := Ideal) (iblk m c 0 t) (X0_1 m c t) y
    = G (V m c main_v1) (V m c main_v2) (((cfg0.win 2).blk t).view.emb y) := by
  refine (pay_at _ _ _).trans ?_
  unfold G
  refine Finset.sum_congr rfl fun k _ => Ideal.mul_congr ?_ ((weight_at m c t k (y 1)).trans ?_) <;>
  blk_ext [iblk, idx t]

theorem final (c : Dev nD) : (dats m 0 c).arrAt 2 (cfgs 0).N = G (V m c main_v1) (V m c main_v2) := by
  refine (dats m 0 c).arrAt_eq_of_covers 2 _ (by decide +kernel) fun t _ y => ?_
  blk_simp
  rw [after0_2]; unfold outsAt0; frame_out
  exact point m c t y

/-- The region's second operand is the weight argument. -/
theorem entry_v2 (c : Dev nD) : V m c main_v2 = (m ((c : Thread nD τ).loc main_arg1) : FVec Ideal S2048x17456 .f32) := by
  funext i
  entry_read
  idx_vars i
  pointwise

/-- The reference's array is the same function of the two arguments. -/
theorem ref_eq (c : Dev nD) : G (V m c main_v1) (V m c main_v2) =
    Cert.VcRefIdeal.Read.val_main_v2 (F := Ideal) (m ((c : Thread nD τ).loc main_arg0)) (m ((c : Thread nD τ).loc main_arg1)) := by
  rw [entry_v2]
  entry_read
  funext i
  idx_vars i
  open Cert.VcRefIdeal.Read in
  pointwise [G, val_main_v2, val_main_v1, val_main_v0]

/-- The claim: both runs end with the same result. -/
theorem algebraic : Cert.algebraic_VcIdeal_VcRefIdeal := by
  pair_intro
  · run_from Cert.VcIdeal.Value.run_blocks m g
  · run_from Cert.VcRefIdeal.Value.run m' g'
    exact (Cert.VcRefIdeal.Read.val_main_v2_eq _ _ ).trans ((final m c).trans (ref_eq m c)).symm

end Cert.VcIdeal.Own

end
-- ==== Proof.KsValue.lean ====
module

public import proofs.«01_k».proof.Defs
public import proofs.«01_k».proof.Proof.Gen.KsIdeal.Value
public import proofs.«01_k».proof.Proof.Gen.KsRefIdeal.Read
public import proofs.«01_k».proof.Proof.Gen.KsRefIdeal.Run
public import proofs.«01_k».proof.Proof.HeadNorm
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KsIdeal.Own

open Cert.KsIdeal Cert.KsIdeal.Gen

variable (m : (ℓ : Loc nD τ sig) → Buf (Elt Ideal) ℓ)

/-- Head `n` of a block of four, at row `y 0` and lane `y 1`: the product's lanes, normalised. -/
def tile (x : Vec Ideal S1024x2048 .bf16) (w : Vec Ideal S2048x512 .bf16) (g : Vec Ideal S1x128 .f32) (n : Fin 4) (y : S1024x128.Idx) :
    EReal :=
  Cert.Own.headNorm (fun e => ∑ k : Fin 2048, x (ix2 (y 0) k) * w (ix2 k ⟨128 * n.val + e.val, by omega⟩)) (g (ix2 0 (y 1))) (y 1)

theorem tile0_at (x : Vec Ideal S1024x2048 .bf16) (w : Vec Ideal S2048x512 .bf16) (g : Vec Ideal S1x128 .f32) (y : S1024x128.Idx) :
    k0_pay4 (F := Ideal) x w g y = tile x w g 0 y := by
  idx_vars y
  pointwise [k0_pay4, k0_pay3, tile, Cert.Own.headNorm]

theorem tile1_at (x : Vec Ideal S1024x2048 .bf16) (w : Vec Ideal S2048x512 .bf16) (g : Vec Ideal S1x128 .f32) (y : S1024x128.Idx) :
    k0_pay5 (F := Ideal) x w g y = tile x w g 1 y := by
  idx_vars y
  pointwise [k0_pay5, k0_pay3, tile, Cert.Own.headNorm]

theorem tile2_at (x : Vec Ideal S1024x2048 .bf16) (w : Vec Ideal S2048x512 .bf16) (g : Vec Ideal S1x128 .f32) (y : S1024x128.Idx) :
    k0_pay1 (F := Ideal) (k0_pay3 x w) g y = tile x w g 2 y := by
  idx_vars y
  pointwise [k0_pay1, k0_pay3, tile, Cert.Own.headNorm]

theorem tile3_at (x : Vec Ideal S1024x2048 .bf16) (w : Vec Ideal S2048x512 .bf16) (g : Vec Ideal S1x128 .f32) (y : S1024x128.Idx) :
    k0_pay2 (F := Ideal) (k0_pay3 x w) g y = tile x w g 3 y := by
  idx_vars y
  pointwise [k0_pay2, k0_pay3, tile, Cert.Own.headNorm]

theorem idx : ∀ t : Fin cfg0.N, win0_0.index t = ![(grid0.coords t 0).val, 0]
    ∧ win0_1.index t = ![0, 22 + (grid0.coords t 1).val] ∧ win0_2.index t = ![0, 0]
    ∧ win0_3.index t = ![(grid0.coords t 0).val, (grid0.coords t 1).val] :=
  (by decide +kernel : ∀ t : Fin grid0.N, _)

/-- The whole result: rows against the columns from 11264 on, normalised head by head. -/
def G (X : FVec Ideal S8192x2048 .bf16) (W : FVec Ideal S2048x17456 .bf16) (g : FVec Ideal S1x128 .f32) :
    FVec Ideal S8192x512 .f32 := fun i =>
  Cert.Own.headNorm (fun e => ∑ k : Fin 2048, X (ix2 (i 0) k)
      * W (ix2 k ⟨11264 + ((i 1).val / 128 * 128 + e.val), by have : (i 1).val < 512 := (i 1).isLt; omega⟩))
    (g (ix2 0 ⟨(i 1).val % 128, by omega⟩)) ⟨(i 1).val % 128, by omega⟩

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨11264 + 512 * (grid0.coords t 1).val + j.val, by have : (grid0.coords t 1).val < 1 := (grid0.coords t 1).isLt; omega⟩) := by
  unfold X0_1 Pipeline.Window.fill
  rw [dif_pos (moved0_1 t _)]
  blk_ext [iblk, idx t]

/-- Head `n` of a point's block is the whole result there. -/
theorem tile_eq (c : Dev nD) (t : Fin cfg0.N) (n : Fin 4) (x : S1024x128.Idx) (y : ((cfg0.win 3).xblock (cfg0.grid.coords t)).Idx)
    (h0 : (y 0).val = (x 0).val) (h1 : (y 1).val = 128 * n.val + (x 1).val) :
    tile (iblk m c 0 t) (X0_1 m c t) (iblk m c 2 t) n x
      = G (V m c main_v1) (V m c main_v2) (V m c main_v3) (((cfg0.win 3).blk t).view.emb y) := by
  have hx : (x 1).val < 128 := (x 1).isLt
  unfold tile G
  refine Cert.Own.headNorm_congr (fun e => Finset.sum_congr rfl fun k _ => Ideal.mul_congr ?_ ((weight_at m c t k _).trans ?_)) ?_ (Fin.ext ?_)
  · blk_ext [iblk, idx t]
  · blk_ext [iblk, idx t]
  · blk_ext [iblk, idx t]
  · blk_simp [idx t]
    show (x 1).val = (y 1).val % 128
    omega

theorem point (c : Dev nD) (t : Fin cfg0.N) (y : ((cfg0.win 3).xblock (cfg0.grid.coords t)).Idx) :
    outsAt0 m c t y = G (V m c main_v1) (V m c main_v2) (V m c main_v3) (((cfg0.win 3).blk t).view.emb y) := by
  unfold outsAt0; frame_out
  canon_tiles x h
  · exact (tile3_at _ _ _ x).trans (tile_eq m c t 3 x y (by omega) (by omega))
  · exact (tile2_at _ _ _ x).trans (tile_eq m c t 2 x y (by omega) (by omega))
  · exact (tile1_at _ _ _ x).trans (tile_eq m c t 1 x y (by omega) (by omega))
  · exact (tile0_at _ _ _ x).trans (tile_eq m c t 0 x y (by omega) (by omega))

theorem final (c : Dev nD) : (dats m 0 c).arrAt 3 (cfgs 0).N = G (V m c main_v1) (V m c main_v2) (V m c main_v3) := by
  refine (dats m 0 c).arrAt_eq_of_covers 3 _ (by decide +kernel) fun t _ y => ?_
  blk_simp
  rw [after0_3]
  exact point m c t y

/-- The region's operand `main_v1` reads the argument by sequence and position. -/
theorem entry_v1 (c : Dev nD) (a : Fin 8192) (b : Fin 2048) : (V m c main_v1 : FVec Ideal S8192x2048 .bf16) (ix2 a b) =
    (m ((c : Thread nD τ).loc main_arg0) : FVec Ideal S2x4096x2048 .f32) (ix3 ⟨a.val / 4096, by omega⟩ ⟨a.val % 4096, by omega⟩ b) := by
  entry_read
  pointwise

/-- The region's second operand is the weight argument. -/
theorem entry_v2 (c : Dev nD) : V m c main_v2 = (m ((c : Thread nD τ).loc main_arg1) : FVec Ideal S2048x17456 .f32) := by
  funext i
  entry_read
  idx_vars i
  pointwise

/-- The region's third operand is the row of gains. -/
theorem entry_v3 (c : Dev nD) (b : Fin 128) : (V m c main_v3 : FVec Ideal S1x128 .f32) (ix2 0 b) =
    (m ((c : Thread nD τ).loc main_arg2) : FVec Ideal S128 .f32) (ix1 b) := by
  entry_read
  pointwise

/-- The reference's array is the same function of the arguments. -/
theorem ref_eq (c : Dev nD) : G (V m c main_v1) (V m c main_v2) (V m c main_v3) =
    Cert.KsRefIdeal.Read.val_main_v16 (F := Ideal) (m ((c : Thread nD τ).loc main_arg0)) (m ((c : Thread nD τ).loc main_arg1))
      (m ((c : Thread nD τ).loc main_arg2)) := by
  rw [entry_v2]
  funext i
  idx_vars i
  unfold G
  refine (Cert.Own.headNorm_congr (fun e => Finset.sum_congr rfl fun k _ => Ideal.mul_congr (entry_v1 m c _ _) rfl) (entry_v3 m c _) rfl).trans ?_
  unfold Cert.Own.headNorm
  open Cert.KsRefIdeal.Read in
  pointwise [Nat.div_add_mod', val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The claim: both runs end with the same result. -/
theorem algebraic : Cert.algebraic_KsIdeal_KsRefIdeal := by
  pair_intro
  · run_from Cert.KsIdeal.Value.run_blocks m g
  · run_from Cert.KsRefIdeal.Value.run m' g'
    exact (Cert.KsRefIdeal.Read.val_main_v16_eq _ _ _ ).trans ((final m c).trans (ref_eq m c)).symm

end Cert.KsIdeal.Own

end
-- ==== Proof.VsValue.lean ====
module

public import proofs.«01_k».proof.Defs
public import proofs.«01_k».proof.Proof.Gen.VsIdeal.Value
public import proofs.«01_k».proof.Proof.Gen.VsRefIdeal.Read
public import proofs.«01_k».proof.Proof.Gen.VsRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.VsIdeal.Own

open Cert.VsIdeal Cert.VsIdeal.Gen

variable (m : (ℓ : Loc nD τ sig) → Buf (Elt Ideal) ℓ)

/-- What the body computes at row `y 0` and column `y 1` of its block. -/
theorem pay_at (x : Vec Ideal S1024x2048 .bf16) (w : Vec Ideal S2048x512 .bf16) (y : S1024x512.Idx) :
    k0_pay1 (F := Ideal) x w y = ∑ k : Fin 2048, x (ix2 (y 0) k) * w (ix2 k (y 1)) := by
  pointwise [k0_pay1]

theorem idx : ∀ t : Fin cfg0.N, win0_0.index t = ![(grid0.coords t 0).val, 0]
    ∧ win0_1.index t = ![0, 23 + (grid0.coords t 1).val]
    ∧ win0_2.index t = ![(grid0.coords t 0).val, (grid0.coords t 1).val] :=
  (by decide +kernel : ∀ t : Fin grid0.N, _)

/-- The whole result: rows of the first operand against the columns of the second from 11776 on. -/
def G (X : FVec Ideal S8192x2048 .bf16) (W : FVec Ideal S2048x17456 .bf16) : FVec Ideal S8192x512 .f32 := fun i =>
  ∑ k : Fin 2048, X (ix2 (i 0) k) * W (ix2 k ⟨11776 + (i 1).val, by have : (i 1).val < 512 := (i 1).isLt; omega⟩)

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨11776 + 512 * (grid0.coords t 1).val + j.val, by have : (grid0.coords t 1).val < 1 := (grid0.coords t 1).isLt; omega⟩) := by
  unfold X0_1 Pipeline.Window.fill
  rw [dif_pos (moved0_1 t _)]
  blk_ext [iblk, idx t]

theorem point (c : Dev nD) (t : Fin cfg0.N) (y) : k0_pay1 (F := Ideal) (iblk m c 0 t) (X0_1 m c t) y
    = G (V m c main_v1) (V m c main_v2) (((cfg0.win 2).blk t).view.emb y) := by
  refine (pay_at _ _ _).trans ?_
  unfold G
  refine Finset.sum_congr rfl fun k _ => Ideal.mul_congr ?_ ((weight_at m c t k (y 1)).trans ?_) <;>
  blk_ext [iblk, idx t]

theorem final (c : Dev nD) : (dats m 0 c).arrAt 2 (cfgs 0).N = G (V m c main_v1) (V m c main_v2) := by
  refine (dats m 0 c).arrAt_eq_of_covers 2 _ (by decide +kernel) fun t _ y => ?_
  blk_simp
  rw [after0_2]; unfold outsAt0; frame_out
  exact point m c t y

/-- The region's second operand is the weight argument. -/
theorem entry_v2 (c : Dev nD) : V m c main_v2 = (m ((c : Thread nD τ).loc main_arg1) : FVec Ideal S2048x17456 .f32) := by
  funext i
  entry_read
  idx_vars i
  pointwise

/-- The reference's array is the same function of the two arguments. -/
theorem ref_eq (c : Dev nD) : G (V m c main_v1) (V m c main_v2) =
    Cert.VsRefIdeal.Read.val_main_v2 (F := Ideal) (m ((c : Thread nD τ).loc main_arg0)) (m ((c : Thread nD τ).loc main_arg1)) := by
  rw [entry_v2]
  entry_read
  funext i
  idx_vars i
  open Cert.VsRefIdeal.Read in
  pointwise [G, val_main_v2, val_main_v1, val_main_v0]

/-- The claim: both runs end with the same result. -/
theorem algebraic : Cert.algebraic_VsIdeal_VsRefIdeal := by
  pair_intro
  · run_from Cert.VsIdeal.Value.run_blocks m g
  · run_from Cert.VsRefIdeal.Value.run m' g'
    exact (Cert.VsRefIdeal.Read.val_main_v2_eq _ _ ).trans ((final m c).trans (ref_eq m c)).symm

end Cert.VsIdeal.Own

end
-- ==== Proof.KwValue.lean ====
module

public import proofs.«01_k».proof.Defs
public import proofs.«01_k».proof.Proof.Gen.KwIdeal.Value
public import proofs.«01_k».proof.Proof.Gen.KwRefIdeal.Read
public import proofs.«01_k».proof.Proof.Gen.KwRefIdeal.Run
public import proofs.«01_k».proof.Proof.HeadNorm
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KwIdeal.Own

open Cert.KwIdeal Cert.KwIdeal.Gen

variable (m : (ℓ : Loc nD τ sig) → Buf (Elt Ideal) ℓ)

/-- Head `n` of a block of four, at row `y 0` and lane `y 1`: the product's lanes, normalised. -/
def tile (x : Vec Ideal S1024x2048 .bf16) (w : Vec Ideal S2048x512 .bf16) (g : Vec Ideal S1x128 .f32) (n : Fin 4) (y : S1024x128.Idx) :
    EReal :=
  Cert.Own.headNorm (fun e => ∑ k : Fin 2048, x (ix2 (y 0) k) * w (ix2 k ⟨128 * n.val + e.val, by omega⟩)) (g (ix2 0 (y 1))) (y 1)

theorem tile0_at (x : Vec Ideal S1024x2048 .bf16) (w : Vec Ideal S2048x512 .bf16) (g : Vec Ideal S1x128 .f32) (y : S1024x128.Idx) :
    k0_pay4 (F := Ideal) x w g y = tile x w g 0 y := by
  idx_vars y
  pointwise [k0_pay4, k0_pay3, tile, Cert.Own.headNorm]

theorem tile1_at (x : Vec Ideal S1024x2048 .bf16) (w : Vec Ideal S2048x512 .bf16) (g : Vec Ideal S1x128 .f32) (y : S1024x128.Idx) :
    k0_pay5 (F := Ideal) x w g y = tile x w g 1 y := by
  idx_vars y
  pointwise [k0_pay5, k0_pay3, tile, Cert.Own.headNorm]

theorem tile2_at (x : Vec Ideal S1024x2048 .bf16) (w : Vec Ideal S2048x512 .bf16) (g : Vec Ideal S1x128 .f32) (y : S1024x128.Idx) :
    k0_pay1 (F := Ideal) (k0_pay3 x w) g y = tile x w g 2 y := by
  idx_vars y
  pointwise [k0_pay1, k0_pay3, tile, Cert.Own.headNorm]

theorem tile3_at (x : Vec Ideal S1024x2048 .bf16) (w : Vec Ideal S2048x512 .bf16) (g : Vec Ideal S1x128 .f32) (y : S1024x128.Idx) :
    k0_pay2 (F := Ideal) (k0_pay3 x w) g y = tile x w g 3 y := by
  idx_vars y
  pointwise [k0_pay2, k0_pay3, tile, Cert.Own.headNorm]

theorem idx : ∀ t : Fin cfg0.N, win0_0.index t = ![(grid0.coords t 0).val, 0]
    ∧ win0_1.index t = ![0, 24 + (grid0.coords t 1).val] ∧ win0_2.index t = ![0, 0]
    ∧ win0_3.index t = ![(grid0.coords t 0).val, (grid0.coords t 1).val] :=
  (by decide +kernel : ∀ t : Fin grid0.N, _)

/-- The whole result: rows against the columns from 12288 on, normalised head by head. -/
def G (X : FVec Ideal S8192x2048 .bf16) (W : FVec Ideal S2048x17456 .bf16) (g : FVec Ideal S1x128 .f32) :
    FVec Ideal S8192x512 .f32 := fun i =>
  Cert.Own.headNorm (fun e => ∑ k : Fin 2048, X (ix2 (i 0) k)
      * W (ix2 k ⟨12288 + ((i 1).val / 128 * 128 + e.val), by have : (i 1).val < 512 := (i 1).isLt; omega⟩))
    (g (ix2 0 ⟨(i 1).val % 128, by omega⟩)) ⟨(i 1).val % 128, by omega⟩

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨12288 + 512 * (grid0.coords t 1).val + j.val, by have : (grid0.coords t 1).val < 1 := (grid0.coords t 1).isLt; omega⟩) := by
  unfold X0_1 Pipeline.Window.fill
  rw [dif_pos (moved0_1 t _)]
  blk_ext [iblk, idx t]

/-- Head `n` of a point's block is the whole result there. -/
theorem tile_eq (c : Dev nD) (t : Fin cfg0.N) (n : Fin 4) (x : S1024x128.Idx) (y : ((cfg0.win 3).xblock (cfg0.grid.coords t)).Idx)
    (h0 : (y 0).val = (x 0).val) (h1 : (y 1).val = 128 * n.val + (x 1).val) :
    tile (iblk m c 0 t) (X0_1 m c t) (iblk m c 2 t) n x
      = G (V m c main_v1) (V m c main_v2) (V m c main_v3) (((cfg0.win 3).blk t).view.emb y) := by
  have hx : (x 1).val < 128 := (x 1).isLt
  unfold tile G
  refine Cert.Own.headNorm_congr (fun e => Finset.sum_congr rfl fun k _ => Ideal.mul_congr ?_ ((weight_at m c t k _).trans ?_)) ?_ (Fin.ext ?_)
  · blk_ext [iblk, idx t]
  · blk_ext [iblk, idx t]
  · blk_ext [iblk, idx t]
  · blk_simp [idx t]
    show (x 1).val = (y 1).val % 128
    omega

theorem point (c : Dev nD) (t : Fin cfg0.N) (y : ((cfg0.win 3).xblock (cfg0.grid.coords t)).Idx) :
    outsAt0 m c t y = G (V m c main_v1) (V m c main_v2) (V m c main_v3) (((cfg0.win 3).blk t).view.emb y) := by
  unfold outsAt0; frame_out
  canon_tiles x h
  · exact (tile3_at _ _ _ x).trans (tile_eq m c t 3 x y (by omega) (by omega))
  · exact (tile2_at _ _ _ x).trans (tile_eq m c t 2 x y (by omega) (by omega))
  · exact (tile1_at _ _ _ x).trans (tile_eq m c t 1 x y (by omega) (by omega))
  · exact (tile0_at _ _ _ x).trans (tile_eq m c t 0 x y (by omega) (by omega))

theorem final (c : Dev nD) : (dats m 0 c).arrAt 3 (cfgs 0).N = G (V m c main_v1) (V m c main_v2) (V m c main_v3) := by
  refine (dats m 0 c).arrAt_eq_of_covers 3 _ (by decide +kernel) fun t _ y => ?_
  blk_simp
  rw [after0_3]
  exact point m c t y

/-- The region's operand `main_v1` reads the argument by sequence and position. -/
theorem entry_v1 (c : Dev nD) (a : Fin 8192) (b : Fin 2048) : (V m c main_v1 : FVec Ideal S8192x2048 .bf16) (ix2 a b) =
    (m ((c : Thread nD τ).loc main_arg0) : FVec Ideal S2x4096x2048 .f32) (ix3 ⟨a.val / 4096, by omega⟩ ⟨a.val % 4096, by omega⟩ b) := by
  entry_read
  pointwise

/-- The region's second operand is the weight argument. -/
theorem entry_v2 (c : Dev nD) : V m c main_v2 = (m ((c : Thread nD τ).loc main_arg1) : FVec Ideal S2048x17456 .f32) := by
  funext i
  entry_read
  idx_vars i
  pointwise

/-- The region's third operand is the row of gains. -/
theorem entry_v3 (c : Dev nD) (b : Fin 128) : (V m c main_v3 : FVec Ideal S1x128 .f32) (ix2 0 b) =
    (m ((c : Thread nD τ).loc main_arg2) : FVec Ideal S128 .f32) (ix1 b) := by
  entry_read
  pointwise

/-- The reference's array is the same function of the arguments. -/
theorem ref_eq (c : Dev nD) : G (V m c main_v1) (V m c main_v2) (V m c main_v3) =
    Cert.KwRefIdeal.Read.val_main_v16 (F := Ideal) (m ((c : Thread nD τ).loc main_arg0)) (m ((c : Thread nD τ).loc main_arg1))
      (m ((c : Thread nD τ).loc main_arg2)) := by
  rw [entry_v2]
  funext i
  idx_vars i
  unfold G
  refine (Cert.Own.headNorm_congr (fun e => Finset.sum_congr rfl fun k _ => Ideal.mul_congr (entry_v1 m c _ _) rfl) (entry_v3 m c _) rfl).trans ?_
  unfold Cert.Own.headNorm
  open Cert.KwRefIdeal.Read in
  pointwise [Nat.div_add_mod', val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The claim: both runs end with the same result. -/
theorem algebraic : Cert.algebraic_KwIdeal_KwRefIdeal := by
  pair_intro
  · run_from Cert.KwIdeal.Value.run_blocks m g
  · run_from Cert.KwRefIdeal.Value.run m' g'
    exact (Cert.KwRefIdeal.Read.val_main_v16_eq _ _ _ ).trans ((final m c).trans (ref_eq m c)).symm

end Cert.KwIdeal.Own

end
-- ==== Proof.VwValue.lean ====
module

public import proofs.«01_k».proof.Defs
public import proofs.«01_k».proof.Proof.Gen.VwIdeal.Value
public import proofs.«01_k».proof.Proof.Gen.VwRefIdeal.Read
public import proofs.«01_k».proof.Proof.Gen.VwRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.VwIdeal.Own

open Cert.VwIdeal Cert.VwIdeal.Gen

variable (m : (ℓ : Loc nD τ sig) → Buf (Elt Ideal) ℓ)

/-- What the body computes at row `y 0` and column `y 1` of its block. -/
theorem pay_at (x : Vec Ideal S1024x2048 .bf16) (w : Vec Ideal S2048x512 .bf16) (y : S1024x512.Idx) :
    k0_pay1 (F := Ideal) x w y = ∑ k : Fin 2048, x (ix2 (y 0) k) * w (ix2 k (y 1)) := by
  pointwise [k0_pay1]

theorem idx : ∀ t : Fin cfg0.N, win0_0.index t = ![(grid0.coords t 0).val, 0]
    ∧ win0_1.index t = ![0, 25 + (grid0.coords t 1).val]
    ∧ win0_2.index t = ![(grid0.coords t 0).val, (grid0.coords t 1).val] :=
  (by decide +kernel : ∀ t : Fin grid0.N, _)

/-- The whole result: rows of the first operand against the columns of the second from 12800 on. -/
def G (X : FVec Ideal S8192x2048 .bf16) (W : FVec Ideal S2048x17456 .bf16) : FVec Ideal S8192x512 .f32 := fun i =>
  ∑ k : Fin 2048, X (ix2 (i 0) k) * W (ix2 k ⟨12800 + (i 1).val, by have : (i 1).val < 512 := (i 1).isLt; omega⟩)

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨12800 + 512 * (grid0.coords t 1).val + j.val, by have : (grid0.coords t 1).val < 1 := (grid0.coords t 1).isLt; omega⟩) := by
  unfold X0_1 Pipeline.Window.fill
  rw [dif_pos (moved0_1 t _)]
  blk_ext [iblk, idx t]

theorem point (c : Dev nD) (t : Fin cfg0.N) (y) : k0_pay1 (F := Ideal) (iblk m c 0 t) (X0_1 m c t) y
    = G (V m c main_v1) (V m c main_v2) (((cfg0.win 2).blk t).view.emb y) := by
  refine (pay_at _ _ _).trans ?_
  unfold G
  refine Finset.sum_congr rfl fun k _ => Ideal.mul_congr ?_ ((weight_at m c t k (y 1)).trans ?_) <;>
  blk_ext [iblk, idx t]

theorem final (c : Dev nD) : (dats m 0 c).arrAt 2 (cfgs 0).N = G (V m c main_v1) (V m c main_v2) := by
  refine (dats m 0 c).arrAt_eq_of_covers 2 _ (by decide +kernel) fun t _ y => ?_
  blk_simp
  rw [after0_2]; unfold outsAt0; frame_out
  exact point m c t y

/-- The region's second operand is the weight argument. -/
theorem entry_v2 (c : Dev nD) : V m c main_v2 = (m ((c : Thread nD τ).loc main_arg1) : FVec Ideal S2048x17456 .f32) := by
  funext i
  entry_read
  idx_vars i
  pointwise

/-- The reference's array is the same function of the two arguments. -/
theorem ref_eq (c : Dev nD) : G (V m c main_v1) (V m c main_v2) =
    Cert.VwRefIdeal.Read.val_main_v2 (F := Ideal) (m ((c : Thread nD τ).loc main_arg0)) (m ((c : Thread nD τ).loc main_arg1)) := by
  rw [entry_v2]
  entry_read
  funext i
  idx_vars i
  open Cert.VwRefIdeal.Read in
  pointwise [G, val_main_v2, val_main_v1, val_main_v0]

/-- The claim: both runs end with the same result. -/
theorem algebraic : Cert.algebraic_VwIdeal_VwRefIdeal := by
  pair_intro
  · run_from Cert.VwIdeal.Value.run_blocks m g
  · run_from Cert.VwRefIdeal.Value.run m' g'
    exact (Cert.VwRefIdeal.Read.val_main_v2_eq _ _ ).trans ((final m c).trans (ref_eq m c)).symm

end Cert.VwIdeal.Own

end
-- ==== Proof.ModValue.lean ====
module

public import proofs.«01_k».proof.Defs
public import proofs.«01_k».proof.Proof.Gen.ModIdeal.Value
public import proofs.«01_k».proof.Proof.Gen.ModRefIdeal.Read
public import proofs.«01_k».proof.Proof.Gen.ModRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModIdeal.Own

open Cert.ModIdeal Cert.ModIdeal.Gen

variable (m : (ℓ : Loc nD τ sig) → Buf (Elt Ideal) ℓ)

/-- One element of the modulated row: the row's element over the root of the row's mean square (with the small constant
    added), times its gain, scaled and shifted by the sequence's vectors. -/
def modulated (x : Fin 2048 → EReal) (l : Fin 2048) (g sc sh : EReal) : EReal :=
  x l * Ideal.rsqrt (Ideal.div (∑ k, x k * x k) (Ideal.ofBits .f32 1157627904#32) + Ideal.ofBits .f32 897988541#32) * g * (1 + sc) + sh

/-- What the body computes at row `y 0` and column `y 1` of its block. -/
theorem pay_at (x : Vec Ideal S256x2048 .f32) (g : Vec Ideal S1x2048 .f32) (sc sh : Vec Ideal S1x1x2048 .f32) (y : S256x2048.Idx) :
    k0_pay1 (F := Ideal) x g sc sh y
      = modulated (fun k => x (ix2 (y 0) k)) (y 1) (g (ix2 0 (y 1))) (sc (ix3 0 0 (y 1))) (sh (ix3 0 0 (y 1))) := by
  idx_vars y
  pointwise [k0_pay1, modulated]

theorem idx : ∀ t : Fin cfg0.N, win0_0.index t = ![(grid0.coords t 0).val, 0] ∧ win0_1.index t = ![0, 0]
    ∧ win0_2.index t = ![(grid0.coords t 0).val / 16, 0, 0] ∧ win0_3.index t = ![(grid0.coords t 0).val / 16, 0, 0]
    ∧ win0_4.index t = ![(grid0.coords t 0).val, 0] :=
  (by decide +kernel : ∀ t : Fin grid0.N, _)

/-- The whole result, from the region's operand arrays: rows 4096 and on are the second sequence. -/
def G (X : FVec Ideal S8192x2048 .f32) (g : FVec Ideal S1x2048 .f32) (sc sh : FVec Ideal S2x1x2048 .f32) :
    FVec Ideal S8192x2048 .bf16 := fun i =>
  modulated (fun k => X (ix2 (i 0) k)) (i 1) (g (ix2 0 (i 1)))
    (sc (ix3 ⟨(i 0).val / 4096, by have : (i 0).val < 8192 := (i 0).isLt; omega⟩ 0 (i 1)))
    (sh (ix3 ⟨(i 0).val / 4096, by have : (i 0).val < 8192 := (i 0).isLt; omega⟩ 0 (i 1)))

theorem modulated_congr {x x' : Fin 2048 → EReal} {l l' : Fin 2048} {g g' sc sc' sh sh' : EReal} (hx : ∀ k, x k = x' k) (hl : l = l')
    (hg : g = g') (hc : sc = sc') (hh : sh = sh') : modulated x l g sc sh = modulated x' l' g' sc' sh' := by
  subst hl hg hc hh; rw [funext hx]

theorem point (c : Dev nD) (t : Fin cfg0.N) (y) : k0_pay1 (F := Ideal) (iblk m c 0 t) (iblk m c 1 t) (iblk m c 2 t) (iblk m c 3 t) y
    = G (V m c main_v0) (V m c main_v1) (V m c main_v2) (V m c main_v3) (((cfg0.win 4).blk t).view.emb y) := by
  refine (pay_at _ _ _ _ _).trans ?_
  unfold G
  refine modulated_congr (fun k => ?_) (Fin.ext ?_) ?_ ?_ ?_
  · blk_ext [iblk, idx t]
  · blk_simp [idx t]
  all_goals blk_ext [iblk, idx t]

theorem final (c : Dev nD) : (dats m 0 c).arrAt 4 (cfgs 0).N = G (V m c main_v0) (V m c main_v1) (V m c main_v2) (V m c main_v3) := by
  refine (dats m 0 c).arrAt_eq_of_covers 4 _ (by decide +kernel) fun t _ y => ?_
  blk_simp
  rw [after0_4]; frame_out
  exact point m c t y

/-- The region's operand `main_v0` reads the argument by sequence and position. -/
theorem entry_v0 (c : Dev nD) (a : Fin 8192) (b : Fin 2048) : (V m c main_v0 : FVec Ideal S8192x2048 .f32) (ix2 a b) =
    (m ((c : Thread nD τ).loc main_arg0) : FVec Ideal S2x4096x2048 .f32) (ix3 ⟨a.val / 4096, by omega⟩ ⟨a.val % 4096, by omega⟩ b) := by
  entry_read
  pointwise

/-- The region's operand `main_v1` is the row of gains. -/
theorem entry_v1 (c : Dev nD) (b : Fin 2048) : (V m c main_v1 : FVec Ideal S1x2048 .f32) (ix2 0 b) =
    (m ((c : Thread nD τ).loc main_arg1) : FVec Ideal S2048 .f32) (ix1 b) := by
  entry_read
  pointwise

/-- The region's operand `main_v2` is the scales' rows. -/
theorem entry_v2 (c : Dev nD) (a : Fin 2) (b : Fin 2048) : (V m c main_v2 : FVec Ideal S2x1x2048 .f32) (ix3 a 0 b) =
    (m ((c : Thread nD τ).loc main_arg3) : FVec Ideal S2x2048 .f32) (ix2 a b) := by
  entry_read
  pointwise

/-- The region's operand `main_v3` is the shifts' rows. -/
theorem entry_v3 (c : Dev nD) (a : Fin 2) (b : Fin 2048) : (V m c main_v3 : FVec Ideal S2x1x2048 .f32) (ix3 a 0 b) =
    (m ((c : Thread nD τ).loc main_arg2) : FVec Ideal S2x2048 .f32) (ix2 a b) := by
  entry_read
  pointwise

/-- The reference's array is the same function of the arguments. -/
theorem ref_eq (c : Dev nD) : G (V m c main_v0) (V m c main_v1) (V m c main_v2) (V m c main_v3) =
    Cert.ModRefIdeal.Read.val_main_v22 (F := Ideal) (m ((c : Thread nD τ).loc main_arg0)) (m ((c : Thread nD τ).loc main_arg1))
      (m ((c : Thread nD τ).loc main_arg2)) (m ((c : Thread nD τ).loc main_arg3)) := by
  funext i
  idx_vars i
  unfold G
  refine (modulated_congr (fun k => entry_v0 m c _ _) rfl (entry_v1 m c _) (entry_v2 m c _ _) (entry_v3 m c _ _)).trans ?_
  unfold modulated
  open Cert.ModRefIdeal.Read in
  pointwise [val_main_v22, val_main_v21, val_main_v20, val_main_v19, val_main_v18, val_main_v17, val_main_v16, val_main_v15, val_main_v14, val_main_cst_2, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

/-- The claim: both runs end with the same result. -/
theorem algebraic : Cert.algebraic_ModIdeal_ModRefIdeal := by
  pair_intro
  · run_from Cert.ModIdeal.Value.run_blocks m g
  · run_from Cert.ModRefIdeal.Value.run m' g'
    exact (Cert.ModRefIdeal.Read.val_main_v22_eq _ _ _ _ ).trans ((final m c).trans (ref_eq m c)).symm

end Cert.ModIdeal.Own

end
-- ==== Proof.AdaValue.lean ====
module

public import proofs.«01_k».proof.Defs
public import proofs.«01_k».proof.Proof.Gen.AdaIdeal.Value
public import proofs.«01_k».proof.Proof.Gen.AdaRefIdeal.Read
public import proofs.«01_k».proof.Proof.Gen.AdaRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaIdeal.Own

open Cert.AdaIdeal Cert.AdaIdeal.Gen

variable (m : (ℓ : Loc nD τ sig) → Buf (Elt Ideal) ℓ)

/-- What the body computes at row `y 0` and column `y 1` of its block: the gated row against the column, and the bias. -/
theorem pay_at (x : Vec Ideal S136x2048 .f32) (w : Vec Ideal S2048x512 .bf16) (b : Vec Ideal S1x512 .f32) (y : S136x512.Idx) :
    k0_pay1 (F := Ideal) x w b y = (∑ k : Fin 2048, x (ix2 (y 0) k) * Ideal.div 1 (1 + Ideal.exp (0 - x (ix2 (y 0) k))) * w (ix2 k (y 1)))
      + b (ix2 0 (y 1)) := by
  idx_vars y
  pointwise [k0_pay1]

theorem idx : ∀ t : Fin cfg0.N, win0_0.index t = ![0, 0] ∧ win0_1.index t = ![0, (grid0.coords t 0).val]
    ∧ win0_2.index t = ![0, (grid0.coords t 0).val] ∧ win0_3.index t = ![0, (grid0.coords t 0).val] :=
  (by decide +kernel : ∀ t : Fin grid0.N, _)

/-- The whole result, from the region's operand arrays. -/
def G (X : FVec Ideal S136x2048 .f32) (W : FVec Ideal S2048x12288 .bf16) (b : FVec Ideal S1x12288 .f32) : FVec Ideal S136x12288 .f32 := fun i =>
  (∑ k : Fin 2048, X (ix2 (i 0) k) * Ideal.div 1 (1 + Ideal.exp (0 - X (ix2 (i 0) k))) * W (ix2 k (i 1))) + b (ix2 0 (i 1))

theorem point (c : Dev nD) (t : Fin cfg0.N) (y) : k0_pay1 (F := Ideal) (iblk m c 0 t) (iblk m c 1 t) (iblk m c 2 t) y
    = G (V m c main_arg0) (V m c main_v0) (V m c main_v1) (((cfg0.win 3).blk t).view.emb y) := by
  refine (pay_at _ _ _ _).trans ?_
  unfold G
  refine congrArg₂ (fun a b : EReal => a + b) (Finset.sum_congr rfl fun k _ => Ideal.mul_congr
    (congrArg (fun a : EReal => a * Ideal.div 1 (1 + Ideal.exp (0 - a))) ?_) ?_) ?_ <;>
  blk_ext [iblk, idx t]

theorem final (c : Dev nD) : (dats m 0 c).arrAt 3 (cfgs 0).N = G (V m c main_arg0) (V m c main_v0) (V m c main_v1) := by
  refine (dats m 0 c).arrAt_eq_of_covers 3 _ (by decide +kernel) fun t _ y => ?_
  blk_simp
  rw [after0_3]; frame_out
  exact point m c t y

/-- The region's second operand is the weight argument. -/
theorem entry_v0 (c : Dev nD) : V m c main_v0 = (m ((c : Thread nD τ).loc main_arg1) : FVec Ideal S2048x12288 .f32) := by
  funext i
  entry_read
  idx_vars i
  pointwise

/-- The region's third operand is the row of biases. -/
theorem entry_v1 (c : Dev nD) (b : Fin 12288) : (V m c main_v1 : FVec Ideal S1x12288 .f32) (ix2 0 b) =
    (m ((c : Thread nD τ).loc main_arg2) : FVec Ideal S12288 .f32) (ix1 b) := by
  entry_read
  pointwise

/-- The reference's array is the same function of the arguments. -/
theorem ref_eq (c : Dev nD) : G (V m c main_arg0) (V m c main_v0) (V m c main_v1) =
    Cert.AdaRefIdeal.Read.val_main_v4 (F := Ideal) (m ((c : Thread nD τ).loc main_arg0)) (m ((c : Thread nD τ).loc main_arg1))
      (m ((c : Thread nD τ).loc main_arg2)) := by
  rw [entry_v0, V_main_arg0]
  funext i
  idx_vars i
  unfold G
  refine (congrArg₂ (fun a b : EReal => a + b) rfl (entry_v1 m c _)).trans ?_
  open Cert.AdaRefIdeal.Read in
  pointwise [val_main_v4, val_main_v3, val_main_v2, val_main_v1, val_main_v0, val_main_call0_v5, val_main_call0_v4, val_main_call0_cst_0, val_main_call0_v3, val_main_call0_v2, val_main_call0_cst, val_main_call0_v1, val_main_call0_v0, zero_sub]

/-- The claim: both runs end with the same result. -/
theorem algebraic : Cert.algebraic_AdaIdeal_AdaRefIdeal := by
  pair_intro
  · run_from Cert.AdaIdeal.Value.run_blocks m g
  · run_from Cert.AdaRefIdeal.Value.run m' g'
    exact (Cert.AdaRefIdeal.Read.val_main_v4_eq _ _ _ ).trans ((final m c).trans (ref_eq m c)).symm

end Cert.AdaIdeal.Own

end
-- ==== Proof.DownSValue.lean ====
module

public import proofs.«01_k».proof.Defs
public import proofs.«01_k».proof.Proof.Gen.DownSIdeal.Value
public import proofs.«01_k».proof.Proof.Gen.DownSRefIdeal.Read
public import proofs.«01_k».proof.Proof.Gen.DownSRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownSIdeal.Own

open Cert.DownSIdeal Cert.DownSIdeal.Gen

variable (m : (ℓ : Loc nD τ sig) → Buf (Elt Ideal) ℓ)

/-- What the body computes at row `y 0` and column `y 1` of its block. -/
theorem pay_at (x g : Vec Ideal S128x512 .f32) (a : Vec Ideal S128x5632 .bf16)
    (w : Vec Ideal S5632x512 .bf16) (y : S128x512.Idx) :
    k0_pay1 (F := Ideal) x g a w y = x y + g y * ∑ k : Fin 5632, a (ix2 (y 0) k) * w (ix2 k (y 1)) := by
  idx_vars y
  pointwise [k0_pay1]

theorem idx : ∀ t : Fin cfg0.N, win0_0.index t = ![0, 0] ∧ win0_1.index t = ![0, (grid0.coords t 1).val]
    ∧ win0_2.index t = ![0, (grid0.coords t 1).val]
    ∧ win0_3.index t = ![0, (grid0.coords t 1).val]
    ∧ win0_4.index t = ![0, (grid0.coords t 1).val] :=
  (by decide +kernel : ∀ t : Fin grid0.N, _)

/-- The whole result: the residual plus the row's own gate times the product. -/
def G (A : FVec Ideal S128x5632 .bf16) (W : FVec Ideal S5632x2048 .bf16) (X g : FVec Ideal S128x2048 .f32) :
    FVec Ideal S128x2048 .f32 := fun i =>
  X (ix2 (i 0) (i 1)) + g (ix2 (i 0) (i 1)) * ∑ k : Fin 5632, A (ix2 (i 0) k) * W (ix2 k (i 1))

theorem point (c : Dev nD) (t : Fin cfg0.N) (y) : k0_pay1 (F := Ideal) (iblk m c 2 t) (iblk m c 3 t) (iblk m c 0 t) (iblk m c 1 t) y
    = G (V m c main_v1) (V m c main_v2) (V m c main_v3) (V m c main_arg3) (((cfg0.win 4).blk t).view.emb y) := by
  refine (pay_at _ _ _ _ _).trans ?_
  unfold G
  refine congrArg₂ (fun a b : EReal => a + b) ?_ (Ideal.mul_congr ?_ (Finset.sum_congr rfl fun k _ => Ideal.mul_congr ?_ ?_)) <;>
  blk_ext [iblk, idx t]

theorem final (c : Dev nD) : (dats m 0 c).arrAt 4 (cfgs 0).N = G (V m c main_v1) (V m c main_v2) (V m c main_v3) (V m c main_arg3) := by
  refine (dats m 0 c).arrAt_eq_of_covers 4 _ (by decide +kernel) fun t _ y => ?_
  blk_simp
  rw [after0_4]; frame_out
  exact point m c t y

/-- The region's operand `main_v1` reads the argument by row. -/
theorem entry_v1 (c : Dev nD) (a : Fin 128) (b : Fin 5632) : (V m c main_v1 : FVec Ideal S128x5632 .bf16) (ix2 a b) =
    (m ((c : Thread nD τ).loc main_arg0) : FVec Ideal S128x1x5632 .f32) (ix3 a 0 b) := by
  entry_read
  pointwise

/-- The region's operand `main_v2` is the argument. -/
theorem entry_v2 (c : Dev nD) : V m c main_v2 = (m ((c : Thread nD τ).loc main_arg1) : FVec Ideal S5632x2048 .f32) := by
  funext i
  entry_read
  idx_vars i
  pointwise

/-- The region's operand `main_v3` reads the argument by row. -/
theorem entry_v3 (c : Dev nD) (a : Fin 128) (b : Fin 2048) : (V m c main_v3 : FVec Ideal S128x2048 .f32) (ix2 a b) =
    (m ((c : Thread nD τ).loc main_arg2) : FVec Ideal S128x1x2048 .f32) (ix3 a 0 b) := by
  entry_read
  pointwise

/-- The reference's array is the same function of the arguments. -/
theorem ref_eq (c : Dev nD) : G (V m c main_v1) (V m c main_v2) (V m c main_v3) (V m c main_arg3) =
    Cert.DownSRefIdeal.Read.val_main_v4 (F := Ideal) (m ((c : Thread nD τ).loc main_arg0)) (m ((c : Thread nD τ).loc main_arg1))
      (m ((c : Thread nD τ).loc main_arg2)) (m ((c : Thread nD τ).loc main_arg3)) := by
  rw [entry_v2]
  funext i
  idx_vars i
  open Cert.DownSRefIdeal.Read in
  pointwise [G, val_main_v4, val_main_v3, val_main_v2, val_main_v1, val_main_v0]
  exact congrArg₂ (fun a b : EReal => a + b) (entry_v3 m c _ _) (Ideal.mul_congr rfl
    (Finset.sum_congr rfl fun k _ => Ideal.mul_congr (entry_v1 m c _ _) rfl))

/-- The claim: both runs end with the same result. -/
theorem algebraic : Cert.algebraic_DownSIdeal_DownSRefIdeal := by
  pair_intro
  · run_from Cert.DownSIdeal.Value.run_blocks m g
  · run_from Cert.DownSRefIdeal.Value.run m' g'
    exact (Cert.DownSRefIdeal.Read.val_main_v4_eq _ _ _ _ ).trans ((final m c).trans (ref_eq m c)).symm

end Cert.DownSIdeal.Own

end
-- ==== Proof.KcSValue.lean ====
module

public import proofs.«01_k».proof.Defs
public import proofs.«01_k».proof.Proof.Gen.KcSIdeal.Value
public import proofs.«01_k».proof.Proof.Gen.KcSRefIdeal.Read
public import proofs.«01_k».proof.Proof.Gen.KcSRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KcSIdeal.Own

open Cert.KcSIdeal Cert.KcSIdeal.Gen

variable (m : (ℓ : Loc nD τ sig) → Buf (Elt Ideal) ℓ)

/-- What the body computes at row `y 0` and column `y 1` of its block. -/
theorem pay_at (x : Vec Ideal S128x2048 .bf16) (w : Vec Ideal S2048x512 .bf16) (y : S128x512.Idx) :
    k0_pay1 (F := Ideal) x w y = ∑ k : Fin 2048, x (ix2 (y 0) k) * w (ix2 k (y 1)) := by
  pointwise [k0_pay1]

theorem idx : ∀ t : Fin cfg0.N, win0_0.index t = ![(grid0.coords t 0).val, 0]
    ∧ win0_1.index t = ![0, 20 + (grid0.coords t 1).val]
    ∧ win0_2.index t = ![(grid0.coords t 0).val, (grid0.coords t 1).val] :=
  (by decide +kernel : ∀ t : Fin grid0.N, _)

/-- The whole result: rows of the first operand against the columns of the second from 10240 on. -/
def G (X : FVec Ideal S128x2048 .bf16) (W : FVec Ideal S2048x17456 .bf16) : FVec Ideal S128x512 .f32 := fun i =>
  ∑ k : Fin 2048, X (ix2 (i 0) k) * W (ix2 k ⟨10240 + (i 1).val, by have : (i 1).val < 512 := (i 1).isLt; omega⟩)

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨10240 + 512 * (grid0.coords t 1).val + j.val, by have : (grid0.coords t 1).val < 1 := (grid0.coords t 1).isLt; omega⟩) := by
  unfold X0_1 Pipeline.Window.fill
  rw [dif_pos (moved0_1 t _)]
  blk_ext [iblk, idx t]

theorem point (c : Dev nD) (t : Fin cfg0.N) (y) : k0_pay1 (F := Ideal) (iblk m c 0 t) (X0_1 m c t) y
    = G (V m c main_v1) (V m c main_v2) (((cfg0.win 2).blk t).view.emb y) := by
  refine (pay_at _ _ _).trans ?_
  unfold G
  refine Finset.sum_congr rfl fun k _ => Ideal.mul_congr ?_ ((weight_at m c t k (y 1)).trans ?_) <;>
  blk_ext [iblk, idx t]

theorem final (c : Dev nD) : (dats m 0 c).arrAt 2 (cfgs 0).N = G (V m c main_v1) (V m c main_v2) := by
  refine (dats m 0 c).arrAt_eq_of_covers 2 _ (by decide +kernel) fun t _ y => ?_
  blk_simp
  rw [after0_2]; unfold outsAt0; frame_out
  exact point m c t y

/-- The region's second operand is the weight argument. -/
theorem entry_v2 (c : Dev nD) : V m c main_v2 = (m ((c : Thread nD τ).loc main_arg1) : FVec Ideal S2048x17456 .f32) := by
  funext i
  entry_read
  idx_vars i
  pointwise

/-- The reference's array is the same function of the two arguments. -/
theorem ref_eq (c : Dev nD) : G (V m c main_v1) (V m c main_v2) =
    Cert.KcSRefIdeal.Read.val_main_v2 (F := Ideal) (m ((c : Thread nD τ).loc main_arg0)) (m ((c : Thread nD τ).loc main_arg1)) := by
  rw [entry_v2]
  entry_read
  funext i
  idx_vars i
  open Cert.KcSRefIdeal.Read in
  pointwise [G, val_main_v2, val_main_v1, val_main_v0]

/-- The claim: both runs end with the same result. -/
theorem algebraic : Cert.algebraic_KcSIdeal_KcSRefIdeal := by
  pair_intro
  · run_from Cert.KcSIdeal.Value.run_blocks m g
  · run_from Cert.KcSRefIdeal.Value.run m' g'
    exact (Cert.KcSRefIdeal.Read.val_main_v2_eq _ _ ).trans ((final m c).trans (ref_eq m c)).symm

end Cert.KcSIdeal.Own

end
-- ==== Proof.VcSValue.lean ====
module

public import proofs.«01_k».proof.Defs
public import proofs.«01_k».proof.Proof.Gen.VcSIdeal.Value
public import proofs.«01_k».proof.Proof.Gen.VcSRefIdeal.Read
public import proofs.«01_k».proof.Proof.Gen.VcSRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.VcSIdeal.Own

open Cert.VcSIdeal Cert.VcSIdeal.Gen

variable (m : (ℓ : Loc nD τ sig) → Buf (Elt Ideal) ℓ)

/-- What the body computes at row `y 0` and column `y 1` of its block. -/
theorem pay_at (x : Vec Ideal S128x2048 .bf16) (w : Vec Ideal S2048x512 .bf16) (y : S128x512.Idx) :
    k0_pay1 (F := Ideal) x w y = ∑ k : Fin 2048, x (ix2 (y 0) k) * w (ix2 k (y 1)) := by
  pointwise [k0_pay1]

theorem idx : ∀ t : Fin cfg0.N, win0_0.index t = ![(grid0.coords t 0).val, 0]
    ∧ win0_1.index t = ![0, 21 + (grid0.coords t 1).val]
    ∧ win0_2.index t = ![(grid0.coords t 0).val, (grid0.coords t 1).val] :=
  (by decide +kernel : ∀ t : Fin grid0.N, _)

/-- The whole result: rows of the first operand against the columns of the second from 10752 on. -/
def G (X : FVec Ideal S128x2048 .bf16) (W : FVec Ideal S2048x17456 .bf16) : FVec Ideal S128x512 .f32 := fun i =>
  ∑ k : Fin 2048, X (ix2 (i 0) k) * W (ix2 k ⟨10752 + (i 1).val, by have : (i 1).val < 512 := (i 1).isLt; omega⟩)

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨10752 + 512 * (grid0.coords t 1).val + j.val, by have : (grid0.coords t 1).val < 1 := (grid0.coords t 1).isLt; omega⟩) := by
  unfold X0_1 Pipeline.Window.fill
  rw [dif_pos (moved0_1 t _)]
  blk_ext [iblk, idx t]

theorem point (c : Dev nD) (t : Fin cfg0.N) (y) : k0_pay1 (F := Ideal) (iblk m c 0 t) (X0_1 m c t) y
    = G (V m c main_v1) (V m c main_v2) (((cfg0.win 2).blk t).view.emb y) := by
  refine (pay_at _ _ _).trans ?_
  unfold G
  refine Finset.sum_congr rfl fun k _ => Ideal.mul_congr ?_ ((weight_at m c t k (y 1)).trans ?_) <;>
  blk_ext [iblk, idx t]

theorem final (c : Dev nD) : (dats m 0 c).arrAt 2 (cfgs 0).N = G (V m c main_v1) (V m c main_v2) := by
  refine (dats m 0 c).arrAt_eq_of_covers 2 _ (by decide +kernel) fun t _ y => ?_
  blk_simp
  rw [after0_2]; unfold outsAt0; frame_out
  exact point m c t y

/-- The region's second operand is the weight argument. -/
theorem entry_v2 (c : Dev nD) : V m c main_v2 = (m ((c : Thread nD τ).loc main_arg1) : FVec Ideal S2048x17456 .f32) := by
  funext i
  entry_read
  idx_vars i
  pointwise

/-- The reference's array is the same function of the two arguments. -/
theorem ref_eq (c : Dev nD) : G (V m c main_v1) (V m c main_v2) =
    Cert.VcSRefIdeal.Read.val_main_v2 (F := Ideal) (m ((c : Thread nD τ).loc main_arg0)) (m ((c : Thread nD τ).loc main_arg1)) := by
  rw [entry_v2]
  entry_read
  funext i
  idx_vars i
  open Cert.VcSRefIdeal.Read in
  pointwise [G, val_main_v2, val_main_v1, val_main_v0]

/-- The claim: both runs end with the same result. -/
theorem algebraic : Cert.algebraic_VcSIdeal_VcSRefIdeal := by
  pair_intro
  · run_from Cert.VcSIdeal.Value.run_blocks m g
  · run_from Cert.VcSRefIdeal.Value.run m' g'
    exact (Cert.VcSRefIdeal.Read.val_main_v2_eq _ _ ).trans ((final m c).trans (ref_eq m c)).symm

end Cert.VcSIdeal.Own

end
-- ==== Proof.VsSValue.lean ====
module

public import proofs.«01_k».proof.Defs
public import proofs.«01_k».proof.Proof.Gen.VsSIdeal.Value
public import proofs.«01_k».proof.Proof.Gen.VsSRefIdeal.Read
public import proofs.«01_k».proof.Proof.Gen.VsSRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.VsSIdeal.Own

open Cert.VsSIdeal Cert.VsSIdeal.Gen

variable (m : (ℓ : Loc nD τ sig) → Buf (Elt Ideal) ℓ)

/-- What the body computes at row `y 0` and column `y 1` of its block. -/
theorem pay_at (x : Vec Ideal S128x2048 .bf16) (w : Vec Ideal S2048x512 .bf16) (y : S128x512.Idx) :
    k0_pay1 (F := Ideal) x w y = ∑ k : Fin 2048, x (ix2 (y 0) k) * w (ix2 k (y 1)) := by
  pointwise [k0_pay1]

theorem idx : ∀ t : Fin cfg0.N, win0_0.index t = ![(grid0.coords t 0).val, 0]
    ∧ win0_1.index t = ![0, 23 + (grid0.coords t 1).val]
    ∧ win0_2.index t = ![(grid0.coords t 0).val, (grid0.coords t 1).val] :=
  (by decide +kernel : ∀ t : Fin grid0.N, _)

/-- The whole result: rows of the first operand against the columns of the second from 11776 on. -/
def G (X : FVec Ideal S128x2048 .bf16) (W : FVec Ideal S2048x17456 .bf16) : FVec Ideal S128x512 .f32 := fun i =>
  ∑ k : Fin 2048, X (ix2 (i 0) k) * W (ix2 k ⟨11776 + (i 1).val, by have : (i 1).val < 512 := (i 1).isLt; omega⟩)

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨11776 + 512 * (grid0.coords t 1).val + j.val, by have : (grid0.coords t 1).val < 1 := (grid0.coords t 1).isLt; omega⟩) := by
  unfold X0_1 Pipeline.Window.fill
  rw [dif_pos (moved0_1 t _)]
  blk_ext [iblk, idx t]

theorem point (c : Dev nD) (t : Fin cfg0.N) (y) : k0_pay1 (F := Ideal) (iblk m c 0 t) (X0_1 m c t) y
    = G (V m c main_v1) (V m c main_v2) (((cfg0.win 2).blk t).view.emb y) := by
  refine (pay_at _ _ _).trans ?_
  unfold G
  refine Finset.sum_congr rfl fun k _ => Ideal.mul_congr ?_ ((weight_at m c t k (y 1)).trans ?_) <;>
  blk_ext [iblk, idx t]

theorem final (c : Dev nD) : (dats m 0 c).arrAt 2 (cfgs 0).N = G (V m c main_v1) (V m c main_v2) := by
  refine (dats m 0 c).arrAt_eq_of_covers 2 _ (by decide +kernel) fun t _ y => ?_
  blk_simp
  rw [after0_2]; unfold outsAt0; frame_out
  exact point m c t y

/-- The region's second operand is the weight argument. -/
theorem entry_v2 (c : Dev nD) : V m c main_v2 = (m ((c : Thread nD τ).loc main_arg1) : FVec Ideal S2048x17456 .f32) := by
  funext i
  entry_read
  idx_vars i
  pointwise

/-- The reference's array is the same function of the two arguments. -/
theorem ref_eq (c : Dev nD) : G (V m c main_v1) (V m c main_v2) =
    Cert.VsSRefIdeal.Read.val_main_v2 (F := Ideal) (m ((c : Thread nD τ).loc main_arg0)) (m ((c : Thread nD τ).loc main_arg1)) := by
  rw [entry_v2]
  entry_read
  funext i
  idx_vars i
  open Cert.VsSRefIdeal.Read in
  pointwise [G, val_main_v2, val_main_v1, val_main_v0]

/-- The claim: both runs end with the same result. -/
theorem algebraic : Cert.algebraic_VsSIdeal_VsSRefIdeal := by
  pair_intro
  · run_from Cert.VsSIdeal.Value.run_blocks m g
  · run_from Cert.VsSRefIdeal.Value.run m' g'
    exact (Cert.VsSRefIdeal.Read.val_main_v2_eq _ _ ).trans ((final m c).trans (ref_eq m c)).symm

end Cert.VsSIdeal.Own

end
-- ==== Proof.KsSValue.lean ====
module

public import proofs.«01_k».proof.Defs
public import proofs.«01_k».proof.Proof.Gen.KsSIdeal.Value
public import proofs.«01_k».proof.Proof.Gen.KsSRefIdeal.Read
public import proofs.«01_k».proof.Proof.Gen.KsSRefIdeal.Run
public import proofs.«01_k».proof.Proof.HeadNorm
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KsSIdeal.Own

open Cert.KsSIdeal Cert.KsSIdeal.Gen

variable (m : (ℓ : Loc nD τ sig) → Buf (Elt Ideal) ℓ)

/-- Head `n` of a block of four, at row `y 0` and lane `y 1`: the product's lanes, normalised. -/
def tile (x : Vec Ideal S128x2048 .bf16) (w : Vec Ideal S2048x512 .bf16) (g : Vec Ideal S1x128 .f32) (n : Fin 4) (y : S128x128.Idx) :
    EReal :=
  Cert.Own.headNorm (fun e => ∑ k : Fin 2048, x (ix2 (y 0) k) * w (ix2 k ⟨128 * n.val + e.val, by omega⟩)) (g (ix2 0 (y 1))) (y 1)

theorem tile0_at (x : Vec Ideal S128x2048 .bf16) (w : Vec Ideal S2048x512 .bf16) (g : Vec Ideal S1x128 .f32) (y : S128x128.Idx) :
    k0_pay4 (F := Ideal) x w g y = tile x w g 0 y := by
  idx_vars y
  pointwise [k0_pay4, k0_pay3, tile, Cert.Own.headNorm]

theorem tile1_at (x : Vec Ideal S128x2048 .bf16) (w : Vec Ideal S2048x512 .bf16) (g : Vec Ideal S1x128 .f32) (y : S128x128.Idx) :
    k0_pay5 (F := Ideal) x w g y = tile x w g 1 y := by
  idx_vars y
  pointwise [k0_pay5, k0_pay3, tile, Cert.Own.headNorm]

theorem tile2_at (x : Vec Ideal S128x2048 .bf16) (w : Vec Ideal S2048x512 .bf16) (g : Vec Ideal S1x128 .f32) (y : S128x128.Idx) :
    k0_pay1 (F := Ideal) (k0_pay3 x w) g y = tile x w g 2 y := by
  idx_vars y
  pointwise [k0_pay1, k0_pay3, tile, Cert.Own.headNorm]

theorem tile3_at (x : Vec Ideal S128x2048 .bf16) (w : Vec Ideal S2048x512 .bf16) (g : Vec Ideal S1x128 .f32) (y : S128x128.Idx) :
    k0_pay2 (F := Ideal) (k0_pay3 x w) g y = tile x w g 3 y := by
  idx_vars y
  pointwise [k0_pay2, k0_pay3, tile, Cert.Own.headNorm]

theorem idx : ∀ t : Fin cfg0.N, win0_0.index t = ![(grid0.coords t 0).val, 0]
    ∧ win0_1.index t = ![0, 22 + (grid0.coords t 1).val] ∧ win0_2.index t = ![0, 0]
    ∧ win0_3.index t = ![(grid0.coords t 0).val, (grid0.coords t 1).val] :=
  (by decide +kernel : ∀ t : Fin grid0.N, _)

/-- The whole result: rows against the columns from 11264 on, normalised head by head. -/
def G (X : FVec Ideal S128x2048 .bf16) (W : FVec Ideal S2048x17456 .bf16) (g : FVec Ideal S1x128 .f32) :
    FVec Ideal S128x512 .f32 := fun i =>
  Cert.Own.headNorm (fun e => ∑ k : Fin 2048, X (ix2 (i 0) k)
      * W (ix2 k ⟨11264 + ((i 1).val / 128 * 128 + e.val), by have : (i 1).val < 512 := (i 1).isLt; omega⟩))
    (g (ix2 0 ⟨(i 1).val % 128, by omega⟩)) ⟨(i 1).val % 128, by omega⟩

/-- The weight's block at a point, read off the array: no point's block is cut at the array's edge. -/
theorem weight_at (c : Dev nD) (t : Fin cfg0.N) (k : Fin 2048) (j : Fin 512) :
    (X0_1 m c t : FVec Ideal S2048x512 .bf16) (ix2 k j) = (V m c main_v2 : FVec Ideal S2048x17456 .bf16)
      (ix2 k ⟨11264 + 512 * (grid0.coords t 1).val + j.val, by have : (grid0.coords t 1).val < 1 := (grid0.coords t 1).isLt; omega⟩) := by
  unfold X0_1 Pipeline.Window.fill
  rw [dif_pos (moved0_1 t _)]
  blk_ext [iblk, idx t]

/-- Head `n` of a point's block is the whole result there. -/
theorem tile_eq (c : Dev nD) (t : Fin cfg0.N) (n : Fin 4) (x : S128x128.Idx) (y : ((cfg0.win 3).xblock (cfg0.grid.coords t)).Idx)
    (h0 : (y 0).val = (x 0).val) (h1 : (y 1).val = 128 * n.val + (x 1).val) :
    tile (iblk m c 0 t) (X0_1 m c t) (iblk m c 2 t) n x
      = G (V m c main_v1) (V m c main_v2) (V m c main_v3) (((cfg0.win 3).blk t).view.emb y) := by
  have hx : (x 1).val < 128 := (x 1).isLt
  unfold tile G
  refine Cert.Own.headNorm_congr (fun e => Finset.sum_congr rfl fun k _ => Ideal.mul_congr ?_ ((weight_at m c t k _).trans ?_)) ?_ (Fin.ext ?_)
  · blk_ext [iblk, idx t]
  · blk_ext [iblk, idx t]
  · blk_ext [iblk, idx t]
  · blk_simp [idx t]
    show (x 1).val = (y 1).val % 128
    omega

theorem point (c : Dev nD) (t : Fin cfg0.N) (y : ((cfg0.win 3).xblock (cfg0.grid.coords t)).Idx) :
    outsAt0 m c t y = G (V m c main_v1) (V m c main_v2) (V m c main_v3) (((cfg0.win 3).blk t).view.emb y) := by
  unfold outsAt0; frame_out
  canon_tiles x h
  · exact (tile3_at _ _ _ x).trans (tile_eq m c t 3 x y (by omega) (by omega))
  · exact (tile2_at _ _ _ x).trans (tile_eq m c t 2 x y (by omega) (by omega))
  · exact (tile1_at _ _ _ x).trans (tile_eq m c t 1 x y (by omega) (by omega))
  · exact (tile0_at _ _ _ x).trans (tile_eq m c t 0 x y (by omega) (by omega))

theorem final (c : Dev nD) : (dats m 0 c).arrAt 3 (cfgs 0).N = G (V m c main_v1) (V m c main_v2) (V m c main_v3) := by
  refine (dats m 0 c).arrAt_eq_of_covers 3 _ (by decide +kernel) fun t _ y => ?_
  blk_simp
  rw [after0_3]
  exact point m c t y

/-- The region's operand `main_v1` reads the argument by row. -/
theorem entry_v1 (c : Dev nD) (a : Fin 128) (b : Fin 2048) : (V m c main_v1 : FVec Ideal S128x2048 .bf16) (ix2 a b) =
    (m ((c : Thread nD τ).loc main_arg0) : FVec Ideal S128x1x2048 .f32) (ix3 a 0 b) := by
  entry_read
  pointwise

/-- The region's second operand is the weight argument. -/
theorem entry_v2 (c : Dev nD) : V m c main_v2 = (m ((c : Thread nD τ).loc main_arg1) : FVec Ideal S2048x17456 .f32) := by
  funext i
  entry_read
  idx_vars i
  pointwise

/-- The region's third operand is the row of gains. -/
theorem entry_v3 (c : Dev nD) (b : Fin 128) : (V m c main_v3 : FVec Ideal S1x128 .f32) (ix2 0 b) =
    (m ((c : Thread nD τ).loc main_arg2) : FVec Ideal S128 .f32) (ix1 b) := by
  entry_read
  pointwise

/-- The reference's array is the same function of the arguments. -/
theorem ref_eq (c : Dev nD) : G (V m c main_v1) (V m c main_v2) (V m c main_v3) =
    Cert.KsSRefIdeal.Read.val_main_v16 (F := Ideal) (m ((c : Thread nD τ).loc main_arg0)) (m ((c : Thread nD τ).loc main_arg1))
      (m ((c : Thread nD τ).loc main_arg2)) := by
  rw [entry_v2]
  funext i
  idx_vars i
  unfold G
  refine (Cert.Own.headNorm_congr (fun e => Finset.sum_congr rfl fun k _ => Ideal.mul_congr (entry_v1 m c _ _) rfl) (entry_v3 m c _) rfl).trans ?_
  unfold Cert.Own.headNorm
  open Cert.KsSRefIdeal.Read in
  pointwise [Nat.div_add_mod', val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The claim: both runs end with the same result. -/
theorem algebraic : Cert.algebraic_KsSIdeal_KsSRefIdeal := by
  pair_intro
  · run_from Cert.KsSIdeal.Value.run_blocks m g
  · run_from Cert.KsSRefIdeal.Value.run m' g'
    exact (Cert.KsSRefIdeal.Read.val_main_v16_eq _ _ _ ).trans ((final m c).trans (ref_eq m c)).symm

end Cert.KsSIdeal.Own

end
-- ==== Proof.Compress.lean ====
module

public import Idealize.ShloMosaic.Lib.Pointwise
public import proofs.«01_k».proof.Proof.HeadNorm

@[expose] public section

noncomputable section

open Idealize.ShloMosaic

namespace Cert.Own

/-- Half a block's summary: sixteen rows, which lie side by side in `x`, of one head's lanes against that head's sixteen matrices. -/
def half (x : Fin 8192 → EReal) (w : Fin 16 → Fin 128 → EReal) (n : Fin 4) : EReal :=
  ∑ p : Fin 16, ∑ d : Fin 128, x ⟨512 * p.val + 128 * n.val + d.val, by omega⟩ * w p d

/-- The summary of block `a`: its own sixteen rows and the next sixteen; the last has no next and is zero. -/
def compressed (x : Fin 256 → Fin 8192 → EReal) (w : Fin 4 → Fin 16 → Fin 128 → Fin 256 → EReal) (a : Fin 256) (n : Fin 4)
    (b : Fin 128) : EReal :=
  if a.val = 255 then 0 else half (x a) (fun p d => w n p d ⟨b.val, by omega⟩) n
    + half (x ⟨(a.val + 1) % 256, by omega⟩) (fun p d => w n p d ⟨128 + b.val, by omega⟩) n

theorem compressed_congr {x x' : Fin 256 → Fin 8192 → EReal} {w w' : Fin 4 → Fin 16 → Fin 128 → Fin 256 → EReal} {a a' : Fin 256}
    {n n' : Fin 4} {b b' : Fin 128} (hx : ∀ i j, x i j = x' i j) (hw : ∀ i j k l, w i j k l = w' i j k l) (ha : a = a') (hn : n = n')
    (hb : b = b') : compressed x w a n b = compressed x' w' a' n' b' := by
  subst ha hn hb
  rw [funext fun i => funext (hx i), funext fun i => funext fun j => funext fun k => funext (hw i j k)]

/-- Sixteen terms, added from the left. -/
theorem sum16 (f : Fin 16 → EReal) : ∑ p, f p
    = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

/-- The two sums as the kernel adds them, and its choice of zero in the last row. -/
theorem compressed_sel (x : Fin 256 → Fin 8192 → EReal) (w : Fin 4 → Fin 16 → Fin 128 → Fin 256 → EReal) (a : Fin 256) (n : Fin 4)
    (b : Fin 128) : compressed x w a n b = Scalar.select (IntOp.cmpi CmpIPredicate.eq (BitVec.ofNat 32 a.val) 255#32) (0 : EReal)
      (half (x a) (fun p d => w n p d ⟨b.val, by omega⟩) n
        + half (x ⟨(a.val + 256 - 255) % 256, by omega⟩) (fun p d => w n p d ⟨128 + b.val, by omega⟩) n) := by
  have e : IntOp.cmpi CmpIPredicate.eq (BitVec.ofNat 32 a.val) 255#32 = if a.val = 255 then 1#1 else 0#1 := by
    show BitVec.ofBool (BitVec.ofNat 32 a.val == 255#32) = _
    by_cases h : a.val = 255
    · rw [h]; rfl
    · rw [if_neg h, beq_eq_false_iff_ne.mpr]; · rfl
      intro hh
      have := congrArg BitVec.toNat hh
      simp only [BitVec.toNat_ofNat] at this
      omega
  have e1 : (⟨(a.val + 256 - 255) % 256, by omega⟩ : Fin 256) = ⟨(a.val + 1) % 256, by omega⟩ := Fin.ext (by show (a.val + 256 - 255) % 256 = (a.val + 1) % 256; omega)
  rw [e, e1]
  unfold compressed
  by_cases h : a.val = 255
  · rw [if_pos h, if_pos h]; rfl
  · rw [if_neg h, if_neg h]; rfl

/-- The reference's order of the products and of the two sums. -/
theorem half_swap (x : Fin 8192 → EReal) (w : Fin 16 → Fin 128 → EReal) (n : Fin 4) :
    half x w n = ∑ d : Fin 128, ∑ p : Fin 16, w p d * x ⟨512 * p.val + 128 * n.val + d.val, by omega⟩ := by
  unfold half
  rw [Finset.sum_comm]
  exact Finset.sum_congr rfl fun d _ => Finset.sum_congr rfl fun p _ => mul_comm _ _

/-- The summary of a block which has a next one, over the rows by head and lane and the matrices by half, as the reference adds them. -/
theorem compressed_ref {x : Fin 256 → Fin 8192 → EReal} {w : Fin 4 → Fin 16 → Fin 128 → Fin 256 → EReal} {a : Fin 256}
    {n : Fin 4} {b : Fin 128} (A : Fin 4096 → Fin 4 → Fin 128 → EReal) (W : Fin 4 → Fin 2 → Fin 16 → Fin 128 → Fin 128 → EReal)
    (hx : ∀ i j, x i j = A ⟨i.val * 16 + j.val / 512, by omega⟩ ⟨j.val / 128 % 4, by omega⟩ ⟨j.val % 128, by omega⟩)
    (hl : ∀ (n : Fin 4) (p : Fin 16) (d b : Fin 128), w n p d ⟨b.val, by omega⟩ = W n 0 p d b)
    (hh : ∀ (n : Fin 4) (p : Fin 16) (d b : Fin 128), w n p d ⟨128 + b.val, by omega⟩ = W n 1 p d b) (h : a.val < 255) :
    compressed x w a n b = ∑ d : Fin 128, ∑ p : Fin 16, W n 0 p d b * A ⟨a.val * 16 + p.val, by omega⟩ n d
      + ∑ d : Fin 128, ∑ p : Fin 16, W n 1 p d b * A ⟨(1 + a.val) * 16 + p.val, by omega⟩ n d := by
  have hA : ∀ {i i' : Fin 4096} {n n' : Fin 4} {d d' : Fin 128}, i.val = i'.val → n.val = n'.val → d.val = d'.val → A i n d = A i' n' d' := by
    intro i i' n n' d d' e e' e''
    rw [Fin.ext e, Fin.ext e', Fin.ext e'']
  unfold compressed
  rw [if_neg (by omega), half_swap, half_swap]
  refine congrArg₂ (· + ·) ?_ ?_
  · refine Finset.sum_congr rfl fun d _ => Finset.sum_congr rfl fun p _ => ?_
    rw [hl, hx]
    exact congrArg _ (hA (by dsimp only; omega) (by dsimp only; omega) (by dsimp only; omega))
  · refine Finset.sum_congr rfl fun d _ => Finset.sum_congr rfl fun p _ => ?_
    rw [hh, hx]
    exact congrArg _ (hA (by dsimp only; omega) (by dsimp only; omega) (by dsimp only; omega))

/-- The last block's summary. -/
theorem compressed_last {x : Fin 256 → Fin 8192 → EReal} {w : Fin 4 → Fin 16 → Fin 128 → Fin 256 → EReal} {a : Fin 256}
    {n : Fin 4} {b : Fin 128} (h : ¬ a.val < 255) : compressed x w a n b = 0 := by
  unfold compressed
  rw [if_pos (by omega)]

end Cert.Own

end
-- ==== Proof.CompVValue.lean ====
module

public import proofs.«01_k».proof.Defs
public import proofs.«01_k».proof.Proof.Gen.CompVIdeal.Value
public import proofs.«01_k».proof.Proof.Gen.CompVRefIdeal.Read
public import proofs.«01_k».proof.Proof.Gen.CompVRefIdeal.Run
public import proofs.«01_k».proof.Proof.Compress
public import proofs.«01_k».proof.Proof.HeadNorm
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CompVIdeal.Own

open Cert.CompVIdeal Cert.CompVIdeal.Gen

variable (m : (ℓ : Loc nD τ sig) → Buf (Elt Ideal) ℓ)

/-- One head's summaries: block `a`, lane `b`. -/
def tile (x : Vec Ideal S1x256x8192 .f32) (w : Vec Ideal S4x16x128x256 .bf16) (g : Vec Ideal S1x128 .f32) (n : Fin 4) (a : Fin 256) (b : Fin 128) :
    EReal :=
  Cert.Own.compressed (fun a j => x (ix3 0 a j)) (fun n p d e => w (ix4 n p d e)) a n b

theorem tile_eq (x : Vec Ideal S1x256x8192 .f32) (w : Vec Ideal S4x16x128x256 .bf16) (g : Vec Ideal S1x128 .f32) (y : S1x256x512.Idx)
    (n : Fin 4) (a : Fin 256) (b : Fin 128) (h1 : (y 1).val = a.val) (h2 : (y 2).val = 128 * n.val + b.val) : tile x w g n a b
      = tile x w g ⟨(y 2).val / 128, by have : (y 2).val < 512 := (y 2).isLt; omega⟩ (y 1) ⟨(y 2).val % 128, by omega⟩ := by
  have e0 : y 1 = a := Fin.ext h1
  have e1 : (⟨(y 2).val / 128, by have : (y 2).val < 512 := (y 2).isLt; omega⟩ : Fin 4) = n := Fin.ext (by show (y 2).val / 128 = n.val; omega)
  have e2 : (⟨(y 2).val % 128, by omega⟩ : Fin 128) = b := Fin.ext (by show (y 2).val % 128 = b.val; omega)
  rw [e0, e1, e2]

set_option maxHeartbeats 8000000 in
/-- The body's output, from its blocks: each head's lanes from the head's own lanes. -/
theorem out_at (x : Vec Ideal S1x256x8192 .f32) (w : Vec Ideal S4x16x128x256 .bf16) (g : Vec Ideal S1x128 .f32) (y : S1x256x512.Idx) :
    out0_3 (F := Ideal) x w g y
      = tile x w g ⟨(y 2).val / 128, by have : (y 2).val < 512 := (y 2).isLt; omega⟩ (y 1) ⟨(y 2).val % 128, by omega⟩ := by
  unfold_out out0_3
  canon_tiles z h
  · refine (?_ : _ = tile x w g 3 (z 1) (z 2)).trans (tile_eq x w g y 3 (z 1) (z 2) (by omega) (by omega))
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, tile, Cert.Own.headNorm, Cert.Own.compressed_sel, Cert.Own.half, Cert.Own.sum16]
  · refine (?_ : _ = tile x w g 2 (z 1) (z 2)).trans (tile_eq x w g y 2 (z 1) (z 2) (by omega) (by omega))
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, tile, Cert.Own.headNorm, Cert.Own.compressed_sel, Cert.Own.half, Cert.Own.sum16]
  · refine (?_ : _ = tile x w g 1 (z 1) (z 2)).trans (tile_eq x w g y 1 (z 1) (z 2) (by omega) (by omega))
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, tile, Cert.Own.headNorm, Cert.Own.compressed_sel, Cert.Own.half, Cert.Own.sum16]
  · refine (?_ : _ = tile x w g 0 (z 1) (z 2)).trans (tile_eq x w g y 0 (z 1) (z 2) (by omega) (by omega))
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, tile, Cert.Own.headNorm, Cert.Own.compressed_sel, Cert.Own.half, Cert.Own.sum16]

/-- The whole result over the region's arrays. -/
def G (x : Vec Ideal S2x256x8192 .f32) (w : Vec Ideal S4x16x128x256 .bf16) (g : Vec Ideal S1x128 .f32) : FVec Ideal S2x256x512 .f32 := fun y =>
  Cert.Own.compressed (fun a j => x (ix3 (y 0) a j)) (fun n p d e => w (ix4 n p d e)) (y 1) ⟨(y 2).val / 128, by have : (y 2).val < 512 := (y 2).isLt; omega⟩ ⟨(y 2).val % 128, by omega⟩

theorem idx : ∀ t : Fin cfg0.N, win0_0.index t = ![(grid0.coords t 0).val, 0, 0] ∧ win0_1.index t = ![0, 0, 0, 0] ∧ win0_2.index t = ![0, 0]
    ∧ win0_3.index t = ![(grid0.coords t 0).val, 0, 0] := (by decide +kernel : ∀ t : Fin grid0.N, _)

theorem point (c : Dev nD) (t : Fin cfg0.N) (y) : out0_3 (F := Ideal) (iblk m c 0 t) (iblk m c 1 t) (iblk m c 2 t) y
    = G (V m c main_v0) (V m c main_v6) (V m c main_v7) (((cfg0.win 3).blk t).view.emb y) := by
  refine (out_at _ _ _ _).trans ?_
  unfold G tile
  refine Cert.Own.compressed_congr (fun _ _ => ?_) (fun _ _ _ _ => ?_) (Fin.ext ?_) (Fin.ext ?_) (Fin.ext ?_)
  all_goals first | (blk_ext [iblk, idx t]; done) | (blk_simp [idx t]; done)

theorem final (c : Dev nD) : (dats m 0 c).arrAt 3 (cfgs 0).N = G (V m c main_v0) (V m c main_v6) (V m c main_v7) := by
  refine (dats m 0 c).arrAt_eq_of_covers 3 _ (by decide +kernel) fun t _ y => ?_
  blk_simp
  rw [after0_3]
  exact point m c t y

/-- The region's operand `main_v0` lays sixteen rows side by side. -/
theorem entry_v0 (c : Dev nD) (s : Fin 2) (a : Fin 256) (b : Fin 8192) : (V m c main_v0 : FVec Ideal S2x256x8192 .f32) (ix3 s a b) =
    (m ((c : Thread nD τ).loc main_arg0) : FVec Ideal S2x4096x4x128 .f32)
      (ix4 s ⟨a.val * 16 + b.val / 512, by omega⟩ ⟨b.val / 128 % 4, by omega⟩ ⟨b.val % 128, by omega⟩) := by
  entry_read
  pointwise

/-- The first half of the region's matrices. -/
theorem entry_lo (c : Dev nD) (n : Fin 4) (p : Fin 16) (d b : Fin 128) :
    (V m c main_v6 : FVec Ideal S4x16x128x256 .bf16) (ix4 n p d ⟨b.val, by omega⟩) =
    (m ((c : Thread nD τ).loc main_arg1) : FVec Ideal S4x2x16x128x128 .f32) (ix5 n 0 p d b) := by
  entry_read
  pointwise

/-- The second half of the region's matrices. -/
theorem entry_hi (c : Dev nD) (n : Fin 4) (p : Fin 16) (d b : Fin 128) :
    (V m c main_v6 : FVec Ideal S4x16x128x256 .bf16) (ix4 n p d ⟨128 + b.val, by omega⟩) =
    (m ((c : Thread nD τ).loc main_arg1) : FVec Ideal S4x2x16x128x128 .f32) (ix5 n 1 p d b) := by
  entry_read
  pointwise

/-- The reference's array is the same function of the arguments. -/
theorem ref_eq (c : Dev nD) : G (V m c main_v0) (V m c main_v6) (V m c main_v7) =
    Cert.CompVRefIdeal.Read.val_main_v14 (F := Ideal) (m ((c : Thread nD τ).loc main_arg0)) (m ((c : Thread nD τ).loc main_arg1)) := by
  funext i
  idx_vars i
  unfold G
  have z : FloatOps.sitofp (F := Ideal) .f32 0#32 = (0 : EReal) := by show ((((0#32 : BitVec 32).toInt : ℝ)) : EReal) = 0; simp
  by_cases h : i1.val < 255
  · refine (Cert.Own.compressed_ref (fun r n d => (m ((c : Thread nD τ).loc main_arg0) : FVec Ideal S2x4096x4x128 .f32) (ix4 i0 r n d)) (fun n h p d e => (m ((c : Thread nD τ).loc main_arg1) : FVec Ideal S4x2x16x128x128 .f32) (ix5 n h p d e)) (fun _ _ => entry_v0 m c _ _ _) (entry_lo m c) (entry_hi m c) h).trans ?_
    have hp : ∀ p : Fin 16, i1.val * 16 + p.val < 4096 := fun p => by omega
    have hq : ∀ p : Fin 16, (1 + i1.val) * 16 + p.val < 4096 := fun p => by omega
    have hn : i2.val / 128 < 4 := by omega
    open Cert.CompVRefIdeal.Read in
    pointwise [val_main_c, val_main_call0_v0, val_main_v0, val_main_v1, val_main_v2, val_main_v3, val_main_v4, val_main_v5, val_main_v6, val_main_v7, val_main_v8, val_main_v9, val_main_v10, val_main_v11, val_main_v12, val_main_v13, val_main_c_0, val_main_call1_v0, val_main_v14]
    simp only [h, hp, hq, hn, and_self, ↓reduceDIte]
  · refine Eq.trans (b := (0 : EReal)) (Cert.Own.compressed_last h) ?_
    open Cert.CompVRefIdeal.Read in
    pointwise [val_main_c, val_main_call0_v0, val_main_v0, val_main_v1, val_main_v2, val_main_v3, val_main_v4, val_main_v5, val_main_v6, val_main_v7, val_main_v8, val_main_v9, val_main_v10, val_main_v11, val_main_v12, val_main_v13, val_main_c_0, val_main_call1_v0, val_main_v14]
    rw [dif_neg h, z]

/-- The claim: both runs end with the same result. -/
theorem algebraic : Cert.algebraic_CompVIdeal_CompVRefIdeal := by
  pair_intro
  · run_from Cert.CompVIdeal.Value.run_blocks m g
  · run_from Cert.CompVRefIdeal.Value.run m' g'
    exact (Cert.CompVRefIdeal.Read.val_main_v14_eq _ _ ).trans ((final m c).trans (ref_eq m c)).symm

end Cert.CompVIdeal.Own

end
-- ==== Proof.CompKValue.lean ====
module

public import proofs.«01_k».proof.Defs
public import proofs.«01_k».proof.Proof.Gen.CompKIdeal.Value
public import proofs.«01_k».proof.Proof.Gen.CompKRefIdeal.Read
public import proofs.«01_k».proof.Proof.Gen.CompKRefIdeal.Run
public import proofs.«01_k».proof.Proof.Compress
public import proofs.«01_k».proof.Proof.HeadNorm
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CompKIdeal.Own

open Cert.CompKIdeal Cert.CompKIdeal.Gen

variable (m : (ℓ : Loc nD τ sig) → Buf (Elt Ideal) ℓ)

/-- One head's summaries: block `a`, lane `b`, normalised. -/
def tile (x : Vec Ideal S1x256x8192 .f32) (w : Vec Ideal S4x16x128x256 .bf16) (g : Vec Ideal S1x128 .f32) (n : Fin 4) (a : Fin 256) (b : Fin 128) :
    EReal :=
  Cert.Own.headNorm (fun e => Cert.Own.compressed (fun a j => x (ix3 0 a j)) (fun n p d e => w (ix4 n p d e)) a n e) (g (ix2 0 b)) b

theorem tile_eq (x : Vec Ideal S1x256x8192 .f32) (w : Vec Ideal S4x16x128x256 .bf16) (g : Vec Ideal S1x128 .f32) (y : S1x256x512.Idx)
    (n : Fin 4) (a : Fin 256) (b : Fin 128) (h1 : (y 1).val = a.val) (h2 : (y 2).val = 128 * n.val + b.val) : tile x w g n a b
      = tile x w g ⟨(y 2).val / 128, by have : (y 2).val < 512 := (y 2).isLt; omega⟩ (y 1) ⟨(y 2).val % 128, by omega⟩ := by
  have e0 : y 1 = a := Fin.ext h1
  have e1 : (⟨(y 2).val / 128, by have : (y 2).val < 512 := (y 2).isLt; omega⟩ : Fin 4) = n := Fin.ext (by show (y 2).val / 128 = n.val; omega)
  have e2 : (⟨(y 2).val % 128, by omega⟩ : Fin 128) = b := Fin.ext (by show (y 2).val % 128 = b.val; omega)
  rw [e0, e1, e2]

set_option maxHeartbeats 8000000 in
/-- The body's output, from its blocks: each head's lanes from the head's own lanes. -/
theorem out_at (x : Vec Ideal S1x256x8192 .f32) (w : Vec Ideal S4x16x128x256 .bf16) (g : Vec Ideal S1x128 .f32) (y : S1x256x512.Idx) :
    out0_3 (F := Ideal) x w g y
      = tile x w g ⟨(y 2).val / 128, by have : (y 2).val < 512 := (y 2).isLt; omega⟩ (y 1) ⟨(y 2).val % 128, by omega⟩ := by
  unfold_out out0_3
  canon_tiles z h
  · refine (?_ : _ = tile x w g 3 (z 1) (z 2)).trans (tile_eq x w g y 3 (z 1) (z 2) (by omega) (by omega))
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, tile, Cert.Own.headNorm, Cert.Own.compressed_sel, Cert.Own.half, Cert.Own.sum16]
  · refine (?_ : _ = tile x w g 2 (z 1) (z 2)).trans (tile_eq x w g y 2 (z 1) (z 2) (by omega) (by omega))
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, tile, Cert.Own.headNorm, Cert.Own.compressed_sel, Cert.Own.half, Cert.Own.sum16]
  · refine (?_ : _ = tile x w g 1 (z 1) (z 2)).trans (tile_eq x w g y 1 (z 1) (z 2) (by omega) (by omega))
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, tile, Cert.Own.headNorm, Cert.Own.compressed_sel, Cert.Own.half, Cert.Own.sum16]
  · refine (?_ : _ = tile x w g 0 (z 1) (z 2)).trans (tile_eq x w g y 0 (z 1) (z 2) (by omega) (by omega))
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, tile, Cert.Own.headNorm, Cert.Own.compressed_sel, Cert.Own.half, Cert.Own.sum16]

/-- The whole result over the region's arrays. -/
def G (x : Vec Ideal S2x256x8192 .f32) (w : Vec Ideal S4x16x128x256 .bf16) (g : Vec Ideal S1x128 .f32) : FVec Ideal S2x256x512 .f32 := fun y =>
  Cert.Own.headNorm (fun e => Cert.Own.compressed (fun a j => x (ix3 (y 0) a j)) (fun n p d e => w (ix4 n p d e)) (y 1) ⟨(y 2).val / 128, by have : (y 2).val < 512 := (y 2).isLt; omega⟩ e) (g (ix2 0 ⟨(y 2).val % 128, by omega⟩)) ⟨(y 2).val % 128, by omega⟩

theorem idx : ∀ t : Fin cfg0.N, win0_0.index t = ![(grid0.coords t 0).val, 0, 0] ∧ win0_1.index t = ![0, 0, 0, 0] ∧ win0_2.index t = ![0, 0]
    ∧ win0_3.index t = ![(grid0.coords t 0).val, 0, 0] := (by decide +kernel : ∀ t : Fin grid0.N, _)

theorem point (c : Dev nD) (t : Fin cfg0.N) (y) : out0_3 (F := Ideal) (iblk m c 0 t) (iblk m c 1 t) (iblk m c 2 t) y
    = G (V m c main_v0) (V m c main_v6) (V m c main_v7) (((cfg0.win 3).blk t).view.emb y) := by
  refine (out_at _ _ _ _).trans ?_
  unfold G tile
  refine Cert.Own.headNorm_congr (fun _ => Cert.Own.compressed_congr (fun _ _ => ?_) (fun _ _ _ _ => ?_) (Fin.ext ?_) (Fin.ext ?_) rfl) ?_ (Fin.ext ?_)
  all_goals first | (blk_ext [iblk, idx t]; done) | (blk_simp [idx t]; done)

theorem final (c : Dev nD) : (dats m 0 c).arrAt 3 (cfgs 0).N = G (V m c main_v0) (V m c main_v6) (V m c main_v7) := by
  refine (dats m 0 c).arrAt_eq_of_covers 3 _ (by decide +kernel) fun t _ y => ?_
  blk_simp
  rw [after0_3]
  exact point m c t y

/-- The region's operand `main_v0` lays sixteen rows side by side. -/
theorem entry_v0 (c : Dev nD) (s : Fin 2) (a : Fin 256) (b : Fin 8192) : (V m c main_v0 : FVec Ideal S2x256x8192 .f32) (ix3 s a b) =
    (m ((c : Thread nD τ).loc main_arg0) : FVec Ideal S2x4096x4x128 .f32)
      (ix4 s ⟨a.val * 16 + b.val / 512, by omega⟩ ⟨b.val / 128 % 4, by omega⟩ ⟨b.val % 128, by omega⟩) := by
  entry_read
  pointwise

/-- The first half of the region's matrices. -/
theorem entry_lo (c : Dev nD) (n : Fin 4) (p : Fin 16) (d b : Fin 128) :
    (V m c main_v6 : FVec Ideal S4x16x128x256 .bf16) (ix4 n p d ⟨b.val, by omega⟩) =
    (m ((c : Thread nD τ).loc main_arg1) : FVec Ideal S4x2x16x128x128 .f32) (ix5 n 0 p d b) := by
  entry_read
  pointwise

/-- The second half of the region's matrices. -/
theorem entry_hi (c : Dev nD) (n : Fin 4) (p : Fin 16) (d b : Fin 128) :
    (V m c main_v6 : FVec Ideal S4x16x128x256 .bf16) (ix4 n p d ⟨128 + b.val, by omega⟩) =
    (m ((c : Thread nD τ).loc main_arg1) : FVec Ideal S4x2x16x128x128 .f32) (ix5 n 1 p d b) := by
  entry_read
  pointwise

/-- The region's operand `main_v7` is the gain. -/
theorem entry_v7 (c : Dev nD) (b : Fin 128) : (V m c main_v7 : FVec Ideal S1x128 .f32) (ix2 0 b) =
    (m ((c : Thread nD τ).loc main_arg2) : FVec Ideal S128 .f32) (ix1 b) := by
  entry_read
  pointwise

/-- The reference's array is the same function of the arguments. -/
theorem ref_eq (c : Dev nD) : G (V m c main_v0) (V m c main_v6) (V m c main_v7) =
    Cert.CompKRefIdeal.Read.val_main_v27 (F := Ideal) (m ((c : Thread nD τ).loc main_arg0)) (m ((c : Thread nD τ).loc main_arg1)) (m ((c : Thread nD τ).loc main_arg2)) := by
  funext i
  idx_vars i
  unfold G
  have z : FloatOps.sitofp (F := Ideal) .f32 0#32 = (0 : EReal) := by show ((((0#32 : BitVec 32).toInt : ℝ)) : EReal) = 0; simp
  by_cases h : i1.val < 255
  · refine (Cert.Own.headNorm_congr (fun e => Cert.Own.compressed_ref (fun r n d => (m ((c : Thread nD τ).loc main_arg0) : FVec Ideal S2x4096x4x128 .f32) (ix4 i0 r n d)) (fun n h p d e => (m ((c : Thread nD τ).loc main_arg1) : FVec Ideal S4x2x16x128x128 .f32) (ix5 n h p d e)) (fun _ _ => entry_v0 m c _ _ _) (entry_lo m c) (entry_hi m c) h) (entry_v7 m c _) rfl).trans ?_
    have hp : ∀ p : Fin 16, i1.val * 16 + p.val < 4096 := fun p => by omega
    have hq : ∀ p : Fin 16, (1 + i1.val) * 16 + p.val < 4096 := fun p => by omega
    have hn : i2.val / 128 < 4 := by omega
    open Cert.CompKRefIdeal.Read in
    pointwise [Cert.Own.headNorm, val_main_c, val_main_call0_v0, val_main_v0, val_main_v1, val_main_v2, val_main_v3, val_main_v4, val_main_v5, val_main_v6, val_main_v7, val_main_v8, val_main_v9, val_main_v10, val_main_v11, val_main_v12, val_main_v13, val_main_cst, val_main_v14, val_main_v15, val_main_cst_0, val_main_v16, val_main_v17, val_main_cst_1, val_main_v18, val_main_v19, val_main_v20, val_main_v21, val_main_v22, val_main_v23, val_main_v24, val_main_v25, val_main_v26, val_main_c_2, val_main_call1_v0, val_main_v27]
    simp only [h, hp, hq, hn, and_self, ↓reduceDIte]
  · refine Eq.trans (b := (0 : EReal)) ((Cert.Own.headNorm_congr (fun e => Cert.Own.compressed_last h) rfl rfl).trans (by unfold Cert.Own.headNorm; simp only [zero_mul])) ?_
    open Cert.CompKRefIdeal.Read in
    pointwise [val_main_c, val_main_call0_v0, val_main_v0, val_main_v1, val_main_v2, val_main_v3, val_main_v4, val_main_v5, val_main_v6, val_main_v7, val_main_v8, val_main_v9, val_main_v10, val_main_v11, val_main_v12, val_main_v13, val_main_cst, val_main_v14, val_main_v15, val_main_cst_0, val_main_v16, val_main_v17, val_main_cst_1, val_main_v18, val_main_v19, val_main_v20, val_main_v21, val_main_v22, val_main_v23, val_main_v24, val_main_v25, val_main_v26, val_main_c_2, val_main_call1_v0, val_main_v27]
    rw [dif_neg h, z]

/-- The claim: both runs end with the same result. -/
theorem algebraic : Cert.algebraic_CompKIdeal_CompKRefIdeal := by
  pair_intro
  · run_from Cert.CompKIdeal.Value.run_blocks m g
  · run_from Cert.CompKRefIdeal.Value.run m' g'
    refine (Cert.CompKRefIdeal.Read.val_main_v27_eq _ _).trans ?_
    rw [(hagree c).1, (hagree c).2.1, (hagree c).2.2]
    exact ((final m c).trans (ref_eq m c)).symm

end Cert.CompKIdeal.Own

end
-- ==== Proof.TailValue.lean ====
module

public import proofs.«01_k».proof.Defs
public import proofs.«01_k».proof.Proof.Gen.TailIdeal.Value
public import proofs.«01_k».proof.Proof.Gen.TailRefIdeal.Read
public import proofs.«01_k».proof.Proof.Gen.TailRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.TailIdeal.Own

open Cert.TailIdeal Cert.TailIdeal.Gen

variable (m : (ℓ : Loc nD τ sig) → Buf (Elt Ideal) ℓ)

/-- One head of the tail: row `a` of the new rows' 128 lanes against column `b` of the second half of the head's first matrix. -/
def tile (x : Vec Ideal S128x512 .f32) (w : Vec Ideal S4x16x128x256 .bf16) (n : Fin 4) (a b : Fin 128) : EReal :=
  ∑ d : Fin 128, x (ix2 a ⟨128 * n.val + d.val, by omega⟩) * w (ix4 n 0 d ⟨128 + b.val, by omega⟩)

/-- The whole result: each head's columns from the head's own lanes. -/
def G (x : Vec Ideal S128x512 .f32) (w : Vec Ideal S4x16x128x256 .bf16) : FVec Ideal S128x512 .f32 := fun y =>
  tile x w ⟨(y 1).val / 128, by have : (y 1).val < 512 := (y 1).isLt; omega⟩ (y 0) ⟨(y 1).val % 128, by omega⟩

theorem G_eq (x : Vec Ideal S128x512 .f32) (w : Vec Ideal S4x16x128x256 .bf16) (y : S128x512.Idx) (n : Fin 4) (a b : Fin 128)
    (h0 : (y 0).val = a.val) (h1 : (y 1).val = 128 * n.val + b.val) : tile x w n a b = G x w y := by
  have e0 : (y 0) = a := Fin.ext h0
  have e1 : (⟨(y 1).val / 128, by have : (y 1).val < 512 := (y 1).isLt; omega⟩ : Fin 4) = n := Fin.ext (by show (y 1).val / 128 = n.val; omega)
  have e2 : (⟨(y 1).val % 128, by omega⟩ : Fin 128) = b := Fin.ext (by show (y 1).val % 128 = b.val; omega)
  unfold G
  rw [e0, e1, e2]

/-- The body's output, from its two blocks. -/
theorem out_at (x : Vec Ideal S128x512 .f32) (w : Vec Ideal S4x16x128x256 .bf16) (y : S128x512.Idx) :
    out0_2 (F := Ideal) x w y = G x w y := by
  frame_out
  canon_tiles z h
  · refine Eq.trans ?_ (G_eq x w y 3 (z 0) (z 1) h0 h1)
    idx_vars z
    pointwise [k0_pay1, k0_pay5, tile]
  · refine Eq.trans ?_ (G_eq x w y 2 (z 0) (z 1) h0 h1)
    idx_vars z
    pointwise [k0_pay4, tile]
  · refine Eq.trans ?_ (G_eq x w y 1 (z 0) (z 1) h0 h1)
    idx_vars z
    pointwise [k0_pay3, tile]
  · refine Eq.trans ?_ (G_eq x w y 0 (z 0) (z 1) (by omega) (by simpa using h1))
    idx_vars z
    pointwise [k0_pay2, tile]

theorem idx : ∀ t : Fin cfg0.N, win0_0.index t = ![0, 0] ∧ win0_1.index t = ![0, 0, 0, 0] ∧ win0_2.index t = ![0, 0] :=
  (by decide +kernel : ∀ t : Fin grid0.N, _)

theorem point (c : Dev nD) (t : Fin cfg0.N) (y) : out0_2 (F := Ideal) (iblk m c 0 t) (iblk m c 1 t) y
    = G (V m c main_v0) (V m c main_v6) (((cfg0.win 2).blk t).view.emb y) := by
  refine (out_at _ _ _).trans ?_
  unfold G tile
  refine Finset.sum_congr rfl fun d _ => Ideal.mul_congr ?_ ?_ <;>
  blk_ext [iblk, idx t]

theorem final (c : Dev nD) : (dats m 0 c).arrAt 2 (cfgs 0).N = G (V m c main_v0) (V m c main_v6) := by
  refine (dats m 0 c).arrAt_eq_of_covers 2 _ (by decide +kernel) fun t _ y => ?_
  blk_simp
  rw [after0_2]
  exact point m c t y

/-- The region's operand `main_v0` reads the new rows by head and lane. -/
theorem entry_v0 (c : Dev nD) (a : Fin 128) (b : Fin 512) : (V m c main_v0 : FVec Ideal S128x512 .f32) (ix2 a b) =
    (m ((c : Thread nD τ).loc main_arg0) : FVec Ideal S128x1x4x128 .f32) (ix4 a 0 ⟨b.val / 128, by omega⟩ ⟨b.val % 128, by omega⟩) := by
  entry_read
  pointwise

/-- The second half of the region's matrices is the second half of the argument. -/
theorem entry_v6 (c : Dev nD) (n : Fin 4) (p : Fin 16) (d b : Fin 128) :
    (V m c main_v6 : FVec Ideal S4x16x128x256 .bf16) (ix4 n p d ⟨128 + b.val, by omega⟩) =
    (m ((c : Thread nD τ).loc main_arg1) : FVec Ideal S4x2x16x128x128 .f32) (ix5 n 1 p d b) := by
  entry_read
  pointwise

/-- The reference's array is the same function of the two arguments. -/
theorem ref_eq (c : Dev nD) : G (V m c main_v0) (V m c main_v6) =
    Cert.TailRefIdeal.Read.val_main_v5 (F := Ideal) (m ((c : Thread nD τ).loc main_arg0)) (m ((c : Thread nD τ).loc main_arg1)) := by
  funext i
  idx_vars i
  unfold G tile
  refine (Finset.sum_congr rfl fun d _ => Ideal.mul_congr (entry_v0 m c _ _) (entry_v6 m c _ _ _ _)).trans ?_
  open Cert.TailRefIdeal.Read in
  pointwise [val_main_v5, val_main_v4, val_main_v3, val_main_v2, val_main_v1, val_main_v0]
  refine Finset.sum_congr rfl fun d _ => (mul_comm _ _).trans (Ideal.mul_congr rfl (congrArg _ ?_))
  rw [show (⟨(128 * (i1.val / 128) + d.val) / 128, by omega⟩ : Fin 4) = ⟨i1.val / 128, by omega⟩ from Fin.ext (by show (128 * (i1.val / 128) + d.val) / 128 = i1.val / 128; omega),
    show (⟨(128 * (i1.val / 128) + d.val) % 128, by omega⟩ : Fin 128) = d from Fin.ext (by show (128 * (i1.val / 128) + d.val) % 128 = d.val; omega)]

/-- The claim: both runs end with the same result. -/
theorem algebraic : Cert.algebraic_TailIdeal_TailRefIdeal := by
  pair_intro
  · run_from Cert.TailIdeal.Value.run_blocks m g
  · run_from Cert.TailRefIdeal.Value.run m' g'
    exact (Cert.TailRefIdeal.Read.val_main_v5_eq _ _ ).trans ((final m c).trans (ref_eq m c)).symm

end Cert.TailIdeal.Own

end
-- ==== Proof.HgSValue.lean ====
module

public import proofs.«01_k».proof.Defs
public import proofs.«01_k».proof.Proof.Gen.HgSIdeal.Value
public import proofs.«01_k».proof.Proof.Gen.HgSRefIdeal.Read
public import proofs.«01_k».proof.Proof.Gen.HgSRefIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HgSIdeal.Own

open Cert.HgSIdeal Cert.HgSIdeal.Gen

variable (m : (ℓ : Loc nD τ sig) → Buf (Elt Ideal) ℓ)

/-- The forget gate at lane `k` of sample `n`, from the block of lower bounds and the block of raw gates. -/
def gate (lo : Vec Ideal S1x128x1 .f32) (z : Vec Ideal S1x128x128 .f32) (k n : Fin 128) : EReal := k0_pay1 lo lo z (ix2 k n)

/-- The forget gate of one lower bound and one raw gate. -/
def forget (l z : EReal) : EReal := l + (1 - l) * Ideal.div 1 (1 + Ideal.exp (-z))

theorem gate_eq (lo : Vec Ideal S1x128x1 .f32) (z : Vec Ideal S1x128x128 .f32) (k n : Fin 128) :
    gate lo z k n = forget (lo (ix3 0 k 0)) (z (ix3 0 k n)) := by
  pointwise [gate, forget, k0_pay1, zero_sub]

/-- One step of the recurrence for sample `n`: entry `(k, d)` of the new state. -/
def step (z : Vec Ideal S1x128x128 .f32) (zi : Vec Ideal S128x128 .f32) (lo : Vec Ideal S1x128x1 .f32) (s : Vec Ideal S1x128x1x128x128 .f32)
    (n k d : Fin 128) : EReal :=
  gate lo z k n * s (ix5 0 n 0 k d) + (1 - gate lo z k n) * zi (ix2 n d)

theorem step_eq (z : Vec Ideal S1x128x128 .f32) (zi : Vec Ideal S128x128 .f32) (lo : Vec Ideal S1x128x1 .f32)
    (s : Vec Ideal S1x128x1x128x128 .f32) (y : S128x1x128x128.Idx) (n k d : Fin 128) (h0 : (y 0).val = n.val) (h2 : (y 2).val = k.val)
    (h3 : (y 3).val = d.val) : step z zi lo s n k d = step z zi lo s (y 0) (y 2) (y 3) := by
  have e0 : y 0 = n := Fin.ext h0
  have e1 : y 2 = k := Fin.ext h2
  have e2 : y 3 = d := Fin.ext h3
  rw [e0, e1, e2]

set_option maxHeartbeats 40000000 in
theorem out_at (c : Dev nD) (t : Fin cfg0.N) (y : S128x1x128x128.Idx) :
    (outsAt0 m c t).2 y = step (iblk m c 1 t) (iblk m c 2 t) (iblk m c 4 t) (iblk m c 6 t) (y 0) (y 2) (y 3) := by
  unfold outsAt0; frame_out
  generalize (iblk m c 1 t : Vec Ideal S1x128x128 .f32) = z1
  generalize (iblk m c 2 t : Vec Ideal S128x128 .f32) = z2
  generalize (iblk m c 4 t : Vec Ideal S1x128x1 .f32) = lo
  generalize (iblk m c 6 t : Vec Ideal S1x128x1x128x128 .f32) = st
  canon_tiles z h
  all_goals
    have hz : (z 0).val = 0 := by omega
    simp only [hz, Nat.add_zero] at h0
    refine Eq.trans ?_ (step_eq z1 z2 lo st y ⟨_, h0 ▸ (y 0).isLt⟩ (z 2) (z 3) h0 h2 h3)
    idx_vars z
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, step, gate]

/-- The whole new state over the region's arrays: sample, head, lane of the key, lane of the value. -/
def G (z : Vec Ideal S16x128x128 .f32) (x : Vec Ideal S128x8192 .f32) (lo : Vec Ideal S16x128x1 .f32) (s : Vec Ideal S2x128x16x128x128 .f32) :
    FVec Ideal S128x16x128x128 .f32 := fun y =>
  forget (lo (ix3 (y 1) (y 2) 0)) (z (ix3 (y 1) (y 2) (y 0))) * s (ix5 0 (y 0) (y 1) (y 2) (y 3))
    + (1 - forget (lo (ix3 (y 1) (y 2) 0)) (z (ix3 (y 1) (y 2) (y 0))))
      * x (ix2 (y 0) ⟨4096 + ((y 1).val * 128 + (y 3).val), by
          have h1 : (y 1).val < 16 := (y 1).isLt
          have h3 : (y 3).val < 128 := (y 3).isLt
          omega⟩)

theorem idx : ∀ t : Fin cfg0.N, win0_1.index t = ![(grid0.coords t 0).val, 0, 0] ∧ win0_2.index t = ![0, 32 + (grid0.coords t 0).val]
    ∧ win0_4.index t = ![(grid0.coords t 0).val, 0, 0] ∧ win0_6.index t = ![0, 0, (grid0.coords t 0).val, 0, 0]
    ∧ win0_8.index t = ![0, (grid0.coords t 0).val, 0, 0] := (by decide +kernel : ∀ t : Fin grid0.N, _)

set_option maxHeartbeats 4000000 in
theorem point (c : Dev nD) (t : Fin cfg0.N) (y) : (outsAt0 m c t).2 y
    = G (V m c main_v8) (V m c main_v0) (V m c main_v9) (V m c main_arg3) (((cfg0.win 8).blk t).view.emb y) := by
  refine (out_at m c t y).trans ?_
  unfold step G
  refine congrArg₂ (· + ·) (Ideal.mul_congr ((gate_eq _ _ _ _).trans (congrArg₂ forget ?_ ?_)) ?_)
    (Ideal.mul_congr (congrArg (1 - ·) ((gate_eq _ _ _ _).trans (congrArg₂ forget ?_ ?_))) ?_)
  all_goals blk_ext [iblk, idx t]

theorem final (c : Dev nD) : (dats m 0 c).arrAt 8 (cfgs 0).N = G (V m c main_v8) (V m c main_v0) (V m c main_v9) (V m c main_arg3) := by
  refine (dats m 0 c).arrAt_eq_of_covers 8 _ (by decide +kernel) fun t _ y => ?_
  blk_simp
  rw [after0_8]
  exact point m c t y

/-- The region's operand `main_v0` is the argument without its unit axis. -/
theorem entry_v0 (c : Dev nD) (a : Fin 128) (b : Fin 8192) : (V m c main_v0 : FVec Ideal S128x8192 .f32) (ix2 a b) =
    (m ((c : Thread nD τ).loc main_arg0) : FVec Ideal S128x1x8192 .f32) (ix3 a 0 b) := by
  entry_read
  pointwise

/-- The region's operand `main_v8` is the raw gates by head, lane and sample. -/
theorem entry_v8 (c : Dev nD) (h : Fin 16) (k n : Fin 128) : (V m c main_v8 : FVec Ideal S16x128x128 .f32) (ix3 h k n) =
    (m ((c : Thread nD τ).loc main_arg0) : FVec Ideal S128x1x8192 .f32) (ix3 n 0 ⟨2048 + (h.val * 128 + k.val), by omega⟩) := by
  entry_read
  pointwise

/-- The region's operand `main_v9` is the lower bounds by head and lane. -/
theorem entry_v9 (c : Dev nD) (h : Fin 16) (k : Fin 128) : (V m c main_v9 : FVec Ideal S16x128x1 .f32) (ix3 h k 0) =
    (m ((c : Thread nD τ).loc main_arg1) : FVec Ideal S2048 .f32) (ix1 ⟨h.val * 128 + k.val, by omega⟩) := by
  entry_read
  pointwise

/-- The reference's new state is the same function of the arguments. -/
theorem ref_eq (c : Dev nD) : G (V m c main_v8) (V m c main_v0) (V m c main_v9) (V m c main_arg3) =
    Cert.HgSRefIdeal.Read.val_main_v29 (F := Ideal) (m ((c : Thread nD τ).loc main_arg0)) (m ((c : Thread nD τ).loc main_arg1))
      (m ((c : Thread nD τ).loc main_arg3)) := by
  funext i
  idx_vars i
  unfold G
  have hf : ∀ (h : Fin 16) (k n : Fin 128), _ := fun h k n => congrArg₂ forget (entry_v9 m c h k) (entry_v8 m c h k n)
  refine (congrArg₂ (· + ·) (Ideal.mul_congr (hf _ _ _) (congrFun (V_main_arg3 m c) _))
    (Ideal.mul_congr (congrArg (1 - ·) (hf _ _ _)) (entry_v0 m c _ _))).trans ?_
  open Cert.HgSRefIdeal.Read in
  pointwise [forget, val_main_v0, val_main_v1, val_main_cst, val_main_v2, val_main_v3, val_main_v4, val_main_v5, val_main_cst_0, val_main_v6, val_main_v7, val_main_cst_1, val_main_v8, val_main_v9, val_main_v10, val_main_v11, val_main_v12, val_main_v13, val_main_v14, val_main_v15, val_main_v16, val_main_v17, val_main_v18, val_main_v19, val_main_v20, val_main_v21, val_main_cst_2, val_main_v22, val_main_v23, val_main_v24, val_main_v25, val_main_v26, val_main_v27, val_main_v28, val_main_v29]

/-- The claim: both runs end with the same result. -/
theorem algebraic : Cert.algebraic_HgSIdeal_HgSRefIdeal := by
  pair_intro
  · run_from Cert.HgSIdeal.Value.run_blocks m g
  · run_from Cert.HgSRefIdeal.Value.run m' g'
    exact (Cert.HgSRefIdeal.Read.val_main_v29_eq _ _ _ ).trans ((final m c).trans (ref_eq m c)).symm

end Cert.HgSIdeal.Own

end
-- ==== Proof.lean ====
module

public import proofs.«01_k».proof.Defs
public import proofs.«01_k».proof.Proof.Gen.Cmp
public import proofs.«01_k».proof.Proof.Gen.Cmp.Frame
public import proofs.«01_k».proof.Proof.Gen.CmpIdeal
public import proofs.«01_k».proof.Proof.Gen.CmpIdeal.Frame
public import proofs.«01_k».proof.Proof.Gen.CmpRefIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.Zh
public import proofs.«01_k».proof.Proof.Gen.Zh.Frame
public import proofs.«01_k».proof.Proof.Gen.ZhIdeal
public import proofs.«01_k».proof.Proof.Gen.ZhIdeal.Frame
public import proofs.«01_k».proof.Proof.Gen.ZhRefIdeal
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.Gab
public import proofs.«01_k».proof.Proof.Gen.Gab.Frame
public import proofs.«01_k».proof.Proof.Gen.GabIdeal
public import proofs.«01_k».proof.Proof.Gen.GabIdeal.Frame
public import proofs.«01_k».proof.Proof.Gen.GabRefIdeal
public import proofs.«01_k».proof.Proof.Gen.Q
public import proofs.«01_k».proof.Proof.Gen.Q.Frame
public import proofs.«01_k».proof.Proof.Gen.QIdeal
public import proofs.«01_k».proof.Proof.Gen.QIdeal.Frame
public import proofs.«01_k».proof.Proof.Gen.QRefIdeal
public import proofs.«01_k».proof.Proof.Gen.Kc
public import proofs.«01_k».proof.Proof.Gen.Kc.Frame
public import proofs.«01_k».proof.Proof.Gen.KcIdeal
public import proofs.«01_k».proof.Proof.Gen.KcIdeal.Frame
public import proofs.«01_k».proof.Proof.Gen.KcRefIdeal
public import proofs.«01_k».proof.Proof.Gen.Vc
public import proofs.«01_k».proof.Proof.Gen.Vc.Frame
public import proofs.«01_k».proof.Proof.Gen.VcIdeal
public import proofs.«01_k».proof.Proof.Gen.VcIdeal.Frame
public import proofs.«01_k».proof.Proof.Gen.VcRefIdeal
public import proofs.«01_k».proof.Proof.Gen.Ks
public import proofs.«01_k».proof.Proof.Gen.Ks.Frame
public import proofs.«01_k».proof.Proof.Gen.KsIdeal
public import proofs.«01_k».proof.Proof.Gen.KsIdeal.Frame
public import proofs.«01_k».proof.Proof.Gen.KsRefIdeal
public import proofs.«01_k».proof.Proof.Gen.Vs
public import proofs.«01_k».proof.Proof.Gen.Vs.Frame
public import proofs.«01_k».proof.Proof.Gen.VsIdeal
public import proofs.«01_k».proof.Proof.Gen.VsIdeal.Frame
public import proofs.«01_k».proof.Proof.Gen.VsRefIdeal
public import proofs.«01_k».proof.Proof.Gen.Kw
public import proofs.«01_k».proof.Proof.Gen.Kw.Frame
public import proofs.«01_k».proof.Proof.Gen.KwIdeal
public import proofs.«01_k».proof.Proof.Gen.KwIdeal.Frame
public import proofs.«01_k».proof.Proof.Gen.KwRefIdeal
public import proofs.«01_k».proof.Proof.Gen.Vw
public import proofs.«01_k».proof.Proof.Gen.Vw.Frame
public import proofs.«01_k».proof.Proof.Gen.VwIdeal
public import proofs.«01_k».proof.Proof.Gen.VwIdeal.Frame
public import proofs.«01_k».proof.Proof.Gen.VwRefIdeal
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModRefIdeal
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaRefIdeal
public import proofs.«01_k».proof.Proof.Gen.DownS
public import proofs.«01_k».proof.Proof.Gen.DownS.Frame
public import proofs.«01_k».proof.Proof.Gen.DownSIdeal
public import proofs.«01_k».proof.Proof.Gen.DownSIdeal.Frame
public import proofs.«01_k».proof.Proof.Gen.DownSRefIdeal
public import proofs.«01_k».proof.Proof.Gen.KcS
public import proofs.«01_k».proof.Proof.Gen.KcS.Frame
public import proofs.«01_k».proof.Proof.Gen.KcSIdeal
public import proofs.«01_k».proof.Proof.Gen.KcSIdeal.Frame
public import proofs.«01_k».proof.Proof.Gen.KcSRefIdeal
public import proofs.«01_k».proof.Proof.Gen.VcS
public import proofs.«01_k».proof.Proof.Gen.VcS.Frame
public import proofs.«01_k».proof.Proof.Gen.VcSIdeal
public import proofs.«01_k».proof.Proof.Gen.VcSIdeal.Frame
public import proofs.«01_k».proof.Proof.Gen.VcSRefIdeal
public import proofs.«01_k».proof.Proof.Gen.VsS
public import proofs.«01_k».proof.Proof.Gen.VsS.Frame
public import proofs.«01_k».proof.Proof.Gen.VsSIdeal
public import proofs.«01_k».proof.Proof.Gen.VsSIdeal.Frame
public import proofs.«01_k».proof.Proof.Gen.VsSRefIdeal
public import proofs.«01_k».proof.Proof.Gen.KsS
public import proofs.«01_k».proof.Proof.Gen.KsS.Frame
public import proofs.«01_k».proof.Proof.Gen.KsSIdeal
public import proofs.«01_k».proof.Proof.Gen.KsSIdeal.Frame
public import proofs.«01_k».proof.Proof.Gen.KsSRefIdeal
public import proofs.«01_k».proof.Proof.Gen.CompV
public import proofs.«01_k».proof.Proof.Gen.CompV.Frame
public import proofs.«01_k».proof.Proof.Gen.CompVIdeal
public import proofs.«01_k».proof.Proof.Gen.CompVIdeal.Frame
public import proofs.«01_k».proof.Proof.Gen.CompVRefIdeal
public import proofs.«01_k».proof.Proof.Gen.CompK
public import proofs.«01_k».proof.Proof.Gen.CompK.Frame
public import proofs.«01_k».proof.Proof.Gen.CompKIdeal
public import proofs.«01_k».proof.Proof.Gen.CompKIdeal.Frame
public import proofs.«01_k».proof.Proof.Gen.CompKRefIdeal
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailRefIdeal
public import proofs.«01_k».proof.Proof.Gen.HgS
public import proofs.«01_k».proof.Proof.Gen.HgS.Frame
public import proofs.«01_k».proof.Proof.Gen.HgSIdeal
public import proofs.«01_k».proof.Proof.Gen.HgSIdeal.Frame
public import proofs.«01_k».proof.Proof.Gen.HgSRefIdeal
public import proofs.«01_k».proof.Proof.Gen.Pre_finite_bias
public import proofs.«01_k».proof.Proof.Gen.CmpIdeal.Value
public import proofs.«01_k».proof.Proof.Gen.CmpRefIdeal.Read
public import proofs.«01_k».proof.Proof.Gen.FfnIdeal.Value
public import proofs.«01_k».proof.Proof.Gen.FfnRefIdeal.Read
public import proofs.«01_k».proof.Proof.Gen.ZhIdeal.Value
public import proofs.«01_k».proof.Proof.Gen.ZhRefIdeal.Read
public import proofs.«01_k».proof.Proof.Gen.DownIdeal.Value
public import proofs.«01_k».proof.Proof.Gen.DownRefIdeal.Read
public import proofs.«01_k».proof.Proof.Gen.MergeIdeal.Value
public import proofs.«01_k».proof.Proof.Gen.MergeRefIdeal.Read
public import proofs.«01_k».proof.Proof.Gen.OutIdeal.Value
public import proofs.«01_k».proof.Proof.Gen.OutRefIdeal.Read
public import proofs.«01_k».proof.Proof.Gen.GabIdeal.Value
public import proofs.«01_k».proof.Proof.Gen.GabRefIdeal.Read
public import proofs.«01_k».proof.Proof.Gen.QIdeal.Value
public import proofs.«01_k».proof.Proof.Gen.QRefIdeal.Read
public import proofs.«01_k».proof.Proof.Gen.KcIdeal.Value
public import proofs.«01_k».proof.Proof.Gen.KcRefIdeal.Read
public import proofs.«01_k».proof.Proof.Gen.VcIdeal.Value
public import proofs.«01_k».proof.Proof.Gen.VcRefIdeal.Read
public import proofs.«01_k».proof.Proof.Gen.KsIdeal.Value
public import proofs.«01_k».proof.Proof.Gen.KsRefIdeal.Read
public import proofs.«01_k».proof.Proof.Gen.VsIdeal.Value
public import proofs.«01_k».proof.Proof.Gen.VsRefIdeal.Read
public import proofs.«01_k».proof.Proof.Gen.KwIdeal.Value
public import proofs.«01_k».proof.Proof.Gen.KwRefIdeal.Read
public import proofs.«01_k».proof.Proof.Gen.VwIdeal.Value
public import proofs.«01_k».proof.Proof.Gen.VwRefIdeal.Read
public import proofs.«01_k».proof.Proof.Gen.ModIdeal.Value
public import proofs.«01_k».proof.Proof.Gen.ModRefIdeal.Read
public import proofs.«01_k».proof.Proof.Gen.AdaIdeal.Value
public import proofs.«01_k».proof.Proof.Gen.AdaRefIdeal.Read
public import proofs.«01_k».proof.Proof.Gen.DownSIdeal.Value
public import proofs.«01_k».proof.Proof.Gen.DownSRefIdeal.Read
public import proofs.«01_k».proof.Proof.Gen.KcSIdeal.Value
public import proofs.«01_k».proof.Proof.Gen.KcSRefIdeal.Read
public import proofs.«01_k».proof.Proof.Gen.VcSIdeal.Value
public import proofs.«01_k».proof.Proof.Gen.VcSRefIdeal.Read
public import proofs.«01_k».proof.Proof.Gen.VsSIdeal.Value
public import proofs.«01_k».proof.Proof.Gen.VsSRefIdeal.Read
public import proofs.«01_k».proof.Proof.Gen.KsSIdeal.Value
public import proofs.«01_k».proof.Proof.Gen.KsSRefIdeal.Read
public import proofs.«01_k».proof.Proof.Gen.CompVIdeal.Value
public import proofs.«01_k».proof.Proof.Gen.CompVRefIdeal.Read
public import proofs.«01_k».proof.Proof.Gen.CompKIdeal.Value
public import proofs.«01_k».proof.Proof.Gen.CompKRefIdeal.Read
public import proofs.«01_k».proof.Proof.Gen.TailIdeal.Value
public import proofs.«01_k».proof.Proof.Gen.TailRefIdeal.Read
public import proofs.«01_k».proof.Proof.Gen.HgSIdeal.Value
public import proofs.«01_k».proof.Proof.Gen.HgSRefIdeal.Read
public import proofs.«01_k».proof.Proof.CmpValue
public import proofs.«01_k».proof.Proof.FfnValue
public import proofs.«01_k».proof.Proof.ZhValue
public import proofs.«01_k».proof.Proof.DownValue
public import proofs.«01_k».proof.Proof.MergeValue
public import proofs.«01_k».proof.Proof.OutValue
public import proofs.«01_k».proof.Proof.GabValue
public import proofs.«01_k».proof.Proof.QValue
public import proofs.«01_k».proof.Proof.KcValue
public import proofs.«01_k».proof.Proof.VcValue
public import proofs.«01_k».proof.Proof.KsValue
public import proofs.«01_k».proof.Proof.VsValue
public import proofs.«01_k».proof.Proof.KwValue
public import proofs.«01_k».proof.Proof.VwValue
public import proofs.«01_k».proof.Proof.ModValue
public import proofs.«01_k».proof.Proof.AdaValue
public import proofs.«01_k».proof.Proof.DownSValue
public import proofs.«01_k».proof.Proof.KcSValue
public import proofs.«01_k».proof.Proof.VcSValue
public import proofs.«01_k».proof.Proof.VsSValue
public import proofs.«01_k».proof.Proof.KsSValue
public import proofs.«01_k».proof.Proof.CompVValue
public import proofs.«01_k».proof.Proof.CompKValue
public import proofs.«01_k».proof.Proof.TailValue
public import proofs.«01_k».proof.Proof.HgSValue
public import Idealize.ShloMosaic.Lib.Claim
public import Idealize.ShloMosaic.Adequacy
public import Idealize.ShloMosaic.Init

@[expose] public section

noncomputable section

namespace Cert.Proof

open Idealize.ShloMosaic Idealize.SL.Sem

/-- The reference leaves its arguments as they were: its generated run says so, and it declares no semaphore. -/
theorem frame_CmpRefIdeal : Cert.quiescent_CmpRefIdeal := fun m ρ _ =>
  (θ_run Cert.CmpRefIdeal.defs _ _).mono
    (fun r h => ⟨fun c => by first | exact (h c).2 | exact (h c).2.2 | exact (h c).2.2.2, sem_eq_zero_of_no_sems (by decide) r.2⟩)
    (Cert.CmpRefIdeal.Value.run m ρ)

theorem frame_CmpRefIdeal_pre : Cert.quiescent_CmpRefIdeal_pre_finite_bias := fun m ρ _ => frame_CmpRefIdeal m ρ trivial

/-- The reference leaves its arguments as they were: its generated run says so, and it declares no semaphore. -/
theorem frame_FfnRefIdeal : Cert.quiescent_FfnRefIdeal := fun m ρ _ =>
  (θ_run Cert.FfnRefIdeal.defs _ _).mono
    (fun r h => ⟨fun c => by first | exact (h c).2 | exact (h c).2.2 | exact (h c).2.2.2, sem_eq_zero_of_no_sems (by decide) r.2⟩)
    (Cert.FfnRefIdeal.Value.run m ρ)

/-- The reference leaves its arguments as they were: its generated run says so, and it declares no semaphore. -/
theorem frame_ZhRefIdeal : Cert.quiescent_ZhRefIdeal := fun m ρ _ =>
  (θ_run Cert.ZhRefIdeal.defs _ _).mono
    (fun r h => ⟨fun c => by first | exact (h c).2 | exact (h c).2.2 | exact (h c).2.2.2, sem_eq_zero_of_no_sems (by decide) r.2⟩)
    (Cert.ZhRefIdeal.Value.run m ρ)

/-- The reference leaves its arguments as they were: its generated run says so, and it declares no semaphore. -/
theorem frame_DownRefIdeal : Cert.quiescent_DownRefIdeal := fun m ρ _ =>
  (θ_run Cert.DownRefIdeal.defs _ _).mono
    (fun r h => ⟨fun c => by first | exact (h c).2 | exact (h c).2.2 | exact (h c).2.2.2, sem_eq_zero_of_no_sems (by decide) r.2⟩)
    (Cert.DownRefIdeal.Value.run m ρ)

/-- The reference leaves its arguments as they were: its generated run says so, and it declares no semaphore. -/
theorem frame_MergeRefIdeal : Cert.quiescent_MergeRefIdeal := fun m ρ _ =>
  (θ_run Cert.MergeRefIdeal.defs _ _).mono
    (fun r h => ⟨fun c => by first | exact (h c).2 | exact (h c).2.2 | exact (h c).2.2.2, sem_eq_zero_of_no_sems (by decide) r.2⟩)
    (Cert.MergeRefIdeal.Value.run m ρ)

/-- The reference leaves its arguments as they were: its generated run says so, and it declares no semaphore. -/
theorem frame_OutRefIdeal : Cert.quiescent_OutRefIdeal := fun m ρ _ =>
  (θ_run Cert.OutRefIdeal.defs _ _).mono
    (fun r h => ⟨fun c => by first | exact (h c).2 | exact (h c).2.2 | exact (h c).2.2.2, sem_eq_zero_of_no_sems (by decide) r.2⟩)
    (Cert.OutRefIdeal.Value.run m ρ)

/-- The reference leaves its arguments as they were: its generated run says so, and it declares no semaphore. -/
theorem frame_GabRefIdeal : Cert.quiescent_GabRefIdeal := fun m ρ _ =>
  (θ_run Cert.GabRefIdeal.defs _ _).mono
    (fun r h => ⟨fun c => by first | exact (h c).2 | exact (h c).2.2 | exact (h c).2.2.2, sem_eq_zero_of_no_sems (by decide) r.2⟩)
    (Cert.GabRefIdeal.Value.run m ρ)

/-- The reference leaves its arguments as they were: its generated run says so, and it declares no semaphore. -/
theorem frame_QRefIdeal : Cert.quiescent_QRefIdeal := fun m ρ _ =>
  (θ_run Cert.QRefIdeal.defs _ _).mono
    (fun r h => ⟨fun c => by first | exact (h c).2 | exact (h c).2.2 | exact (h c).2.2.2, sem_eq_zero_of_no_sems (by decide) r.2⟩)
    (Cert.QRefIdeal.Value.run m ρ)

/-- The reference leaves its arguments as they were: its generated run says so, and it declares no semaphore. -/
theorem frame_KcRefIdeal : Cert.quiescent_KcRefIdeal := fun m ρ _ =>
  (θ_run Cert.KcRefIdeal.defs _ _).mono
    (fun r h => ⟨fun c => by first | exact (h c).2 | exact (h c).2.2 | exact (h c).2.2.2, sem_eq_zero_of_no_sems (by decide) r.2⟩)
    (Cert.KcRefIdeal.Value.run m ρ)

/-- The reference leaves its arguments as they were: its generated run says so, and it declares no semaphore. -/
theorem frame_VcRefIdeal : Cert.quiescent_VcRefIdeal := fun m ρ _ =>
  (θ_run Cert.VcRefIdeal.defs _ _).mono
    (fun r h => ⟨fun c => by first | exact (h c).2 | exact (h c).2.2 | exact (h c).2.2.2, sem_eq_zero_of_no_sems (by decide) r.2⟩)
    (Cert.VcRefIdeal.Value.run m ρ)

/-- The reference leaves its arguments as they were: its generated run says so, and it declares no semaphore. -/
theorem frame_KsRefIdeal : Cert.quiescent_KsRefIdeal := fun m ρ _ =>
  (θ_run Cert.KsRefIdeal.defs _ _).mono
    (fun r h => ⟨fun c => by first | exact (h c).2 | exact (h c).2.2 | exact (h c).2.2.2, sem_eq_zero_of_no_sems (by decide) r.2⟩)
    (Cert.KsRefIdeal.Value.run m ρ)

/-- The reference leaves its arguments as they were: its generated run says so, and it declares no semaphore. -/
theorem frame_VsRefIdeal : Cert.quiescent_VsRefIdeal := fun m ρ _ =>
  (θ_run Cert.VsRefIdeal.defs _ _).mono
    (fun r h => ⟨fun c => by first | exact (h c).2 | exact (h c).2.2 | exact (h c).2.2.2, sem_eq_zero_of_no_sems (by decide) r.2⟩)
    (Cert.VsRefIdeal.Value.run m ρ)

/-- The reference leaves its arguments as they were: its generated run says so, and it declares no semaphore. -/
theorem frame_KwRefIdeal : Cert.quiescent_KwRefIdeal := fun m ρ _ =>
  (θ_run Cert.KwRefIdeal.defs _ _).mono
    (fun r h => ⟨fun c => by first | exact (h c).2 | exact (h c).2.2 | exact (h c).2.2.2, sem_eq_zero_of_no_sems (by decide) r.2⟩)
    (Cert.KwRefIdeal.Value.run m ρ)

/-- The reference leaves its arguments as they were: its generated run says so, and it declares no semaphore. -/
theorem frame_VwRefIdeal : Cert.quiescent_VwRefIdeal := fun m ρ _ =>
  (θ_run Cert.VwRefIdeal.defs _ _).mono
    (fun r h => ⟨fun c => by first | exact (h c).2 | exact (h c).2.2 | exact (h c).2.2.2, sem_eq_zero_of_no_sems (by decide) r.2⟩)
    (Cert.VwRefIdeal.Value.run m ρ)

/-- The reference leaves its arguments as they were: its generated run says so, and it declares no semaphore. -/
theorem frame_ModRefIdeal : Cert.quiescent_ModRefIdeal := fun m ρ _ =>
  (θ_run Cert.ModRefIdeal.defs _ _).mono
    (fun r h => ⟨fun c => by first | exact (h c).2 | exact (h c).2.2 | exact (h c).2.2.2, sem_eq_zero_of_no_sems (by decide) r.2⟩)
    (Cert.ModRefIdeal.Value.run m ρ)

/-- The reference leaves its arguments as they were: its generated run says so, and it declares no semaphore. -/
theorem frame_AdaRefIdeal : Cert.quiescent_AdaRefIdeal := fun m ρ _ =>
  (θ_run Cert.AdaRefIdeal.defs _ _).mono
    (fun r h => ⟨fun c => by first | exact (h c).2 | exact (h c).2.2 | exact (h c).2.2.2, sem_eq_zero_of_no_sems (by decide) r.2⟩)
    (Cert.AdaRefIdeal.Value.run m ρ)

/-- The reference leaves its arguments as they were: its generated run says so, and it declares no semaphore. -/
theorem frame_DownSRefIdeal : Cert.quiescent_DownSRefIdeal := fun m ρ _ =>
  (θ_run Cert.DownSRefIdeal.defs _ _).mono
    (fun r h => ⟨fun c => by first | exact (h c).2 | exact (h c).2.2 | exact (h c).2.2.2, sem_eq_zero_of_no_sems (by decide) r.2⟩)
    (Cert.DownSRefIdeal.Value.run m ρ)

/-- The reference leaves its arguments as they were: its generated run says so, and it declares no semaphore. -/
theorem frame_KcSRefIdeal : Cert.quiescent_KcSRefIdeal := fun m ρ _ =>
  (θ_run Cert.KcSRefIdeal.defs _ _).mono
    (fun r h => ⟨fun c => by first | exact (h c).2 | exact (h c).2.2 | exact (h c).2.2.2, sem_eq_zero_of_no_sems (by decide) r.2⟩)
    (Cert.KcSRefIdeal.Value.run m ρ)

/-- The reference leaves its arguments as they were: its generated run says so, and it declares no semaphore. -/
theorem frame_VcSRefIdeal : Cert.quiescent_VcSRefIdeal := fun m ρ _ =>
  (θ_run Cert.VcSRefIdeal.defs _ _).mono
    (fun r h => ⟨fun c => by first | exact (h c).2 | exact (h c).2.2 | exact (h c).2.2.2, sem_eq_zero_of_no_sems (by decide) r.2⟩)
    (Cert.VcSRefIdeal.Value.run m ρ)

/-- The reference leaves its arguments as they were: its generated run says so, and it declares no semaphore. -/
theorem frame_VsSRefIdeal : Cert.quiescent_VsSRefIdeal := fun m ρ _ =>
  (θ_run Cert.VsSRefIdeal.defs _ _).mono
    (fun r h => ⟨fun c => by first | exact (h c).2 | exact (h c).2.2 | exact (h c).2.2.2, sem_eq_zero_of_no_sems (by decide) r.2⟩)
    (Cert.VsSRefIdeal.Value.run m ρ)

/-- The reference leaves its arguments as they were: its generated run says so, and it declares no semaphore. -/
theorem frame_KsSRefIdeal : Cert.quiescent_KsSRefIdeal := fun m ρ _ =>
  (θ_run Cert.KsSRefIdeal.defs _ _).mono
    (fun r h => ⟨fun c => by first | exact (h c).2 | exact (h c).2.2 | exact (h c).2.2.2, sem_eq_zero_of_no_sems (by decide) r.2⟩)
    (Cert.KsSRefIdeal.Value.run m ρ)

/-- The reference leaves its arguments as they were: its generated run says so, and it declares no semaphore. -/
theorem frame_CompVRefIdeal : Cert.quiescent_CompVRefIdeal := fun m ρ _ =>
  (θ_run Cert.CompVRefIdeal.defs _ _).mono
    (fun r h => ⟨fun c => by first | exact (h c).2 | exact (h c).2.2 | exact (h c).2.2.2, sem_eq_zero_of_no_sems (by decide) r.2⟩)
    (Cert.CompVRefIdeal.Value.run m ρ)

/-- The reference leaves its arguments as they were: its generated run says so, and it declares no semaphore. -/
theorem frame_CompKRefIdeal : Cert.quiescent_CompKRefIdeal := fun m ρ _ =>
  (θ_run Cert.CompKRefIdeal.defs _ _).mono
    (fun r h => ⟨fun c => by first | exact (h c).2 | exact (h c).2.2 | exact (h c).2.2.2, sem_eq_zero_of_no_sems (by decide) r.2⟩)
    (Cert.CompKRefIdeal.Value.run m ρ)

/-- The reference leaves its arguments as they were: its generated run says so, and it declares no semaphore. -/
theorem frame_TailRefIdeal : Cert.quiescent_TailRefIdeal := fun m ρ _ =>
  (θ_run Cert.TailRefIdeal.defs _ _).mono
    (fun r h => ⟨fun c => by first | exact (h c).2 | exact (h c).2.2 | exact (h c).2.2.2, sem_eq_zero_of_no_sems (by decide) r.2⟩)
    (Cert.TailRefIdeal.Value.run m ρ)

/-- The reference leaves its arguments as they were: its generated run says so, and it declares no semaphore. -/
theorem frame_HgSRefIdeal : Cert.quiescent_HgSRefIdeal := fun m ρ _ =>
  (θ_run Cert.HgSRefIdeal.defs _ _).mono
    (fun r h => ⟨fun c => by first | exact (h c).2 | exact (h c).2.2 | exact (h c).2.2.2, sem_eq_zero_of_no_sems (by decide) r.2⟩)
    (Cert.HgSRefIdeal.Value.run m ρ)

/-- The whole claim: the frames are the generated ones, the value claims the ones proved under `Proof/`. -/
theorem claim : Cert.Claim :=
  ⟨Cert.Cmp.Gen.facts, Cert.CmpIdeal.Gen.facts, Cert.CmpRefIdeal.Gen.facts, Cert.Ffn.Gen.facts, Cert.FfnIdeal.Gen.facts, Cert.FfnRefIdeal.Gen.facts, Cert.Zh.Gen.facts, Cert.ZhIdeal.Gen.facts, Cert.ZhRefIdeal.Gen.facts, Cert.Down.Gen.facts, Cert.DownIdeal.Gen.facts, Cert.DownRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Gab.Gen.facts, Cert.GabIdeal.Gen.facts, Cert.GabRefIdeal.Gen.facts, Cert.Q.Gen.facts, Cert.QIdeal.Gen.facts, Cert.QRefIdeal.Gen.facts, Cert.Kc.Gen.facts, Cert.KcIdeal.Gen.facts, Cert.KcRefIdeal.Gen.facts, Cert.Vc.Gen.facts, Cert.VcIdeal.Gen.facts, Cert.VcRefIdeal.Gen.facts, Cert.Ks.Gen.facts, Cert.KsIdeal.Gen.facts, Cert.KsRefIdeal.Gen.facts, Cert.Vs.Gen.facts, Cert.VsIdeal.Gen.facts, Cert.VsRefIdeal.Gen.facts, Cert.Kw.Gen.facts, Cert.KwIdeal.Gen.facts, Cert.KwRefIdeal.Gen.facts, Cert.Vw.Gen.facts, Cert.VwIdeal.Gen.facts, Cert.VwRefIdeal.Gen.facts, Cert.Mod.Gen.facts, Cert.ModIdeal.Gen.facts, Cert.ModRefIdeal.Gen.facts, Cert.Ada.Gen.facts, Cert.AdaIdeal.Gen.facts, Cert.AdaRefIdeal.Gen.facts, Cert.DownS.Gen.facts, Cert.DownSIdeal.Gen.facts, Cert.DownSRefIdeal.Gen.facts, Cert.KcS.Gen.facts, Cert.KcSIdeal.Gen.facts, Cert.KcSRefIdeal.Gen.facts, Cert.VcS.Gen.facts, Cert.VcSIdeal.Gen.facts, Cert.VcSRefIdeal.Gen.facts, Cert.VsS.Gen.facts, Cert.VsSIdeal.Gen.facts, Cert.VsSRefIdeal.Gen.facts, Cert.KsS.Gen.facts, Cert.KsSIdeal.Gen.facts, Cert.KsSRefIdeal.Gen.facts, Cert.CompV.Gen.facts, Cert.CompVIdeal.Gen.facts, Cert.CompVRefIdeal.Gen.facts, Cert.CompK.Gen.facts, Cert.CompKIdeal.Gen.facts, Cert.CompKRefIdeal.Gen.facts, Cert.Tail.Gen.facts, Cert.TailIdeal.Gen.facts, Cert.TailRefIdeal.Gen.facts, Cert.HgS.Gen.facts, Cert.HgSIdeal.Gen.facts, Cert.HgSRefIdeal.Gen.facts, Cert.Pre_finite_bias.Gen.facts,
   fun m ρ _ => Cert.Cmp.Gen.frame m ρ,
   fun m ρ _ => Cert.CmpIdeal.Gen.frame m ρ,
   fun m ρ _ => Cert.CmpIdeal.Gen.frame m ρ,
   frame_CmpRefIdeal,
   frame_CmpRefIdeal_pre,
   fun m ρ _ => Cert.Ffn.Gen.frame m ρ,
   fun m ρ _ => Cert.FfnIdeal.Gen.frame m ρ,
   frame_FfnRefIdeal,
   fun m ρ _ => Cert.Zh.Gen.frame m ρ,
   fun m ρ _ => Cert.ZhIdeal.Gen.frame m ρ,
   frame_ZhRefIdeal,
   fun m ρ _ => Cert.Down.Gen.frame m ρ,
   fun m ρ _ => Cert.DownIdeal.Gen.frame m ρ,
   frame_DownRefIdeal,
   fun m ρ _ => Cert.Merge.Gen.frame m ρ,
   fun m ρ _ => Cert.MergeIdeal.Gen.frame m ρ,
   frame_MergeRefIdeal,
   fun m ρ _ => Cert.Out.Gen.frame m ρ,
   fun m ρ _ => Cert.OutIdeal.Gen.frame m ρ,
   frame_OutRefIdeal,
   fun m ρ _ => Cert.Gab.Gen.frame m ρ,
   fun m ρ _ => Cert.GabIdeal.Gen.frame m ρ,
   frame_GabRefIdeal,
   fun m ρ _ => Cert.Q.Gen.frame m ρ,
   fun m ρ _ => Cert.QIdeal.Gen.frame m ρ,
   frame_QRefIdeal,
   fun m ρ _ => Cert.Kc.Gen.frame m ρ,
   fun m ρ _ => Cert.KcIdeal.Gen.frame m ρ,
   frame_KcRefIdeal,
   fun m ρ _ => Cert.Vc.Gen.frame m ρ,
   fun m ρ _ => Cert.VcIdeal.Gen.frame m ρ,
   frame_VcRefIdeal,
   fun m ρ _ => Cert.Ks.Gen.frame m ρ,
   fun m ρ _ => Cert.KsIdeal.Gen.frame m ρ,
   frame_KsRefIdeal,
   fun m ρ _ => Cert.Vs.Gen.frame m ρ,
   fun m ρ _ => Cert.VsIdeal.Gen.frame m ρ,
   frame_VsRefIdeal,
   fun m ρ _ => Cert.Kw.Gen.frame m ρ,
   fun m ρ _ => Cert.KwIdeal.Gen.frame m ρ,
   frame_KwRefIdeal,
   fun m ρ _ => Cert.Vw.Gen.frame m ρ,
   fun m ρ _ => Cert.VwIdeal.Gen.frame m ρ,
   frame_VwRefIdeal,
   fun m ρ _ => Cert.Mod.Gen.frame m ρ,
   fun m ρ _ => Cert.ModIdeal.Gen.frame m ρ,
   frame_ModRefIdeal,
   fun m ρ _ => Cert.Ada.Gen.frame m ρ,
   fun m ρ _ => Cert.AdaIdeal.Gen.frame m ρ,
   frame_AdaRefIdeal,
   fun m ρ _ => Cert.DownS.Gen.frame m ρ,
   fun m ρ _ => Cert.DownSIdeal.Gen.frame m ρ,
   frame_DownSRefIdeal,
   fun m ρ _ => Cert.KcS.Gen.frame m ρ,
   fun m ρ _ => Cert.KcSIdeal.Gen.frame m ρ,
   frame_KcSRefIdeal,
   fun m ρ _ => Cert.VcS.Gen.frame m ρ,
   fun m ρ _ => Cert.VcSIdeal.Gen.frame m ρ,
   frame_VcSRefIdeal,
   fun m ρ _ => Cert.VsS.Gen.frame m ρ,
   fun m ρ _ => Cert.VsSIdeal.Gen.frame m ρ,
   frame_VsSRefIdeal,
   fun m ρ _ => Cert.KsS.Gen.frame m ρ,
   fun m ρ _ => Cert.KsSIdeal.Gen.frame m ρ,
   frame_KsSRefIdeal,
   fun m ρ _ => Cert.CompV.Gen.frame m ρ,
   fun m ρ _ => Cert.CompVIdeal.Gen.frame m ρ,
   frame_CompVRefIdeal,
   fun m ρ _ => Cert.CompK.Gen.frame m ρ,
   fun m ρ _ => Cert.CompKIdeal.Gen.frame m ρ,
   frame_CompKRefIdeal,
   fun m ρ _ => Cert.Tail.Gen.frame m ρ,
   fun m ρ _ => Cert.TailIdeal.Gen.frame m ρ,
   frame_TailRefIdeal,
   fun m ρ _ => Cert.HgS.Gen.frame m ρ,
   fun m ρ _ => Cert.HgSIdeal.Gen.frame m ρ,
   frame_HgSRefIdeal,
   IdealRules.named_const.statement Cert.CmpIdeal.κ "mask" .f32 0xF149F2CA#32 ⊥ rfl,
   Cert.CmpIdeal.Own.algebraic,
   trivial,
   Cert.FfnIdeal.Own.algebraic,
   trivial,
   Cert.ZhIdeal.Own.algebraic,
   trivial,
   Cert.DownIdeal.Own.algebraic,
   trivial,
   Cert.MergeIdeal.Own.algebraic,
   trivial,
   Cert.OutIdeal.Own.algebraic,
   trivial,
   Cert.GabIdeal.Own.algebraic,
   trivial,
   Cert.QIdeal.Own.algebraic,
   trivial,
   Cert.KcIdeal.Own.algebraic,
   trivial,
   Cert.VcIdeal.Own.algebraic,
   trivial,
   Cert.KsIdeal.Own.algebraic,
   trivial,
   Cert.VsIdeal.Own.algebraic,
   trivial,
   Cert.KwIdeal.Own.algebraic,
   trivial,
   Cert.VwIdeal.Own.algebraic,
   trivial,
   Cert.ModIdeal.Own.algebraic,
   trivial,
   Cert.AdaIdeal.Own.algebraic,
   trivial,
   Cert.DownSIdeal.Own.algebraic,
   trivial,
   Cert.KcSIdeal.Own.algebraic,
   trivial,
   Cert.VcSIdeal.Own.algebraic,
   trivial,
   Cert.VsSIdeal.Own.algebraic,
   trivial,
   Cert.KsSIdeal.Own.algebraic,
   trivial,
   Cert.CompVIdeal.Own.algebraic,
   trivial,
   Cert.CompKIdeal.Own.algebraic,
   trivial,
   Cert.TailIdeal.Own.algebraic,
   trivial,
   Cert.HgSIdeal.Own.algebraic⟩

end Cert.Proof

end
